-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x64x32x56x56 : Shape := ⟨5, ![8, 64, 32, 56, 56]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S8x64x32x56x56 .f32) (main_arg1 : IVec S32 32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 32#32
  let main_v2 : IVec S32 32 := broadcastInDim S32 ![] bcast_S_S32 main_c_0
  let main_v3 : IVec S32 1 := cmpi .slt main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  main_v5
-- ==== Kernel.lean ====
abbrev S8x64x32x56x56 : Shape := ⟨5, ![8, 64, 32, 56, 56]⟩
abbrev S32 : Shape := ⟨1, ![32]⟩
abbrev S8x32x56x56x64 : Shape := ⟨5, ![8, 32, 56, 56, 64]⟩
abbrev S14336x56x64 : Shape := ⟨3, ![14336, 56, 64]⟩
abbrev S48 : Shape := ⟨1, ![48]⟩
abbrev S8x56x64 : Shape := ⟨3, ![8, 56, 64]⟩
abbrev S_ : Shape := ⟨0, ![]⟩
abbrev S16 : Shape := ⟨1, ![16]⟩
abbrev S1 : Shape := ⟨1, ![1]⟩

abbrev nBuf : Table → Nat
  | .hbm => 7
  | .local .scVector .vmem => 3
  | _ => 0

abbrev bufTy : (tb : Table) → Fin (nBuf tb) → BufTy
  | .hbm, ⟨0, _⟩ => ⟨S8x64x32x56x56, .f32⟩
  | .hbm, ⟨1, _⟩ => ⟨S32, .i32⟩
  | .hbm, ⟨2, _⟩ => ⟨S8x32x56x56x64, .f32⟩
  | .hbm, ⟨3, _⟩ => ⟨S14336x56x64, .f32⟩
  | .hbm, ⟨4, _⟩ => ⟨S14336x56x64, .f32⟩
  | .hbm, ⟨5, _⟩ => ⟨S8x32x56x56x64, .f32⟩
  | .hbm, ⟨6, _⟩ => ⟨S8x64x32x56x56, .f32⟩
  | .local .scVector .vmem, ⟨0, _⟩ => ⟨S48, .i32⟩
  | .local .scVector .vmem, ⟨1, _⟩ => ⟨S8x56x64, .f32⟩
  | .local .scVector .vmem, ⟨2, _⟩ => ⟨S8x56x64, .f32⟩
  | _, _ => ⟨S8x64x32x56x56, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v3 : BitVec 32 := Scalar.addi v2 c0_i32
  let c31_i32 : BitVec 32 := 31#32
  let v5 : BitVec 32 := Scalar.andi v3 c31_i32
  let v6 : Index := Scalar.indexCast v5
  ![v6.toNat]
def k0_off2 (i : grid0.Coords) (v10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v3 : BitVec 32 := Scalar.addi v2 c0_i32
  let c5_i32 : BitVec 32 := 5#32
  let v4 : BitVec 32 := Scalar.shrui v3 c5_i32
  let c32_i32 : BitVec 32 := 32#32
  let v11 : BitVec 32 := Scalar.muli v4 c32_i32
  let v12 : BitVec 32 := Scalar.addi v11 v10
  let c56_i32 : BitVec 32 := 56#32
  let v13 : BitVec 32 := Scalar.muli v12 c56_i32
  let c0_i32_0 : BitVec 32 := 0#32
  let v14 : BitVec 32 := Scalar.addi v13 c0_i32_0
  let c0_i32_1 : BitVec 32 := 0#32
  let c0_i32_2 : BitVec 32 := 0#32
  ![v14.toNat, 0, 0]

def k0_chk1 (i : grid0.Coords) (v10 : BitVec 32) : Prop :=
  (∀ a, (k0_off2 i v10) a + S8x56x64.size a ≤ S14336x56x64.size a)
theorem k0_off2_inb : ∀ (i : grid0.Coords) (v10 : BitVec 32) (k0_hw1 : k0_chk1 i v10), ∀ a, (k0_off2 i v10) a + S8x56x64.size a ≤ S14336x56x64.size a := fun i v10 k0_hw1 => k0_hw1

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_5 : BitVec 32 := 8#32
  let v17 : BitVec 32 := Scalar.muli v1 c8_i32_5
  let c0_i32_6 : BitVec 32 := 0#32
  let v18 : BitVec 32 := Scalar.addi v17 c0_i32_6
  let c31_i32_8 : BitVec 32 := 31#32
  let v20 : BitVec 32 := Scalar.andi v18 c31_i32_8
  let v21 : Index := Scalar.indexCast v20
  ![v21.toNat]
def k0_off4 (i : grid0.Coords) (v25 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_5 : BitVec 32 := 8#32
  let v17 : BitVec 32 := Scalar.muli v1 c8_i32_5
  let c0_i32_6 : BitVec 32 := 0#32
  let v18 : BitVec 32 := Scalar.addi v17 c0_i32_6
  let c5_i32_7 : BitVec 32 := 5#32
  let v19 : BitVec 32 := Scalar.shrui v18 c5_i32_7
  let c32_i32_9 : BitVec 32 := 32#32
  let v26 : BitVec 32 := Scalar.muli v19 c32_i32_9
  let v27 : BitVec 32 := Scalar.addi v26 v25
  let c56_i32_10 : BitVec 32 := 56#32
  let v28 : BitVec 32 := Scalar.muli v27 c56_i32_10
  let c8_i32_11 : BitVec 32 := 8#32
  let v29 : BitVec 32 := Scalar.addi v28 c8_i32_11
  let c0_i32_12 : BitVec 32 := 0#32
  let c0_i32_13 : BitVec 32 := 0#32
  ![v29.toNat, 0, 0]

def k0_chk2 (i : grid0.Coords) (v25 : BitVec 32) : Prop :=
  (∀ a, (k0_off4 i v25) a + S8x56x64.size a ≤ S14336x56x64.size a)
theorem k0_off4_inb : ∀ (i : grid0.Coords) (v25 : BitVec 32) (k0_hw2 : k0_chk2 i v25), ∀ a, (k0_off4 i v25) a + S8x56x64.size a ≤ S14336x56x64.size a := fun i v25 k0_hw2 => k0_hw2

def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v32 : BitVec 32 := Scalar.muli v1 c8_i32_16
  let c0_i32_17 : BitVec 32 := 0#32
  let v33 : BitVec 32 := Scalar.addi v32 c0_i32_17
  let c31_i32_19 : BitVec 32 := 31#32
  let v35 : BitVec 32 := Scalar.andi v33 c31_i32_19
  let v36 : Index := Scalar.indexCast v35
  ![v36.toNat]
def k0_off6 (i : grid0.Coords) (v40 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v32 : BitVec 32 := Scalar.muli v1 c8_i32_16
  let c0_i32_17 : BitVec 32 := 0#32
  let v33 : BitVec 32 := Scalar.addi v32 c0_i32_17
  let c5_i32_18 : BitVec 32 := 5#32
  let v34 : BitVec 32 := Scalar.shrui v33 c5_i32_18
  let c32_i32_20 : BitVec 32 := 32#32
  let v41 : BitVec 32 := Scalar.muli v34 c32_i32_20
  let v42 : BitVec 32 := Scalar.addi v41 v40
  let c56_i32_21 : BitVec 32 := 56#32
  let v43 : BitVec 32 := Scalar.muli v42 c56_i32_21
  let c0_i32_22 : BitVec 32 := 0#32
  let v44 : BitVec 32 := Scalar.addi v43 c0_i32_22
  let c0_i32_23 : BitVec 32 := 0#32
  let c0_i32_24 : BitVec 32 := 0#32
  ![v44.toNat, 0, 0]

def k0_chk3 (i : grid0.Coords) (v40 : BitVec 32) : Prop :=
  (∀ a, (k0_off6 i v40) a + S8x56x64.size a ≤ S14336x56x64.size a)
theorem k0_off6_inb : ∀ (i : grid0.Coords) (v40 : BitVec 32) (k0_hw3 : k0_chk3 i v40), ∀ a, (k0_off6 i v40) a + S8x56x64.size a ≤ S14336x56x64.size a := fun i v40 k0_hw3 => k0_hw3

def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_27 : BitVec 32 := 8#32
  let v47 : BitVec 32 := Scalar.muli v1 c8_i32_27
  let c0_i32_28 : BitVec 32 := 0#32
  let v48 : BitVec 32 := Scalar.addi v47 c0_i32_28
  let c56_i32_29 : BitVec 32 := 56#32
  let v49 : BitVec 32 := Scalar.muli v48 c56_i32_29
  let c0_i32_30 : BitVec 32 := 0#32
  let v50 : BitVec 32 := Scalar.addi v49 c0_i32_30
  let c0_i32_31 : BitVec 32 := 0#32
  let c0_i32_32 : BitVec 32 := 0#32
  ![v50.toNat, 0, 0]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_35 : BitVec 32 := 8#32
  let v53 : BitVec 32 := Scalar.muli v1 c8_i32_35
  let c0_i32_36 : BitVec 32 := 0#32
  let v54 : BitVec 32 := Scalar.addi v53 c0_i32_36
  let c31_i32_38 : BitVec 32 := 31#32
  let v56 : BitVec 32 := Scalar.andi v54 c31_i32_38
  let v57 : Index := Scalar.indexCast v56
  ![v57.toNat]
def k0_off9 (i : grid0.Coords) (v61 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_35 : BitVec 32 := 8#32
  let v53 : BitVec 32 := Scalar.muli v1 c8_i32_35
  let c0_i32_36 : BitVec 32 := 0#32
  let v54 : BitVec 32 := Scalar.addi v53 c0_i32_36
  let c5_i32_37 : BitVec 32 := 5#32
  let v55 : BitVec 32 := Scalar.shrui v54 c5_i32_37
  let c32_i32_39 : BitVec 32 := 32#32
  let v62 : BitVec 32 := Scalar.muli v55 c32_i32_39
  let v63 : BitVec 32 := Scalar.addi v62 v61
  let c56_i32_40 : BitVec 32 := 56#32
  let v64 : BitVec 32 := Scalar.muli v63 c56_i32_40
  let c8_i32_41 : BitVec 32 := 8#32
  let v65 : BitVec 32 := Scalar.addi v64 c8_i32_41
  let c0_i32_42 : BitVec 32 := 0#32
  let c0_i32_43 : BitVec 32 := 0#32
  ![v65.toNat, 0, 0]

def k0_chk4 (i : grid0.Coords) (v61 : BitVec 32) : Prop :=
  (∀ a, (k0_off9 i v61) a + S8x56x64.size a ≤ S14336x56x64.size a)
theorem k0_off9_inb : ∀ (i : grid0.Coords) (v61 : BitVec 32) (k0_hw4 : k0_chk4 i v61), ∀ a, (k0_off9 i v61) a + S8x56x64.size a ≤ S14336x56x64.size a := fun i v61 k0_hw4 => k0_hw4

def k0_off10 (i : grid0.Coords) (c8_i32_49 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_46 : BitVec 32 := 8#32
  let v68 : BitVec 32 := Scalar.muli v1 c8_i32_46
  let c0_i32_47 : BitVec 32 := 0#32
  let v69 : BitVec 32 := Scalar.addi v68 c0_i32_47
  let c56_i32_48 : BitVec 32 := 56#32
  let v70 : BitVec 32 := Scalar.muli v69 c56_i32_48
  let v71 : BitVec 32 := Scalar.addi v70 c8_i32_49
  let c0_i32_50 : BitVec 32 := 0#32
  let c0_i32_51 : BitVec 32 := 0#32
  ![v71.toNat, 0, 0]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_62 : BitVec 32 := 8#32
  let v80 : BitVec 32 := Scalar.muli v1 c8_i32_62
  let c0_i32_63 : BitVec 32 := 0#32
  let v81 : BitVec 32 := Scalar.addi v80 c0_i32_63
  let c31_i32_65 : BitVec 32 := 31#32
  let v83 : BitVec 32 := Scalar.andi v81 c31_i32_65
  let v84 : Index := Scalar.indexCast v83
  ![v84.toNat]
def k0_off12 (i : grid0.Coords) (v88 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_62 : BitVec 32 := 8#32
  let v80 : BitVec 32 := Scalar.muli v1 c8_i32_62
  let c0_i32_63 : BitVec 32 := 0#32
  let v81 : BitVec 32 := Scalar.addi v80 c0_i32_63
  let c5_i32_64 : BitVec 32 := 5#32
  let v82 : BitVec 32 := Scalar.shrui v81 c5_i32_64
  let c32_i32_66 : BitVec 32 := 32#32
  let v89 : BitVec 32 := Scalar.muli v82 c32_i32_66
  let v90 : BitVec 32 := Scalar.addi v89 v88
  let c56_i32_67 : BitVec 32 := 56#32
  let v91 : BitVec 32 := Scalar.muli v90 c56_i32_67
  let c16_i32 : BitVec 32 := 16#32
  let v92 : BitVec 32 := Scalar.addi v91 c16_i32
  let c0_i32_68 : BitVec 32 := 0#32
  let c0_i32_69 : BitVec 32 := 0#32
  ![v92.toNat, 0, 0]

def k0_chk5 (i : grid0.Coords) (v88 : BitVec 32) : Prop :=
  (∀ a, (k0_off12 i v88) a + S8x56x64.size a ≤ S14336x56x64.size a)
theorem k0_off12_inb : ∀ (i : grid0.Coords) (v88 : BitVec 32) (k0_hw5 : k0_chk5 i v88), ∀ a, (k0_off12 i v88) a + S8x56x64.size a ≤ S14336x56x64.size a := fun i v88 k0_hw5 => k0_hw5

def k0_off13 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_72 : BitVec 32 := 8#32
  let v95 : BitVec 32 := Scalar.muli v1 c8_i32_72
  let c0_i32_73 : BitVec 32 := 0#32
  let v96 : BitVec 32 := Scalar.addi v95 c0_i32_73
  let c31_i32_75 : BitVec 32 := 31#32
  let v98 : BitVec 32 := Scalar.andi v96 c31_i32_75
  let v99 : Index := Scalar.indexCast v98
  ![v99.toNat]
def k0_off14 (i : grid0.Coords) (v103 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_72 : BitVec 32 := 8#32
  let v95 : BitVec 32 := Scalar.muli v1 c8_i32_72
  let c0_i32_73 : BitVec 32 := 0#32
  let v96 : BitVec 32 := Scalar.addi v95 c0_i32_73
  let c5_i32_74 : BitVec 32 := 5#32
  let v97 : BitVec 32 := Scalar.shrui v96 c5_i32_74
  let c32_i32_76 : BitVec 32 := 32#32
  let v104 : BitVec 32 := Scalar.muli v97 c32_i32_76
  let v105 : BitVec 32 := Scalar.addi v104 v103
  let c56_i32_77 : BitVec 32 := 56#32
  let v106 : BitVec 32 := Scalar.muli v105 c56_i32_77
  let c16_i32_78 : BitVec 32 := 16#32
  let v107 : BitVec 32 := Scalar.addi v106 c16_i32_78
  let c0_i32_79 : BitVec 32 := 0#32
  let c0_i32_80 : BitVec 32 := 0#32
  ![v107.toNat, 0, 0]

def k0_chk6 (i : grid0.Coords) (v103 : BitVec 32) : Prop :=
  (∀ a, (k0_off14 i v103) a + S8x56x64.size a ≤ S14336x56x64.size a)
theorem k0_off14_inb : ∀ (i : grid0.Coords) (v103 : BitVec 32) (k0_hw6 : k0_chk6 i v103), ∀ a, (k0_off14 i v103) a + S8x56x64.size a ≤ S14336x56x64.size a := fun i v103 k0_hw6 => k0_hw6

def k0_off15 (i : grid0.Coords) (c16_i32_86 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_83 : BitVec 32 := 8#32
  let v110 : BitVec 32 := Scalar.muli v1 c8_i32_83
  let c0_i32_84 : BitVec 32 := 0#32
  let v111 : BitVec 32 := Scalar.addi v110 c0_i32_84
  let c56_i32_85 : BitVec 32 := 56#32
  let v112 : BitVec 32 := Scalar.muli v111 c56_i32_85
  let v113 : BitVec 32 := Scalar.addi v112 c16_i32_86
  let c0_i32_87 : BitVec 32 := 0#32
  let c0_i32_88 : BitVec 32 := 0#32
  ![v113.toNat, 0, 0]
def k0_off16 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_99 : BitVec 32 := 8#32
  let v122 : BitVec 32 := Scalar.muli v1 c8_i32_99
  let c0_i32_100 : BitVec 32 := 0#32
  let v123 : BitVec 32 := Scalar.addi v122 c0_i32_100
  let c31_i32_102 : BitVec 32 := 31#32
  let v125 : BitVec 32 := Scalar.andi v123 c31_i32_102
  let v126 : Index := Scalar.indexCast v125
  ![v126.toNat]
def k0_off17 (i : grid0.Coords) (v130 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_99 : BitVec 32 := 8#32
  let v122 : BitVec 32 := Scalar.muli v1 c8_i32_99
  let c0_i32_100 : BitVec 32 := 0#32
  let v123 : BitVec 32 := Scalar.addi v122 c0_i32_100
  let c5_i32_101 : BitVec 32 := 5#32
  let v124 : BitVec 32 := Scalar.shrui v123 c5_i32_101
  let c32_i32_103 : BitVec 32 := 32#32
  let v131 : BitVec 32 := Scalar.muli v124 c32_i32_103
  let v132 : BitVec 32 := Scalar.addi v131 v130
  let c56_i32_104 : BitVec 32 := 56#32
  let v133 : BitVec 32 := Scalar.muli v132 c56_i32_104
  let c24_i32 : BitVec 32 := 24#32
  let v134 : BitVec 32 := Scalar.addi v133 c24_i32
  let c0_i32_105 : BitVec 32 := 0#32
  let c0_i32_106 : BitVec 32 := 0#32
  ![v134.toNat, 0, 0]

def k0_chk7 (i : grid0.Coords) (v130 : BitVec 32) : Prop :=
  (∀ a, (k0_off17 i v130) a + S8x56x64.size a ≤ S14336x56x64.size a)
theorem k0_off17_inb : ∀ (i : grid0.Coords) (v130 : BitVec 32) (k0_hw7 : k0_chk7 i v130), ∀ a, (k0_off17 i v130) a + S8x56x64.size a ≤ S14336x56x64.size a := fun i v130 k0_hw7 => k0_hw7

def k0_off18 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_109 : BitVec 32 := 8#32
  let v137 : BitVec 32 := Scalar.muli v1 c8_i32_109
  let c0_i32_110 : BitVec 32 := 0#32
  let v138 : BitVec 32 := Scalar.addi v137 c0_i32_110
  let c31_i32_112 : BitVec 32 := 31#32
  let v140 : BitVec 32 := Scalar.andi v138 c31_i32_112
  let v141 : Index := Scalar.indexCast v140
  ![v141.toNat]
def k0_off19 (i : grid0.Coords) (v145 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_109 : BitVec 32 := 8#32
  let v137 : BitVec 32 := Scalar.muli v1 c8_i32_109
  let c0_i32_110 : BitVec 32 := 0#32
  let v138 : BitVec 32 := Scalar.addi v137 c0_i32_110
  let c5_i32_111 : BitVec 32 := 5#32
  let v139 : BitVec 32 := Scalar.shrui v138 c5_i32_111
  let c32_i32_113 : BitVec 32 := 32#32
  let v146 : BitVec 32 := Scalar.muli v139 c32_i32_113
  let v147 : BitVec 32 := Scalar.addi v146 v145
  let c56_i32_114 : BitVec 32 := 56#32
  let v148 : BitVec 32 := Scalar.muli v147 c56_i32_114
  let c24_i32_115 : BitVec 32 := 24#32
  let v149 : BitVec 32 := Scalar.addi v148 c24_i32_115
  let c0_i32_116 : BitVec 32 := 0#32
  let c0_i32_117 : BitVec 32 := 0#32
  ![v149.toNat, 0, 0]

def k0_chk8 (i : grid0.Coords) (v145 : BitVec 32) : Prop :=
  (∀ a, (k0_off19 i v145) a + S8x56x64.size a ≤ S14336x56x64.size a)
theorem k0_off19_inb : ∀ (i : grid0.Coords) (v145 : BitVec 32) (k0_hw8 : k0_chk8 i v145), ∀ a, (k0_off19 i v145) a + S8x56x64.size a ≤ S14336x56x64.size a := fun i v145 k0_hw8 => k0_hw8

def k0_off20 (i : grid0.Coords) (c24_i32_123 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_120 : BitVec 32 := 8#32
  let v152 : BitVec 32 := Scalar.muli v1 c8_i32_120
  let c0_i32_121 : BitVec 32 := 0#32
  let v153 : BitVec 32 := Scalar.addi v152 c0_i32_121
  let c56_i32_122 : BitVec 32 := 56#32
  let v154 : BitVec 32 := Scalar.muli v153 c56_i32_122
  let v155 : BitVec 32 := Scalar.addi v154 c24_i32_123
  let c0_i32_124 : BitVec 32 := 0#32
  let c0_i32_125 : BitVec 32 := 0#32
  ![v155.toNat, 0, 0]
def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_136 : BitVec 32 := 8#32
  let v164 : BitVec 32 := Scalar.muli v1 c8_i32_136
  let c0_i32_137 : BitVec 32 := 0#32
  let v165 : BitVec 32 := Scalar.addi v164 c0_i32_137
  let c31_i32_139 : BitVec 32 := 31#32
  let v167 : BitVec 32 := Scalar.andi v165 c31_i32_139
  let v168 : Index := Scalar.indexCast v167
  ![v168.toNat]
def k0_off22 (i : grid0.Coords) (v172 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_136 : BitVec 32 := 8#32
  let v164 : BitVec 32 := Scalar.muli v1 c8_i32_136
  let c0_i32_137 : BitVec 32 := 0#32
  let v165 : BitVec 32 := Scalar.addi v164 c0_i32_137
  let c5_i32_138 : BitVec 32 := 5#32
  let v166 : BitVec 32 := Scalar.shrui v165 c5_i32_138
  let c32_i32_140 : BitVec 32 := 32#32
  let v173 : BitVec 32 := Scalar.muli v166 c32_i32_140
  let v174 : BitVec 32 := Scalar.addi v173 v172
  let c56_i32_141 : BitVec 32 := 56#32
  let v175 : BitVec 32 := Scalar.muli v174 c56_i32_141
  let c32_i32_142 : BitVec 32 := 32#32
  let v176 : BitVec 32 := Scalar.addi v175 c32_i32_142
  let c0_i32_143 : BitVec 32 := 0#32
  let c0_i32_144 : BitVec 32 := 0#32
  ![v176.toNat, 0, 0]

def k0_chk9 (i : grid0.Coords) (v172 : BitVec 32) : Prop :=
  (∀ a, (k0_off22 i v172) a + S8x56x64.size a ≤ S14336x56x64.size a)
theorem k0_off22_inb : ∀ (i : grid0.Coords) (v172 : BitVec 32) (k0_hw9 : k0_chk9 i v172), ∀ a, (k0_off22 i v172) a + S8x56x64.size a ≤ S14336x56x64.size a := fun i v172 k0_hw9 => k0_hw9

def k0_off23 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_147 : BitVec 32 := 8#32
  let v179 : BitVec 32 := Scalar.muli v1 c8_i32_147
  let c0_i32_148 : BitVec 32 := 0#32
  let v180 : BitVec 32 := Scalar.addi v179 c0_i32_148
  let c31_i32_150 : BitVec 32 := 31#32
  let v182 : BitVec 32 := Scalar.andi v180 c31_i32_150
  let v183 : Index := Scalar.indexCast v182
  ![v183.toNat]
def k0_off24 (i : grid0.Coords) (v187 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_147 : BitVec 32 := 8#32
  let v179 : BitVec 32 := Scalar.muli v1 c8_i32_147
  let c0_i32_148 : BitVec 32 := 0#32
  let v180 : BitVec 32 := Scalar.addi v179 c0_i32_148
  let c5_i32_149 : BitVec 32 := 5#32
  let v181 : BitVec 32 := Scalar.shrui v180 c5_i32_149
  let c32_i32_151 : BitVec 32 := 32#32
  let v188 : BitVec 32 := Scalar.muli v181 c32_i32_151
  let v189 : BitVec 32 := Scalar.addi v188 v187
  let c56_i32_152 : BitVec 32 := 56#32
  let v190 : BitVec 32 := Scalar.muli v189 c56_i32_152
  let c32_i32_153 : BitVec 32 := 32#32
  let v191 : BitVec 32 := Scalar.addi v190 c32_i32_153
  let c0_i32_154 : BitVec 32 := 0#32
  let c0_i32_155 : BitVec 32 := 0#32
  ![v191.toNat, 0, 0]

def k0_chk10 (i : grid0.Coords) (v187 : BitVec 32) : Prop :=
  (∀ a, (k0_off24 i v187) a + S8x56x64.size a ≤ S14336x56x64.size a)
theorem k0_off24_inb : ∀ (i : grid0.Coords) (v187 : BitVec 32) (k0_hw10 : k0_chk10 i v187), ∀ a, (k0_off24 i v187) a + S8x56x64.size a ≤ S14336x56x64.size a := fun i v187 k0_hw10 => k0_hw10

def k0_off25 (i : grid0.Coords) (c32_i32_161 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_158 : BitVec 32 := 8#32
  let v194 : BitVec 32 := Scalar.muli v1 c8_i32_158
  let c0_i32_159 : BitVec 32 := 0#32
  let v195 : BitVec 32 := Scalar.addi v194 c0_i32_159
  let c56_i32_160 : BitVec 32 := 56#32
  let v196 : BitVec 32 := Scalar.muli v195 c56_i32_160
  let v197 : BitVec 32 := Scalar.addi v196 c32_i32_161
  let c0_i32_162 : BitVec 32 := 0#32
  let c0_i32_163 : BitVec 32 := 0#32
  ![v197.toNat, 0, 0]
def k0_off26 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_174 : BitVec 32 := 8#32
  let v206 : BitVec 32 := Scalar.muli v1 c8_i32_174
  let c0_i32_175 : BitVec 32 := 0#32
  let v207 : BitVec 32 := Scalar.addi v206 c0_i32_175
  let c31_i32_177 : BitVec 32 := 31#32
  let v209 : BitVec 32 := Scalar.andi v207 c31_i32_177
  let v210 : Index := Scalar.indexCast v209
  ![v210.toNat]
def k0_off27 (i : grid0.Coords) (v214 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_174 : BitVec 32 := 8#32
  let v206 : BitVec 32 := Scalar.muli v1 c8_i32_174
  let c0_i32_175 : BitVec 32 := 0#32
  let v207 : BitVec 32 := Scalar.addi v206 c0_i32_175
  let c5_i32_176 : BitVec 32 := 5#32
  let v208 : BitVec 32 := Scalar.shrui v207 c5_i32_176
  let c32_i32_178 : BitVec 32 := 32#32
  let v215 : BitVec 32 := Scalar.muli v208 c32_i32_178
  let v216 : BitVec 32 := Scalar.addi v215 v214
  let c56_i32_179 : BitVec 32 := 56#32
  let v217 : BitVec 32 := Scalar.muli v216 c56_i32_179
  let c40_i32 : BitVec 32 := 40#32
  let v218 : BitVec 32 := Scalar.addi v217 c40_i32
  let c0_i32_180 : BitVec 32 := 0#32
  let c0_i32_181 : BitVec 32 := 0#32
  ![v218.toNat, 0, 0]

def k0_chk11 (i : grid0.Coords) (v214 : BitVec 32) : Prop :=
  (∀ a, (k0_off27 i v214) a + S8x56x64.size a ≤ S14336x56x64.size a)
theorem k0_off27_inb : ∀ (i : grid0.Coords) (v214 : BitVec 32) (k0_hw11 : k0_chk11 i v214), ∀ a, (k0_off27 i v214) a + S8x56x64.size a ≤ S14336x56x64.size a := fun i v214 k0_hw11 => k0_hw11

def k0_off28 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_184 : BitVec 32 := 8#32
  let v221 : BitVec 32 := Scalar.muli v1 c8_i32_184
  let c0_i32_185 : BitVec 32 := 0#32
  let v222 : BitVec 32 := Scalar.addi v221 c0_i32_185
  let c31_i32_187 : BitVec 32 := 31#32
  let v224 : BitVec 32 := Scalar.andi v222 c31_i32_187
  let v225 : Index := Scalar.indexCast v224
  ![v225.toNat]
def k0_off29 (i : grid0.Coords) (v229 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_184 : BitVec 32 := 8#32
  let v221 : BitVec 32 := Scalar.muli v1 c8_i32_184
  let c0_i32_185 : BitVec 32 := 0#32
  let v222 : BitVec 32 := Scalar.addi v221 c0_i32_185
  let c5_i32_186 : BitVec 32 := 5#32
  let v223 : BitVec 32 := Scalar.shrui v222 c5_i32_186
  let c32_i32_188 : BitVec 32 := 32#32
  let v230 : BitVec 32 := Scalar.muli v223 c32_i32_188
  let v231 : BitVec 32 := Scalar.addi v230 v229
  let c56_i32_189 : BitVec 32 := 56#32
  let v232 : BitVec 32 := Scalar.muli v231 c56_i32_189
  let c40_i32_190 : BitVec 32 := 40#32
  let v233 : BitVec 32 := Scalar.addi v232 c40_i32_190
  let c0_i32_191 : BitVec 32 := 0#32
  let c0_i32_192 : BitVec 32 := 0#32
  ![v233.toNat, 0, 0]

def k0_chk12 (i : grid0.Coords) (v229 : BitVec 32) : Prop :=
  (∀ a, (k0_off29 i v229) a + S8x56x64.size a ≤ S14336x56x64.size a)
theorem k0_off29_inb : ∀ (i : grid0.Coords) (v229 : BitVec 32) (k0_hw12 : k0_chk12 i v229), ∀ a, (k0_off29 i v229) a + S8x56x64.size a ≤ S14336x56x64.size a := fun i v229 k0_hw12 => k0_hw12

def k0_off30 (i : grid0.Coords) (c40_i32_198 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_195 : BitVec 32 := 8#32
  let v236 : BitVec 32 := Scalar.muli v1 c8_i32_195
  let c0_i32_196 : BitVec 32 := 0#32
  let v237 : BitVec 32 := Scalar.addi v236 c0_i32_196
  let c56_i32_197 : BitVec 32 := 56#32
  let v238 : BitVec 32 := Scalar.muli v237 c56_i32_197
  let v239 : BitVec 32 := Scalar.addi v238 c40_i32_198
  let c0_i32_199 : BitVec 32 := 0#32
  let c0_i32_200 : BitVec 32 := 0#32
  ![v239.toNat, 0, 0]
def k0_off31 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_211 : BitVec 32 := 8#32
  let v248 : BitVec 32 := Scalar.muli v1 c8_i32_211
  let c0_i32_212 : BitVec 32 := 0#32
  let v249 : BitVec 32 := Scalar.addi v248 c0_i32_212
  let c31_i32_214 : BitVec 32 := 31#32
  let v251 : BitVec 32 := Scalar.andi v249 c31_i32_214
  let v252 : Index := Scalar.indexCast v251
  ![v252.toNat]
def k0_off32 (i : grid0.Coords) (v256 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_211 : BitVec 32 := 8#32
  let v248 : BitVec 32 := Scalar.muli v1 c8_i32_211
  let c0_i32_212 : BitVec 32 := 0#32
  let v249 : BitVec 32 := Scalar.addi v248 c0_i32_212
  let c5_i32_213 : BitVec 32 := 5#32
  let v250 : BitVec 32 := Scalar.shrui v249 c5_i32_213
  let c32_i32_215 : BitVec 32 := 32#32
  let v257 : BitVec 32 := Scalar.muli v250 c32_i32_215
  let v258 : BitVec 32 := Scalar.addi v257 v256
  let c56_i32_216 : BitVec 32 := 56#32
  let v259 : BitVec 32 := Scalar.muli v258 c56_i32_216
  let c48_i32 : BitVec 32 := 48#32
  let v260 : BitVec 32 := Scalar.addi v259 c48_i32
  let c0_i32_217 : BitVec 32 := 0#32
  let c0_i32_218 : BitVec 32 := 0#32
  ![v260.toNat, 0, 0]

def k0_chk13 (i : grid0.Coords) (v256 : BitVec 32) : Prop :=
  (∀ a, (k0_off32 i v256) a + S8x56x64.size a ≤ S14336x56x64.size a)
theorem k0_off32_inb : ∀ (i : grid0.Coords) (v256 : BitVec 32) (k0_hw13 : k0_chk13 i v256), ∀ a, (k0_off32 i v256) a + S8x56x64.size a ≤ S14336x56x64.size a := fun i v256 k0_hw13 => k0_hw13

def k0_off33 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_221 : BitVec 32 := 8#32
  let v263 : BitVec 32 := Scalar.muli v1 c8_i32_221
  let c0_i32_222 : BitVec 32 := 0#32
  let v264 : BitVec 32 := Scalar.addi v263 c0_i32_222
  let c31_i32_224 : BitVec 32 := 31#32
  let v266 : BitVec 32 := Scalar.andi v264 c31_i32_224
  let v267 : Index := Scalar.indexCast v266
  ![v267.toNat]
def k0_off34 (i : grid0.Coords) (v271 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_221 : BitVec 32 := 8#32
  let v263 : BitVec 32 := Scalar.muli v1 c8_i32_221
  let c0_i32_222 : BitVec 32 := 0#32
  let v264 : BitVec 32 := Scalar.addi v263 c0_i32_222
  let c5_i32_223 : BitVec 32 := 5#32
  let v265 : BitVec 32 := Scalar.shrui v264 c5_i32_223
  let c32_i32_225 : BitVec 32 := 32#32
  let v272 : BitVec 32 := Scalar.muli v265 c32_i32_225
  let v273 : BitVec 32 := Scalar.addi v272 v271
  let c56_i32_226 : BitVec 32 := 56#32
  let v274 : BitVec 32 := Scalar.muli v273 c56_i32_226
  let c48_i32_227 : BitVec 32 := 48#32
  let v275 : BitVec 32 := Scalar.addi v274 c48_i32_227
  let c0_i32_228 : BitVec 32 := 0#32
  let c0_i32_229 : BitVec 32 := 0#32
  ![v275.toNat, 0, 0]

def k0_chk14 (i : grid0.Coords) (v271 : BitVec 32) : Prop :=
  (∀ a, (k0_off34 i v271) a + S8x56x64.size a ≤ S14336x56x64.size a)
theorem k0_off34_inb : ∀ (i : grid0.Coords) (v271 : BitVec 32) (k0_hw14 : k0_chk14 i v271), ∀ a, (k0_off34 i v271) a + S8x56x64.size a ≤ S14336x56x64.size a := fun i v271 k0_hw14 => k0_hw14

def k0_off35 (i : grid0.Coords) (c48_i32_235 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_232 : BitVec 32 := 8#32
  let v278 : BitVec 32 := Scalar.muli v1 c8_i32_232
  let c0_i32_233 : BitVec 32 := 0#32
  let v279 : BitVec 32 := Scalar.addi v278 c0_i32_233
  let c56_i32_234 : BitVec 32 := 56#32
  let v280 : BitVec 32 := Scalar.muli v279 c56_i32_234
  let v281 : BitVec 32 := Scalar.addi v280 c48_i32_235
  let c0_i32_236 : BitVec 32 := 0#32
  let c0_i32_237 : BitVec 32 := 0#32
  ![v281.toNat, 0, 0]
def k0_off36 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_248 : BitVec 32 := 8#32
  let v290 : BitVec 32 := Scalar.muli v1 c8_i32_248
  let c1_i32 : BitVec 32 := 1#32
  let v291 : BitVec 32 := Scalar.addi v290 c1_i32
  let c31_i32_250 : BitVec 32 := 31#32
  let v293 : BitVec 32 := Scalar.andi v291 c31_i32_250
  let v294 : Index := Scalar.indexCast v293
  ![v294.toNat]
def k0_off37 (i : grid0.Coords) (v298 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_248 : BitVec 32 := 8#32
  let v290 : BitVec 32 := Scalar.muli v1 c8_i32_248
  let c1_i32 : BitVec 32 := 1#32
  let v291 : BitVec 32 := Scalar.addi v290 c1_i32
  let c5_i32_249 : BitVec 32 := 5#32
  let v292 : BitVec 32 := Scalar.shrui v291 c5_i32_249
  let c32_i32_251 : BitVec 32 := 32#32
  let v299 : BitVec 32 := Scalar.muli v292 c32_i32_251
  let v300 : BitVec 32 := Scalar.addi v299 v298
  let c56_i32_252 : BitVec 32 := 56#32
  let v301 : BitVec 32 := Scalar.muli v300 c56_i32_252
  let c0_i32_253 : BitVec 32 := 0#32
  let v302 : BitVec 32 := Scalar.addi v301 c0_i32_253
  let c0_i32_254 : BitVec 32 := 0#32
  let c0_i32_255 : BitVec 32 := 0#32
  ![v302.toNat, 0, 0]

def k0_chk15 (i : grid0.Coords) (v298 : BitVec 32) : Prop :=
  (∀ a, (k0_off37 i v298) a + S8x56x64.size a ≤ S14336x56x64.size a)
theorem k0_off37_inb : ∀ (i : grid0.Coords) (v298 : BitVec 32) (k0_hw15 : k0_chk15 i v298), ∀ a, (k0_off37 i v298) a + S8x56x64.size a ≤ S14336x56x64.size a := fun i v298 k0_hw15 => k0_hw15

def k0_off38 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_258 : BitVec 32 := 8#32
  let v305 : BitVec 32 := Scalar.muli v1 c8_i32_258
  let c1_i32_259 : BitVec 32 := 1#32
  let v306 : BitVec 32 := Scalar.addi v305 c1_i32_259
  let c31_i32_261 : BitVec 32 := 31#32
  let v308 : BitVec 32 := Scalar.andi v306 c31_i32_261
  let v309 : Index := Scalar.indexCast v308
  ![v309.toNat]
def k0_off39 (i : grid0.Coords) (v313 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_258 : BitVec 32 := 8#32
  let v305 : BitVec 32 := Scalar.muli v1 c8_i32_258
  let c1_i32_259 : BitVec 32 := 1#32
  let v306 : BitVec 32 := Scalar.addi v305 c1_i32_259
  let c5_i32_260 : BitVec 32 := 5#32
  let v307 : BitVec 32 := Scalar.shrui v306 c5_i32_260
  let c32_i32_262 : BitVec 32 := 32#32
  let v314 : BitVec 32 := Scalar.muli v307 c32_i32_262
  let v315 : BitVec 32 := Scalar.addi v314 v313
  let c56_i32_263 : BitVec 32 := 56#32
  let v316 : BitVec 32 := Scalar.muli v315 c56_i32_263
  let c0_i32_264 : BitVec 32 := 0#32
  let v317 : BitVec 32 := Scalar.addi v316 c0_i32_264
  let c0_i32_265 : BitVec 32 := 0#32
  let c0_i32_266 : BitVec 32 := 0#32
  ![v317.toNat, 0, 0]

def k0_chk16 (i : grid0.Coords) (v313 : BitVec 32) : Prop :=
  (∀ a, (k0_off39 i v313) a + S8x56x64.size a ≤ S14336x56x64.size a)
theorem k0_off39_inb : ∀ (i : grid0.Coords) (v313 : BitVec 32) (k0_hw16 : k0_chk16 i v313), ∀ a, (k0_off39 i v313) a + S8x56x64.size a ≤ S14336x56x64.size a := fun i v313 k0_hw16 => k0_hw16

def k0_off40 (i : grid0.Coords) (c1_i32_270 : BitVec 32) (c0_i32_272 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_269 : BitVec 32 := 8#32
  let v320 : BitVec 32 := Scalar.muli v1 c8_i32_269
  let v321 : BitVec 32 := Scalar.addi v320 c1_i32_270
  let c56_i32_271 : BitVec 32 := 56#32
  let v322 : BitVec 32 := Scalar.muli v321 c56_i32_271
  let v323 : BitVec 32 := Scalar.addi v322 c0_i32_272
  let c0_i32_273 : BitVec 32 := 0#32
  let c0_i32_274 : BitVec 32 := 0#32
  ![v323.toNat, 0, 0]
def k0_off40_at (r : Fin 2) : BitVec 32 × BitVec 32 :=
  if r.val < 1 then
    (1#32, 0#32)
  else
    (0#32, 48#32)
def k0_off41 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_285 : BitVec 32 := 8#32
  let v332 : BitVec 32 := Scalar.muli v1 c8_i32_285
  let c1_i32_286 : BitVec 32 := 1#32
  let v333 : BitVec 32 := Scalar.addi v332 c1_i32_286
  let c31_i32_288 : BitVec 32 := 31#32
  let v335 : BitVec 32 := Scalar.andi v333 c31_i32_288
  let v336 : Index := Scalar.indexCast v335
  ![v336.toNat]
def k0_off42 (i : grid0.Coords) (v340 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_285 : BitVec 32 := 8#32
  let v332 : BitVec 32 := Scalar.muli v1 c8_i32_285
  let c1_i32_286 : BitVec 32 := 1#32
  let v333 : BitVec 32 := Scalar.addi v332 c1_i32_286
  let c5_i32_287 : BitVec 32 := 5#32
  let v334 : BitVec 32 := Scalar.shrui v333 c5_i32_287
  let c32_i32_289 : BitVec 32 := 32#32
  let v341 : BitVec 32 := Scalar.muli v334 c32_i32_289
  let v342 : BitVec 32 := Scalar.addi v341 v340
  let c56_i32_290 : BitVec 32 := 56#32
  let v343 : BitVec 32 := Scalar.muli v342 c56_i32_290
  let c8_i32_291 : BitVec 32 := 8#32
  let v344 : BitVec 32 := Scalar.addi v343 c8_i32_291
  let c0_i32_292 : BitVec 32 := 0#32
  let c0_i32_293 : BitVec 32 := 0#32
  ![v344.toNat, 0, 0]

def k0_chk17 (i : grid0.Coords) (v340 : BitVec 32) : Prop :=
  (∀ a, (k0_off42 i v340) a + S8x56x64.size a ≤ S14336x56x64.size a)
theorem k0_off42_inb : ∀ (i : grid0.Coords) (v340 : BitVec 32) (k0_hw17 : k0_chk17 i v340), ∀ a, (k0_off42 i v340) a + S8x56x64.size a ≤ S14336x56x64.size a := fun i v340 k0_hw17 => k0_hw17

def k0_off43 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_296 : BitVec 32 := 8#32
  let v347 : BitVec 32 := Scalar.muli v1 c8_i32_296
  let c1_i32_297 : BitVec 32 := 1#32
  let v348 : BitVec 32 := Scalar.addi v347 c1_i32_297
  let c31_i32_299 : BitVec 32 := 31#32
  let v350 : BitVec 32 := Scalar.andi v348 c31_i32_299
  let v351 : Index := Scalar.indexCast v350
  ![v351.toNat]
def k0_off44 (i : grid0.Coords) (v355 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_296 : BitVec 32 := 8#32
  let v347 : BitVec 32 := Scalar.muli v1 c8_i32_296
  let c1_i32_297 : BitVec 32 := 1#32
  let v348 : BitVec 32 := Scalar.addi v347 c1_i32_297
  let c5_i32_298 : BitVec 32 := 5#32
  let v349 : BitVec 32 := Scalar.shrui v348 c5_i32_298
  let c32_i32_300 : BitVec 32 := 32#32
  let v356 : BitVec 32 := Scalar.muli v349 c32_i32_300
  let v357 : BitVec 32 := Scalar.addi v356 v355
  let c56_i32_301 : BitVec 32 := 56#32
  let v358 : BitVec 32 := Scalar.muli v357 c56_i32_301
  let c8_i32_302 : BitVec 32 := 8#32
  let v359 : BitVec 32 := Scalar.addi v358 c8_i32_302
  let c0_i32_303 : BitVec 32 := 0#32
  let c0_i32_304 : BitVec 32 := 0#32
  ![v359.toNat, 0, 0]

def k0_chk18 (i : grid0.Coords) (v355 : BitVec 32) : Prop :=
  (∀ a, (k0_off44 i v355) a + S8x56x64.size a ≤ S14336x56x64.size a)
theorem k0_off44_inb : ∀ (i : grid0.Coords) (v355 : BitVec 32) (k0_hw18 : k0_chk18 i v355), ∀ a, (k0_off44 i v355) a + S8x56x64.size a ≤ S14336x56x64.size a := fun i v355 k0_hw18 => k0_hw18

def k0_off45 (i : grid0.Coords) (c8_i32_310 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_307 : BitVec 32 := 8#32
  let v362 : BitVec 32 := Scalar.muli v1 c8_i32_307
  let c1_i32_308 : BitVec 32 := 1#32
  let v363 : BitVec 32 := Scalar.addi v362 c1_i32_308
  let c56_i32_309 : BitVec 32 := 56#32
  let v364 : BitVec 32 := Scalar.muli v363 c56_i32_309
  let v365 : BitVec 32 := Scalar.addi v364 c8_i32_310
  let c0_i32_311 : BitVec 32 := 0#32
  let c0_i32_312 : BitVec 32 := 0#32
  ![v365.toNat, 0, 0]
def k0_off46 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_323 : BitVec 32 := 8#32
  let v374 : BitVec 32 := Scalar.muli v1 c8_i32_323
  let c1_i32_324 : BitVec 32 := 1#32
  let v375 : BitVec 32 := Scalar.addi v374 c1_i32_324
  let c31_i32_326 : BitVec 32 := 31#32
  let v377 : BitVec 32 := Scalar.andi v375 c31_i32_326
  let v378 : Index := Scalar.indexCast v377
  ![v378.toNat]
def k0_off47 (i : grid0.Coords) (v382 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_323 : BitVec 32 := 8#32
  let v374 : BitVec 32 := Scalar.muli v1 c8_i32_323
  let c1_i32_324 : BitVec 32 := 1#32
  let v375 : BitVec 32 := Scalar.addi v374 c1_i32_324
  let c5_i32_325 : BitVec 32 := 5#32
  let v376 : BitVec 32 := Scalar.shrui v375 c5_i32_325
  let c32_i32_327 : BitVec 32 := 32#32
  let v383 : BitVec 32 := Scalar.muli v376 c32_i32_327
  let v384 : BitVec 32 := Scalar.addi v383 v382
  let c56_i32_328 : BitVec 32 := 56#32
  let v385 : BitVec 32 := Scalar.muli v384 c56_i32_328
  let c16_i32_329 : BitVec 32 := 16#32
  let v386 : BitVec 32 := Scalar.addi v385 c16_i32_329
  let c0_i32_330 : BitVec 32 := 0#32
  let c0_i32_331 : BitVec 32 := 0#32
  ![v386.toNat, 0, 0]

def k0_chk19 (i : grid0.Coords) (v382 : BitVec 32) : Prop :=
  (∀ a, (k0_off47 i v382) a + S8x56x64.size a ≤ S14336x56x64.size a)
theorem k0_off47_inb : ∀ (i : grid0.Coords) (v382 : BitVec 32) (k0_hw19 : k0_chk19 i v382), ∀ a, (k0_off47 i v382) a + S8x56x64.size a ≤ S14336x56x64.size a := fun i v382 k0_hw19 => k0_hw19

def k0_off48 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_334 : BitVec 32 := 8#32
  let v389 : BitVec 32 := Scalar.muli v1 c8_i32_334
  let c1_i32_335 : BitVec 32 := 1#32
  let v390 : BitVec 32 := Scalar.addi v389 c1_i32_335
  let c31_i32_337 : BitVec 32 := 31#32
  let v392 : BitVec 32 := Scalar.andi v390 c31_i32_337
  let v393 : Index := Scalar.indexCast v392
  ![v393.toNat]
def k0_off49 (i : grid0.Coords) (v397 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_334 : BitVec 32 := 8#32
  let v389 : BitVec 32 := Scalar.muli v1 c8_i32_334
  let c1_i32_335 : BitVec 32 := 1#32
  let v390 : BitVec 32 := Scalar.addi v389 c1_i32_335
  let c5_i32_336 : BitVec 32 := 5#32
  let v391 : BitVec 32 := Scalar.shrui v390 c5_i32_336
  let c32_i32_338 : BitVec 32 := 32#32
  let v398 : BitVec 32 := Scalar.muli v391 c32_i32_338
  let v399 : BitVec 32 := Scalar.addi v398 v397
  let c56_i32_339 : BitVec 32 := 56#32
  let v400 : BitVec 32 := Scalar.muli v399 c56_i32_339
  let c16_i32_340 : BitVec 32 := 16#32
  let v401 : BitVec 32 := Scalar.addi v400 c16_i32_340
  let c0_i32_341 : BitVec 32 := 0#32
  let c0_i32_342 : BitVec 32 := 0#32
  ![v401.toNat, 0, 0]

def k0_chk20 (i : grid0.Coords) (v397 : BitVec 32) : Prop :=
  (∀ a, (k0_off49 i v397) a + S8x56x64.size a ≤ S14336x56x64.size a)
theorem k0_off49_inb : ∀ (i : grid0.Coords) (v397 : BitVec 32) (k0_hw20 : k0_chk20 i v397), ∀ a, (k0_off49 i v397) a + S8x56x64.size a ≤ S14336x56x64.size a := fun i v397 k0_hw20 => k0_hw20

def k0_off50 (i : grid0.Coords) (c16_i32_348 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_345 : BitVec 32 := 8#32
  let v404 : BitVec 32 := Scalar.muli v1 c8_i32_345
  let c1_i32_346 : BitVec 32 := 1#32
  let v405 : BitVec 32 := Scalar.addi v404 c1_i32_346
  let c56_i32_347 : BitVec 32 := 56#32
  let v406 : BitVec 32 := Scalar.muli v405 c56_i32_347
  let v407 : BitVec 32 := Scalar.addi v406 c16_i32_348
  let c0_i32_349 : BitVec 32 := 0#32
  let c0_i32_350 : BitVec 32 := 0#32
  ![v407.toNat, 0, 0]
def k0_off51 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_361 : BitVec 32 := 8#32
  let v416 : BitVec 32 := Scalar.muli v1 c8_i32_361
  let c1_i32_362 : BitVec 32 := 1#32
  let v417 : BitVec 32 := Scalar.addi v416 c1_i32_362
  let c31_i32_364 : BitVec 32 := 31#32
  let v419 : BitVec 32 := Scalar.andi v417 c31_i32_364
  let v420 : Index := Scalar.indexCast v419
  ![v420.toNat]
def k0_off52 (i : grid0.Coords) (v424 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_361 : BitVec 32 := 8#32
  let v416 : BitVec 32 := Scalar.muli v1 c8_i32_361
  let c1_i32_362 : BitVec 32 := 1#32
  let v417 : BitVec 32 := Scalar.addi v416 c1_i32_362
  let c5_i32_363 : BitVec 32 := 5#32
  let v418 : BitVec 32 := Scalar.shrui v417 c5_i32_363
  let c32_i32_365 : BitVec 32 := 32#32
  let v425 : BitVec 32 := Scalar.muli v418 c32_i32_365
  let v426 : BitVec 32 := Scalar.addi v425 v424
  let c56_i32_366 : BitVec 32 := 56#32
  let v427 : BitVec 32 := Scalar.muli v426 c56_i32_366
  let c24_i32_367 : BitVec 32 := 24#32
  let v428 : BitVec 32 := Scalar.addi v427 c24_i32_367
  let c0_i32_368 : BitVec 32 := 0#32
  let c0_i32_369 : BitVec 32 := 0#32
  ![v428.toNat, 0, 0]

def k0_chk21 (i : grid0.Coords) (v424 : BitVec 32) : Prop :=
  (∀ a, (k0_off52 i v424) a + S8x56x64.size a ≤ S14336x56x64.size a)
theorem k0_off52_inb : ∀ (i : grid0.Coords) (v424 : BitVec 32) (k0_hw21 : k0_chk21 i v424), ∀ a, (k0_off52 i v424) a + S8x56x64.size a ≤ S14336x56x64.size a := fun i v424 k0_hw21 => k0_hw21

def k0_off53 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_372 : BitVec 32 := 8#32
  let v431 : BitVec 32 := Scalar.muli v1 c8_i32_372
  let c1_i32_373 : BitVec 32 := 1#32
  let v432 : BitVec 32 := Scalar.addi v431 c1_i32_373
  let c31_i32_375 : BitVec 32 := 31#32
  let v434 : BitVec 32 := Scalar.andi v432 c31_i32_375
  let v435 : Index := Scalar.indexCast v434
  ![v435.toNat]
def k0_off54 (i : grid0.Coords) (v439 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_372 : BitVec 32 := 8#32
  let v431 : BitVec 32 := Scalar.muli v1 c8_i32_372
  let c1_i32_373 : BitVec 32 := 1#32
  let v432 : BitVec 32 := Scalar.addi v431 c1_i32_373
  let c5_i32_374 : BitVec 32 := 5#32
  let v433 : BitVec 32 := Scalar.shrui v432 c5_i32_374
  let c32_i32_376 : BitVec 32 := 32#32
  let v440 : BitVec 32 := Scalar.muli v433 c32_i32_376
  let v441 : BitVec 32 := Scalar.addi v440 v439
  let c56_i32_377 : BitVec 32 := 56#32
  let v442 : BitVec 32 := Scalar.muli v441 c56_i32_377
  let c24_i32_378 : BitVec 32 := 24#32
  let v443 : BitVec 32 := Scalar.addi v442 c24_i32_378
  let c0_i32_379 : BitVec 32 := 0#32
  let c0_i32_380 : BitVec 32 := 0#32
  ![v443.toNat, 0, 0]

def k0_chk22 (i : grid0.Coords) (v439 : BitVec 32) : Prop :=
  (∀ a, (k0_off54 i v439) a + S8x56x64.size a ≤ S14336x56x64.size a)
theorem k0_off54_inb : ∀ (i : grid0.Coords) (v439 : BitVec 32) (k0_hw22 : k0_chk22 i v439), ∀ a, (k0_off54 i v439) a + S8x56x64.size a ≤ S14336x56x64.size a := fun i v439 k0_hw22 => k0_hw22

def k0_off55 (i : grid0.Coords) (c24_i32_386 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_383 : BitVec 32 := 8#32
  let v446 : BitVec 32 := Scalar.muli v1 c8_i32_383
  let c1_i32_384 : BitVec 32 := 1#32
  let v447 : BitVec 32 := Scalar.addi v446 c1_i32_384
  let c56_i32_385 : BitVec 32 := 56#32
  let v448 : BitVec 32 := Scalar.muli v447 c56_i32_385
  let v449 : BitVec 32 := Scalar.addi v448 c24_i32_386
  let c0_i32_387 : BitVec 32 := 0#32
  let c0_i32_388 : BitVec 32 := 0#32
  ![v449.toNat, 0, 0]
def k0_off56 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_399 : BitVec 32 := 8#32
  let v458 : BitVec 32 := Scalar.muli v1 c8_i32_399
  let c1_i32_400 : BitVec 32 := 1#32
  let v459 : BitVec 32 := Scalar.addi v458 c1_i32_400
  let c31_i32_402 : BitVec 32 := 31#32
  let v461 : BitVec 32 := Scalar.andi v459 c31_i32_402
  let v462 : Index := Scalar.indexCast v461
  ![v462.toNat]
def k0_off57 (i : grid0.Coords) (v466 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_399 : BitVec 32 := 8#32
  let v458 : BitVec 32 := Scalar.muli v1 c8_i32_399
  let c1_i32_400 : BitVec 32 := 1#32
  let v459 : BitVec 32 := Scalar.addi v458 c1_i32_400
  let c5_i32_401 : BitVec 32 := 5#32
  let v460 : BitVec 32 := Scalar.shrui v459 c5_i32_401
  let c32_i32_403 : BitVec 32 := 32#32
  let v467 : BitVec 32 := Scalar.muli v460 c32_i32_403
  let v468 : BitVec 32 := Scalar.addi v467 v466
  let c56_i32_404 : BitVec 32 := 56#32
  let v469 : BitVec 32 := Scalar.muli v468 c56_i32_404
  let c32_i32_405 : BitVec 32 := 32#32
  let v470 : BitVec 32 := Scalar.addi v469 c32_i32_405
  let c0_i32_406 : BitVec 32 := 0#32
  let c0_i32_407 : BitVec 32 := 0#32
  ![v470.toNat, 0, 0]

def k0_chk23 (i : grid0.Coords) (v466 : BitVec 32) : Prop :=
  (∀ a, (k0_off57 i v466) a + S8x56x64.size a ≤ S14336x56x64.size a)
theorem k0_off57_inb : ∀ (i : grid0.Coords) (v466 : BitVec 32) (k0_hw23 : k0_chk23 i v466), ∀ a, (k0_off57 i v466) a + S8x56x64.size a ≤ S14336x56x64.size a := fun i v466 k0_hw23 => k0_hw23

def k0_off58 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_410 : BitVec 32 := 8#32
  let v473 : BitVec 32 := Scalar.muli v1 c8_i32_410
  let c1_i32_411 : BitVec 32 := 1#32
  let v474 : BitVec 32 := Scalar.addi v473 c1_i32_411
  let c31_i32_413 : BitVec 32 := 31#32
  let v476 : BitVec 32 := Scalar.andi v474 c31_i32_413
  let v477 : Index := Scalar.indexCast v476
  ![v477.toNat]
def k0_off59 (i : grid0.Coords) (v481 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_410 : BitVec 32 := 8#32
  let v473 : BitVec 32 := Scalar.muli v1 c8_i32_410
  let c1_i32_411 : BitVec 32 := 1#32
  let v474 : BitVec 32 := Scalar.addi v473 c1_i32_411
  let c5_i32_412 : BitVec 32 := 5#32
  let v475 : BitVec 32 := Scalar.shrui v474 c5_i32_412
  let c32_i32_414 : BitVec 32 := 32#32
  let v482 : BitVec 32 := Scalar.muli v475 c32_i32_414
  let v483 : BitVec 32 := Scalar.addi v482 v481
  let c56_i32_415 : BitVec 32 := 56#32
  let v484 : BitVec 32 := Scalar.muli v483 c56_i32_415
  let c32_i32_416 : BitVec 32 := 32#32
  let v485 : BitVec 32 := Scalar.addi v484 c32_i32_416
  let c0_i32_417 : BitVec 32 := 0#32
  let c0_i32_418 : BitVec 32 := 0#32
  ![v485.toNat, 0, 0]

def k0_chk24 (i : grid0.Coords) (v481 : BitVec 32) : Prop :=
  (∀ a, (k0_off59 i v481) a + S8x56x64.size a ≤ S14336x56x64.size a)
theorem k0_off59_inb : ∀ (i : grid0.Coords) (v481 : BitVec 32) (k0_hw24 : k0_chk24 i v481), ∀ a, (k0_off59 i v481) a + S8x56x64.size a ≤ S14336x56x64.size a := fun i v481 k0_hw24 => k0_hw24

def k0_off60 (i : grid0.Coords) (c32_i32_424 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_421 : BitVec 32 := 8#32
  let v488 : BitVec 32 := Scalar.muli v1 c8_i32_421
  let c1_i32_422 : BitVec 32 := 1#32
  let v489 : BitVec 32 := Scalar.addi v488 c1_i32_422
  let c56_i32_423 : BitVec 32 := 56#32
  let v490 : BitVec 32 := Scalar.muli v489 c56_i32_423
  let v491 : BitVec 32 := Scalar.addi v490 c32_i32_424
  let c0_i32_425 : BitVec 32 := 0#32
  let c0_i32_426 : BitVec 32 := 0#32
  ![v491.toNat, 0, 0]
def k0_off61 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_437 : BitVec 32 := 8#32
  let v500 : BitVec 32 := Scalar.muli v1 c8_i32_437
  let c1_i32_438 : BitVec 32 := 1#32
  let v501 : BitVec 32 := Scalar.addi v500 c1_i32_438
  let c31_i32_440 : BitVec 32 := 31#32
  let v503 : BitVec 32 := Scalar.andi v501 c31_i32_440
  let v504 : Index := Scalar.indexCast v503
  ![v504.toNat]
def k0_off62 (i : grid0.Coords) (v508 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_437 : BitVec 32 := 8#32
  let v500 : BitVec 32 := Scalar.muli v1 c8_i32_437
  let c1_i32_438 : BitVec 32 := 1#32
  let v501 : BitVec 32 := Scalar.addi v500 c1_i32_438
  let c5_i32_439 : BitVec 32 := 5#32
  let v502 : BitVec 32 := Scalar.shrui v501 c5_i32_439
  let c32_i32_441 : BitVec 32 := 32#32
  let v509 : BitVec 32 := Scalar.muli v502 c32_i32_441
  let v510 : BitVec 32 := Scalar.addi v509 v508
  let c56_i32_442 : BitVec 32 := 56#32
  let v511 : BitVec 32 := Scalar.muli v510 c56_i32_442
  let c40_i32_443 : BitVec 32 := 40#32
  let v512 : BitVec 32 := Scalar.addi v511 c40_i32_443
  let c0_i32_444 : BitVec 32 := 0#32
  let c0_i32_445 : BitVec 32 := 0#32
  ![v512.toNat, 0, 0]

def k0_chk25 (i : grid0.Coords) (v508 : BitVec 32) : Prop :=
  (∀ a, (k0_off62 i v508) a + S8x56x64.size a ≤ S14336x56x64.size a)
theorem k0_off62_inb : ∀ (i : grid0.Coords) (v508 : BitVec 32) (k0_hw25 : k0_chk25 i v508), ∀ a, (k0_off62 i v508) a + S8x56x64.size a ≤ S14336x56x64.size a := fun i v508 k0_hw25 => k0_hw25

def k0_off63 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_448 : BitVec 32 := 8#32
  let v515 : BitVec 32 := Scalar.muli v1 c8_i32_448
  let c1_i32_449 : BitVec 32 := 1#32
  let v516 : BitVec 32 := Scalar.addi v515 c1_i32_449
  let c31_i32_451 : BitVec 32 := 31#32
  let v518 : BitVec 32 := Scalar.andi v516 c31_i32_451
  let v519 : Index := Scalar.indexCast v518
  ![v519.toNat]
def k0_off64 (i : grid0.Coords) (v523 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_448 : BitVec 32 := 8#32
  let v515 : BitVec 32 := Scalar.muli v1 c8_i32_448
  let c1_i32_449 : BitVec 32 := 1#32
  let v516 : BitVec 32 := Scalar.addi v515 c1_i32_449
  let c5_i32_450 : BitVec 32 := 5#32
  let v517 : BitVec 32 := Scalar.shrui v516 c5_i32_450
  let c32_i32_452 : BitVec 32 := 32#32
  let v524 : BitVec 32 := Scalar.muli v517 c32_i32_452
  let v525 : BitVec 32 := Scalar.addi v524 v523
  let c56_i32_453 : BitVec 32 := 56#32
  let v526 : BitVec 32 := Scalar.muli v525 c56_i32_453
  let c40_i32_454 : BitVec 32 := 40#32
  let v527 : BitVec 32 := Scalar.addi v526 c40_i32_454
  let c0_i32_455 : BitVec 32 := 0#32
  let c0_i32_456 : BitVec 32 := 0#32
  ![v527.toNat, 0, 0]

def k0_chk26 (i : grid0.Coords) (v523 : BitVec 32) : Prop :=
  (∀ a, (k0_off64 i v523) a + S8x56x64.size a ≤ S14336x56x64.size a)
theorem k0_off64_inb : ∀ (i : grid0.Coords) (v523 : BitVec 32) (k0_hw26 : k0_chk26 i v523), ∀ a, (k0_off64 i v523) a + S8x56x64.size a ≤ S14336x56x64.size a := fun i v523 k0_hw26 => k0_hw26

def k0_off65 (i : grid0.Coords) (c40_i32_462 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_459 : BitVec 32 := 8#32
  let v530 : BitVec 32 := Scalar.muli v1 c8_i32_459
  let c1_i32_460 : BitVec 32 := 1#32
  let v531 : BitVec 32 := Scalar.addi v530 c1_i32_460
  let c56_i32_461 : BitVec 32 := 56#32
  let v532 : BitVec 32 := Scalar.muli v531 c56_i32_461
  let v533 : BitVec 32 := Scalar.addi v532 c40_i32_462
  let c0_i32_463 : BitVec 32 := 0#32
  let c0_i32_464 : BitVec 32 := 0#32
  ![v533.toNat, 0, 0]
def k0_off66 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_475 : BitVec 32 := 8#32
  let v542 : BitVec 32 := Scalar.muli v1 c8_i32_475
  let c1_i32_476 : BitVec 32 := 1#32
  let v543 : BitVec 32 := Scalar.addi v542 c1_i32_476
  let c31_i32_478 : BitVec 32 := 31#32
  let v545 : BitVec 32 := Scalar.andi v543 c31_i32_478
  let v546 : Index := Scalar.indexCast v545
  ![v546.toNat]
def k0_off67 (i : grid0.Coords) (v550 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_475 : BitVec 32 := 8#32
  let v542 : BitVec 32 := Scalar.muli v1 c8_i32_475
  let c1_i32_476 : BitVec 32 := 1#32
  let v543 : BitVec 32 := Scalar.addi v542 c1_i32_476
  let c5_i32_477 : BitVec 32 := 5#32
  let v544 : BitVec 32 := Scalar.shrui v543 c5_i32_477
  let c32_i32_479 : BitVec 32 := 32#32
  let v551 : BitVec 32 := Scalar.muli v544 c32_i32_479
  let v552 : BitVec 32 := Scalar.addi v551 v550
  let c56_i32_480 : BitVec 32 := 56#32
  let v553 : BitVec 32 := Scalar.muli v552 c56_i32_480
  let c48_i32_481 : BitVec 32 := 48#32
  let v554 : BitVec 32 := Scalar.addi v553 c48_i32_481
  let c0_i32_482 : BitVec 32 := 0#32
  let c0_i32_483 : BitVec 32 := 0#32
  ![v554.toNat, 0, 0]

def k0_chk27 (i : grid0.Coords) (v550 : BitVec 32) : Prop :=
  (∀ a, (k0_off67 i v550) a + S8x56x64.size a ≤ S14336x56x64.size a)
theorem k0_off67_inb : ∀ (i : grid0.Coords) (v550 : BitVec 32) (k0_hw27 : k0_chk27 i v550), ∀ a, (k0_off67 i v550) a + S8x56x64.size a ≤ S14336x56x64.size a := fun i v550 k0_hw27 => k0_hw27

def k0_off68 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_486 : BitVec 32 := 8#32
  let v557 : BitVec 32 := Scalar.muli v1 c8_i32_486
  let c1_i32_487 : BitVec 32 := 1#32
  let v558 : BitVec 32 := Scalar.addi v557 c1_i32_487
  let c31_i32_489 : BitVec 32 := 31#32
  let v560 : BitVec 32 := Scalar.andi v558 c31_i32_489
  let v561 : Index := Scalar.indexCast v560
  ![v561.toNat]
def k0_off69 (i : grid0.Coords) (v565 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_486 : BitVec 32 := 8#32
  let v557 : BitVec 32 := Scalar.muli v1 c8_i32_486
  let c1_i32_487 : BitVec 32 := 1#32
  let v558 : BitVec 32 := Scalar.addi v557 c1_i32_487
  let c5_i32_488 : BitVec 32 := 5#32
  let v559 : BitVec 32 := Scalar.shrui v558 c5_i32_488
  let c32_i32_490 : BitVec 32 := 32#32
  let v566 : BitVec 32 := Scalar.muli v559 c32_i32_490
  let v567 : BitVec 32 := Scalar.addi v566 v565
  let c56_i32_491 : BitVec 32 := 56#32
  let v568 : BitVec 32 := Scalar.muli v567 c56_i32_491
  let c48_i32_492 : BitVec 32 := 48#32
  let v569 : BitVec 32 := Scalar.addi v568 c48_i32_492
  let c0_i32_493 : BitVec 32 := 0#32
  let c0_i32_494 : BitVec 32 := 0#32
  ![v569.toNat, 0, 0]

def k0_chk28 (i : grid0.Coords) (v565 : BitVec 32) : Prop :=
  (∀ a, (k0_off69 i v565) a + S8x56x64.size a ≤ S14336x56x64.size a)
theorem k0_off69_inb : ∀ (i : grid0.Coords) (v565 : BitVec 32) (k0_hw28 : k0_chk28 i v565), ∀ a, (k0_off69 i v565) a + S8x56x64.size a ≤ S14336x56x64.size a := fun i v565 k0_hw28 => k0_hw28

def k0_off70 (i : grid0.Coords) (c48_i32_500 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_497 : BitVec 32 := 8#32
  let v572 : BitVec 32 := Scalar.muli v1 c8_i32_497
  let c1_i32_498 : BitVec 32 := 1#32
  let v573 : BitVec 32 := Scalar.addi v572 c1_i32_498
  let c56_i32_499 : BitVec 32 := 56#32
  let v574 : BitVec 32 := Scalar.muli v573 c56_i32_499
  let v575 : BitVec 32 := Scalar.addi v574 c48_i32_500
  let c0_i32_501 : BitVec 32 := 0#32
  let c0_i32_502 : BitVec 32 := 0#32
  ![v575.toNat, 0, 0]
def k0_off71 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_513 : BitVec 32 := 8#32
  let v584 : BitVec 32 := Scalar.muli v1 c8_i32_513
  let c2_i32_514 : BitVec 32 := 2#32
  let v585 : BitVec 32 := Scalar.addi v584 c2_i32_514
  let c31_i32_516 : BitVec 32 := 31#32
  let v587 : BitVec 32 := Scalar.andi v585 c31_i32_516
  let v588 : Index := Scalar.indexCast v587
  ![v588.toNat]
def k0_off72 (i : grid0.Coords) (v592 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_513 : BitVec 32 := 8#32
  let v584 : BitVec 32 := Scalar.muli v1 c8_i32_513
  let c2_i32_514 : BitVec 32 := 2#32
  let v585 : BitVec 32 := Scalar.addi v584 c2_i32_514
  let c5_i32_515 : BitVec 32 := 5#32
  let v586 : BitVec 32 := Scalar.shrui v585 c5_i32_515
  let c32_i32_517 : BitVec 32 := 32#32
  let v593 : BitVec 32 := Scalar.muli v586 c32_i32_517
  let v594 : BitVec 32 := Scalar.addi v593 v592
  let c56_i32_518 : BitVec 32 := 56#32
  let v595 : BitVec 32 := Scalar.muli v594 c56_i32_518
  let c0_i32_519 : BitVec 32 := 0#32
  let v596 : BitVec 32 := Scalar.addi v595 c0_i32_519
  let c0_i32_520 : BitVec 32 := 0#32
  let c0_i32_521 : BitVec 32 := 0#32
  ![v596.toNat, 0, 0]

def k0_chk29 (i : grid0.Coords) (v592 : BitVec 32) : Prop :=
  (∀ a, (k0_off72 i v592) a + S8x56x64.size a ≤ S14336x56x64.size a)
theorem k0_off72_inb : ∀ (i : grid0.Coords) (v592 : BitVec 32) (k0_hw29 : k0_chk29 i v592), ∀ a, (k0_off72 i v592) a + S8x56x64.size a ≤ S14336x56x64.size a := fun i v592 k0_hw29 => k0_hw29

def k0_off73 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_524 : BitVec 32 := 8#32
  let v599 : BitVec 32 := Scalar.muli v1 c8_i32_524
  let c2_i32_525 : BitVec 32 := 2#32
  let v600 : BitVec 32 := Scalar.addi v599 c2_i32_525
  let c31_i32_527 : BitVec 32 := 31#32
  let v602 : BitVec 32 := Scalar.andi v600 c31_i32_527
  let v603 : Index := Scalar.indexCast v602
  ![v603.toNat]
def k0_off74 (i : grid0.Coords) (v607 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_524 : BitVec 32 := 8#32
  let v599 : BitVec 32 := Scalar.muli v1 c8_i32_524
  let c2_i32_525 : BitVec 32 := 2#32
  let v600 : BitVec 32 := Scalar.addi v599 c2_i32_525
  let c5_i32_526 : BitVec 32 := 5#32
  let v601 : BitVec 32 := Scalar.shrui v600 c5_i32_526
  let c32_i32_528 : BitVec 32 := 32#32
  let v608 : BitVec 32 := Scalar.muli v601 c32_i32_528
  let v609 : BitVec 32 := Scalar.addi v608 v607
  let c56_i32_529 : BitVec 32 := 56#32
  let v610 : BitVec 32 := Scalar.muli v609 c56_i32_529
  let c0_i32_530 : BitVec 32 := 0#32
  let v611 : BitVec 32 := Scalar.addi v610 c0_i32_530
  let c0_i32_531 : BitVec 32 := 0#32
  let c0_i32_532 : BitVec 32 := 0#32
  ![v611.toNat, 0, 0]

def k0_chk30 (i : grid0.Coords) (v607 : BitVec 32) : Prop :=
  (∀ a, (k0_off74 i v607) a + S8x56x64.size a ≤ S14336x56x64.size a)
theorem k0_off74_inb : ∀ (i : grid0.Coords) (v607 : BitVec 32) (k0_hw30 : k0_chk30 i v607), ∀ a, (k0_off74 i v607) a + S8x56x64.size a ≤ S14336x56x64.size a := fun i v607 k0_hw30 => k0_hw30

def k0_off75 (i : grid0.Coords) (c2_i32_536 : BitVec 32) (c0_i32_538 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_535 : BitVec 32 := 8#32
  let v614 : BitVec 32 := Scalar.muli v1 c8_i32_535
  let v615 : BitVec 32 := Scalar.addi v614 c2_i32_536
  let c56_i32_537 : BitVec 32 := 56#32
  let v616 : BitVec 32 := Scalar.muli v615 c56_i32_537
  let v617 : BitVec 32 := Scalar.addi v616 c0_i32_538
  let c0_i32_539 : BitVec 32 := 0#32
  let c0_i32_540 : BitVec 32 := 0#32
  ![v617.toNat, 0, 0]
def k0_off75_at (r : Fin 2) : BitVec 32 × BitVec 32 :=
  if r.val < 1 then
    (2#32, 0#32)
  else
    (1#32, 48#32)
def k0_off76 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_551 : BitVec 32 := 8#32
  let v626 : BitVec 32 := Scalar.muli v1 c8_i32_551
  let c2_i32_552 : BitVec 32 := 2#32
  let v627 : BitVec 32 := Scalar.addi v626 c2_i32_552
  let c31_i32_554 : BitVec 32 := 31#32
  let v629 : BitVec 32 := Scalar.andi v627 c31_i32_554
  let v630 : Index := Scalar.indexCast v629
  ![v630.toNat]
def k0_off77 (i : grid0.Coords) (v634 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_551 : BitVec 32 := 8#32
  let v626 : BitVec 32 := Scalar.muli v1 c8_i32_551
  let c2_i32_552 : BitVec 32 := 2#32
  let v627 : BitVec 32 := Scalar.addi v626 c2_i32_552
  let c5_i32_553 : BitVec 32 := 5#32
  let v628 : BitVec 32 := Scalar.shrui v627 c5_i32_553
  let c32_i32_555 : BitVec 32 := 32#32
  let v635 : BitVec 32 := Scalar.muli v628 c32_i32_555
  let v636 : BitVec 32 := Scalar.addi v635 v634
  let c56_i32_556 : BitVec 32 := 56#32
  let v637 : BitVec 32 := Scalar.muli v636 c56_i32_556
  let c8_i32_557 : BitVec 32 := 8#32
  let v638 : BitVec 32 := Scalar.addi v637 c8_i32_557
  let c0_i32_558 : BitVec 32 := 0#32
  let c0_i32_559 : BitVec 32 := 0#32
  ![v638.toNat, 0, 0]

def k0_chk31 (i : grid0.Coords) (v634 : BitVec 32) : Prop :=
  (∀ a, (k0_off77 i v634) a + S8x56x64.size a ≤ S14336x56x64.size a)
theorem k0_off77_inb : ∀ (i : grid0.Coords) (v634 : BitVec 32) (k0_hw31 : k0_chk31 i v634), ∀ a, (k0_off77 i v634) a + S8x56x64.size a ≤ S14336x56x64.size a := fun i v634 k0_hw31 => k0_hw31

def k0_off78 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_562 : BitVec 32 := 8#32
  let v641 : BitVec 32 := Scalar.muli v1 c8_i32_562
  let c2_i32_563 : BitVec 32 := 2#32
  let v642 : BitVec 32 := Scalar.addi v641 c2_i32_563
  let c31_i32_565 : BitVec 32 := 31#32
  let v644 : BitVec 32 := Scalar.andi v642 c31_i32_565
  let v645 : Index := Scalar.indexCast v644
  ![v645.toNat]
def k0_off79 (i : grid0.Coords) (v649 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_562 : BitVec 32 := 8#32
  let v641 : BitVec 32 := Scalar.muli v1 c8_i32_562
  let c2_i32_563 : BitVec 32 := 2#32
  let v642 : BitVec 32 := Scalar.addi v641 c2_i32_563
  let c5_i32_564 : BitVec 32 := 5#32
  let v643 : BitVec 32 := Scalar.shrui v642 c5_i32_564
  let c32_i32_566 : BitVec 32 := 32#32
  let v650 : BitVec 32 := Scalar.muli v643 c32_i32_566
  let v651 : BitVec 32 := Scalar.addi v650 v649
  let c56_i32_567 : BitVec 32 := 56#32
  let v652 : BitVec 32 := Scalar.muli v651 c56_i32_567
  let c8_i32_568 : BitVec 32 := 8#32
  let v653 : BitVec 32 := Scalar.addi v652 c8_i32_568
  let c0_i32_569 : BitVec 32 := 0#32
  let c0_i32_570 : BitVec 32 := 0#32
  ![v653.toNat, 0, 0]

def k0_chk32 (i : grid0.Coords) (v649 : BitVec 32) : Prop :=
  (∀ a, (k0_off79 i v649) a + S8x56x64.size a ≤ S14336x56x64.size a)
theorem k0_off79_inb : ∀ (i : grid0.Coords) (v649 : BitVec 32) (k0_hw32 : k0_chk32 i v649), ∀ a, (k0_off79 i v649) a + S8x56x64.size a ≤ S14336x56x64.size a := fun i v649 k0_hw32 => k0_hw32

def k0_off80 (i : grid0.Coords) (c8_i32_576 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_573 : BitVec 32 := 8#32
  let v656 : BitVec 32 := Scalar.muli v1 c8_i32_573
  let c2_i32_574 : BitVec 32 := 2#32
  let v657 : BitVec 32 := Scalar.addi v656 c2_i32_574
  let c56_i32_575 : BitVec 32 := 56#32
  let v658 : BitVec 32 := Scalar.muli v657 c56_i32_575
  let v659 : BitVec 32 := Scalar.addi v658 c8_i32_576
  let c0_i32_577 : BitVec 32 := 0#32
  let c0_i32_578 : BitVec 32 := 0#32
  ![v659.toNat, 0, 0]
def k0_off81 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_589 : BitVec 32 := 8#32
  let v668 : BitVec 32 := Scalar.muli v1 c8_i32_589
  let c2_i32_590 : BitVec 32 := 2#32
  let v669 : BitVec 32 := Scalar.addi v668 c2_i32_590
  let c31_i32_592 : BitVec 32 := 31#32
  let v671 : BitVec 32 := Scalar.andi v669 c31_i32_592
  let v672 : Index := Scalar.indexCast v671
  ![v672.toNat]
def k0_off82 (i : grid0.Coords) (v676 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_589 : BitVec 32 := 8#32
  let v668 : BitVec 32 := Scalar.muli v1 c8_i32_589
  let c2_i32_590 : BitVec 32 := 2#32
  let v669 : BitVec 32 := Scalar.addi v668 c2_i32_590
  let c5_i32_591 : BitVec 32 := 5#32
  let v670 : BitVec 32 := Scalar.shrui v669 c5_i32_591
  let c32_i32_593 : BitVec 32 := 32#32
  let v677 : BitVec 32 := Scalar.muli v670 c32_i32_593
  let v678 : BitVec 32 := Scalar.addi v677 v676
  let c56_i32_594 : BitVec 32 := 56#32
  let v679 : BitVec 32 := Scalar.muli v678 c56_i32_594
  let c16_i32_595 : BitVec 32 := 16#32
  let v680 : BitVec 32 := Scalar.addi v679 c16_i32_595
  let c0_i32_596 : BitVec 32 := 0#32
  let c0_i32_597 : BitVec 32 := 0#32
  ![v680.toNat, 0, 0]

def k0_chk33 (i : grid0.Coords) (v676 : BitVec 32) : Prop :=
  (∀ a, (k0_off82 i v676) a + S8x56x64.size a ≤ S14336x56x64.size a)
theorem k0_off82_inb : ∀ (i : grid0.Coords) (v676 : BitVec 32) (k0_hw33 : k0_chk33 i v676), ∀ a, (k0_off82 i v676) a + S8x56x64.size a ≤ S14336x56x64.size a := fun i v676 k0_hw33 => k0_hw33

def k0_off83 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_600 : BitVec 32 := 8#32
  let v683 : BitVec 32 := Scalar.muli v1 c8_i32_600
  let c2_i32_601 : BitVec 32 := 2#32
  let v684 : BitVec 32 := Scalar.addi v683 c2_i32_601
  let c31_i32_603 : BitVec 32 := 31#32
  let v686 : BitVec 32 := Scalar.andi v684 c31_i32_603
  let v687 : Index := Scalar.indexCast v686
  ![v687.toNat]
def k0_off84 (i : grid0.Coords) (v691 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_600 : BitVec 32 := 8#32
  let v683 : BitVec 32 := Scalar.muli v1 c8_i32_600
  let c2_i32_601 : BitVec 32 := 2#32
  let v684 : BitVec 32 := Scalar.addi v683 c2_i32_601
  let c5_i32_602 : BitVec 32 := 5#32
  let v685 : BitVec 32 := Scalar.shrui v684 c5_i32_602
  let c32_i32_604 : BitVec 32 := 32#32
  let v692 : BitVec 32 := Scalar.muli v685 c32_i32_604
  let v693 : BitVec 32 := Scalar.addi v692 v691
  let c56_i32_605 : BitVec 32 := 56#32
  let v694 : BitVec 32 := Scalar.muli v693 c56_i32_605
  let c16_i32_606 : BitVec 32 := 16#32
  let v695 : BitVec 32 := Scalar.addi v694 c16_i32_606
  let c0_i32_607 : BitVec 32 := 0#32
  let c0_i32_608 : BitVec 32 := 0#32
  ![v695.toNat, 0, 0]

def k0_chk34 (i : grid0.Coords) (v691 : BitVec 32) : Prop :=
  (∀ a, (k0_off84 i v691) a + S8x56x64.size a ≤ S14336x56x64.size a)
theorem k0_off84_inb : ∀ (i : grid0.Coords) (v691 : BitVec 32) (k0_hw34 : k0_chk34 i v691), ∀ a, (k0_off84 i v691) a + S8x56x64.size a ≤ S14336x56x64.size a := fun i v691 k0_hw34 => k0_hw34

def k0_off85 (i : grid0.Coords) (c16_i32_614 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_611 : BitVec 32 := 8#32
  let v698 : BitVec 32 := Scalar.muli v1 c8_i32_611
  let c2_i32_612 : BitVec 32 := 2#32
  let v699 : BitVec 32 := Scalar.addi v698 c2_i32_612
  let c56_i32_613 : BitVec 32 := 56#32
  let v700 : BitVec 32 := Scalar.muli v699 c56_i32_613
  let v701 : BitVec 32 := Scalar.addi v700 c16_i32_614
  let c0_i32_615 : BitVec 32 := 0#32
  let c0_i32_616 : BitVec 32 := 0#32
  ![v701.toNat, 0, 0]
def k0_off86 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_627 : BitVec 32 := 8#32
  let v710 : BitVec 32 := Scalar.muli v1 c8_i32_627
  let c2_i32_628 : BitVec 32 := 2#32
  let v711 : BitVec 32 := Scalar.addi v710 c2_i32_628
  let c31_i32_630 : BitVec 32 := 31#32
  let v713 : BitVec 32 := Scalar.andi v711 c31_i32_630
  let v714 : Index := Scalar.indexCast v713
  ![v714.toNat]
def k0_off87 (i : grid0.Coords) (v718 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_627 : BitVec 32 := 8#32
  let v710 : BitVec 32 := Scalar.muli v1 c8_i32_627
  let c2_i32_628 : BitVec 32 := 2#32
  let v711 : BitVec 32 := Scalar.addi v710 c2_i32_628
  let c5_i32_629 : BitVec 32 := 5#32
  let v712 : BitVec 32 := Scalar.shrui v711 c5_i32_629
  let c32_i32_631 : BitVec 32 := 32#32
  let v719 : BitVec 32 := Scalar.muli v712 c32_i32_631
  let v720 : BitVec 32 := Scalar.addi v719 v718
  let c56_i32_632 : BitVec 32 := 56#32
  let v721 : BitVec 32 := Scalar.muli v720 c56_i32_632
  let c24_i32_633 : BitVec 32 := 24#32
  let v722 : BitVec 32 := Scalar.addi v721 c24_i32_633
  let c0_i32_634 : BitVec 32 := 0#32
  let c0_i32_635 : BitVec 32 := 0#32
  ![v722.toNat, 0, 0]

def k0_chk35 (i : grid0.Coords) (v718 : BitVec 32) : Prop :=
  (∀ a, (k0_off87 i v718) a + S8x56x64.size a ≤ S14336x56x64.size a)
theorem k0_off87_inb : ∀ (i : grid0.Coords) (v718 : BitVec 32) (k0_hw35 : k0_chk35 i v718), ∀ a, (k0_off87 i v718) a + S8x56x64.size a ≤ S14336x56x64.size a := fun i v718 k0_hw35 => k0_hw35

def k0_off88 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_638 : BitVec 32 := 8#32
  let v725 : BitVec 32 := Scalar.muli v1 c8_i32_638
  let c2_i32_639 : BitVec 32 := 2#32
  let v726 : BitVec 32 := Scalar.addi v725 c2_i32_639
  let c31_i32_641 : BitVec 32 := 31#32
  let v728 : BitVec 32 := Scalar.andi v726 c31_i32_641
  let v729 : Index := Scalar.indexCast v728
  ![v729.toNat]
def k0_off89 (i : grid0.Coords) (v733 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_638 : BitVec 32 := 8#32
  let v725 : BitVec 32 := Scalar.muli v1 c8_i32_638
  let c2_i32_639 : BitVec 32 := 2#32
  let v726 : BitVec 32 := Scalar.addi v725 c2_i32_639
  let c5_i32_640 : BitVec 32 := 5#32
  let v727 : BitVec 32 := Scalar.shrui v726 c5_i32_640
  let c32_i32_642 : BitVec 32 := 32#32
  let v734 : BitVec 32 := Scalar.muli v727 c32_i32_642
  let v735 : BitVec 32 := Scalar.addi v734 v733
  let c56_i32_643 : BitVec 32 := 56#32
  let v736 : BitVec 32 := Scalar.muli v735 c56_i32_643
  let c24_i32_644 : BitVec 32 := 24#32
  let v737 : BitVec 32 := Scalar.addi v736 c24_i32_644
  let c0_i32_645 : BitVec 32 := 0#32
  let c0_i32_646 : BitVec 32 := 0#32
  ![v737.toNat, 0, 0]

def k0_chk36 (i : grid0.Coords) (v733 : BitVec 32) : Prop :=
  (∀ a, (k0_off89 i v733) a + S8x56x64.size a ≤ S14336x56x64.size a)
theorem k0_off89_inb : ∀ (i : grid0.Coords) (v733 : BitVec 32) (k0_hw36 : k0_chk36 i v733), ∀ a, (k0_off89 i v733) a + S8x56x64.size a ≤ S14336x56x64.size a := fun i v733 k0_hw36 => k0_hw36

def k0_off90 (i : grid0.Coords) (c24_i32_652 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_649 : BitVec 32 := 8#32
  let v740 : BitVec 32 := Scalar.muli v1 c8_i32_649
  let c2_i32_650 : BitVec 32 := 2#32
  let v741 : BitVec 32 := Scalar.addi v740 c2_i32_650
  let c56_i32_651 : BitVec 32 := 56#32
  let v742 : BitVec 32 := Scalar.muli v741 c56_i32_651
  let v743 : BitVec 32 := Scalar.addi v742 c24_i32_652
  let c0_i32_653 : BitVec 32 := 0#32
  let c0_i32_654 : BitVec 32 := 0#32
  ![v743.toNat, 0, 0]
def k0_off91 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_665 : BitVec 32 := 8#32
  let v752 : BitVec 32 := Scalar.muli v1 c8_i32_665
  let c2_i32_666 : BitVec 32 := 2#32
  let v753 : BitVec 32 := Scalar.addi v752 c2_i32_666
  let c31_i32_668 : BitVec 32 := 31#32
  let v755 : BitVec 32 := Scalar.andi v753 c31_i32_668
  let v756 : Index := Scalar.indexCast v755
  ![v756.toNat]
def k0_off92 (i : grid0.Coords) (v760 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_665 : BitVec 32 := 8#32
  let v752 : BitVec 32 := Scalar.muli v1 c8_i32_665
  let c2_i32_666 : BitVec 32 := 2#32
  let v753 : BitVec 32 := Scalar.addi v752 c2_i32_666
  let c5_i32_667 : BitVec 32 := 5#32
  let v754 : BitVec 32 := Scalar.shrui v753 c5_i32_667
  let c32_i32_669 : BitVec 32 := 32#32
  let v761 : BitVec 32 := Scalar.muli v754 c32_i32_669
  let v762 : BitVec 32 := Scalar.addi v761 v760
  let c56_i32_670 : BitVec 32 := 56#32
  let v763 : BitVec 32 := Scalar.muli v762 c56_i32_670
  let c32_i32_671 : BitVec 32 := 32#32
  let v764 : BitVec 32 := Scalar.addi v763 c32_i32_671
  let c0_i32_672 : BitVec 32 := 0#32
  let c0_i32_673 : BitVec 32 := 0#32
  ![v764.toNat, 0, 0]

def k0_chk37 (i : grid0.Coords) (v760 : BitVec 32) : Prop :=
  (∀ a, (k0_off92 i v760) a + S8x56x64.size a ≤ S14336x56x64.size a)
theorem k0_off92_inb : ∀ (i : grid0.Coords) (v760 : BitVec 32) (k0_hw37 : k0_chk37 i v760), ∀ a, (k0_off92 i v760) a + S8x56x64.size a ≤ S14336x56x64.size a := fun i v760 k0_hw37 => k0_hw37

def k0_off93 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_676 : BitVec 32 := 8#32
  let v767 : BitVec 32 := Scalar.muli v1 c8_i32_676
  let c2_i32_677 : BitVec 32 := 2#32
  let v768 : BitVec 32 := Scalar.addi v767 c2_i32_677
  let c31_i32_679 : BitVec 32 := 31#32
  let v770 : BitVec 32 := Scalar.andi v768 c31_i32_679
  let v771 : Index := Scalar.indexCast v770
  ![v771.toNat]
def k0_off94 (i : grid0.Coords) (v775 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_676 : BitVec 32 := 8#32
  let v767 : BitVec 32 := Scalar.muli v1 c8_i32_676
  let c2_i32_677 : BitVec 32 := 2#32
  let v768 : BitVec 32 := Scalar.addi v767 c2_i32_677
  let c5_i32_678 : BitVec 32 := 5#32
  let v769 : BitVec 32 := Scalar.shrui v768 c5_i32_678
  let c32_i32_680 : BitVec 32 := 32#32
  let v776 : BitVec 32 := Scalar.muli v769 c32_i32_680
  let v777 : BitVec 32 := Scalar.addi v776 v775
  let c56_i32_681 : BitVec 32 := 56#32
  let v778 : BitVec 32 := Scalar.muli v777 c56_i32_681
  let c32_i32_682 : BitVec 32 := 32#32
  let v779 : BitVec 32 := Scalar.addi v778 c32_i32_682
  let c0_i32_683 : BitVec 32 := 0#32
  let c0_i32_684 : BitVec 32 := 0#32
  ![v779.toNat, 0, 0]

def k0_chk38 (i : grid0.Coords) (v775 : BitVec 32) : Prop :=
  (∀ a, (k0_off94 i v775) a + S8x56x64.size a ≤ S14336x56x64.size a)
theorem k0_off94_inb : ∀ (i : grid0.Coords) (v775 : BitVec 32) (k0_hw38 : k0_chk38 i v775), ∀ a, (k0_off94 i v775) a + S8x56x64.size a ≤ S14336x56x64.size a := fun i v775 k0_hw38 => k0_hw38

def k0_off95 (i : grid0.Coords) (c32_i32_690 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_687 : BitVec 32 := 8#32
  let v782 : BitVec 32 := Scalar.muli v1 c8_i32_687
  let c2_i32_688 : BitVec 32 := 2#32
  let v783 : BitVec 32 := Scalar.addi v782 c2_i32_688
  let c56_i32_689 : BitVec 32 := 56#32
  let v784 : BitVec 32 := Scalar.muli v783 c56_i32_689
  let v785 : BitVec 32 := Scalar.addi v784 c32_i32_690
  let c0_i32_691 : BitVec 32 := 0#32
  let c0_i32_692 : BitVec 32 := 0#32
  ![v785.toNat, 0, 0]
def k0_off96 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_703 : BitVec 32 := 8#32
  let v794 : BitVec 32 := Scalar.muli v1 c8_i32_703
  let c2_i32_704 : BitVec 32 := 2#32
  let v795 : BitVec 32 := Scalar.addi v794 c2_i32_704
  let c31_i32_706 : BitVec 32 := 31#32
  let v797 : BitVec 32 := Scalar.andi v795 c31_i32_706
  let v798 : Index := Scalar.indexCast v797
  ![v798.toNat]
def k0_off97 (i : grid0.Coords) (v802 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_703 : BitVec 32 := 8#32
  let v794 : BitVec 32 := Scalar.muli v1 c8_i32_703
  let c2_i32_704 : BitVec 32 := 2#32
  let v795 : BitVec 32 := Scalar.addi v794 c2_i32_704
  let c5_i32_705 : BitVec 32 := 5#32
  let v796 : BitVec 32 := Scalar.shrui v795 c5_i32_705
  let c32_i32_707 : BitVec 32 := 32#32
  let v803 : BitVec 32 := Scalar.muli v796 c32_i32_707
  let v804 : BitVec 32 := Scalar.addi v803 v802
  let c56_i32_708 : BitVec 32 := 56#32
  let v805 : BitVec 32 := Scalar.muli v804 c56_i32_708
  let c40_i32_709 : BitVec 32 := 40#32
  let v806 : BitVec 32 := Scalar.addi v805 c40_i32_709
  let c0_i32_710 : BitVec 32 := 0#32
  let c0_i32_711 : BitVec 32 := 0#32
  ![v806.toNat, 0, 0]

def k0_chk39 (i : grid0.Coords) (v802 : BitVec 32) : Prop :=
  (∀ a, (k0_off97 i v802) a + S8x56x64.size a ≤ S14336x56x64.size a)
theorem k0_off97_inb : ∀ (i : grid0.Coords) (v802 : BitVec 32) (k0_hw39 : k0_chk39 i v802), ∀ a, (k0_off97 i v802) a + S8x56x64.size a ≤ S14336x56x64.size a := fun i v802 k0_hw39 => k0_hw39

def k0_off98 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_714 : BitVec 32 := 8#32
  let v809 : BitVec 32 := Scalar.muli v1 c8_i32_714
  let c2_i32_715 : BitVec 32 := 2#32
  let v810 : BitVec 32 := Scalar.addi v809 c2_i32_715
  let c31_i32_717 : BitVec 32 := 31#32
  let v812 : BitVec 32 := Scalar.andi v810 c31_i32_717
  let v813 : Index := Scalar.indexCast v812
  ![v813.toNat]
def k0_off99 (i : grid0.Coords) (v817 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_714 : BitVec 32 := 8#32
  let v809 : BitVec 32 := Scalar.muli v1 c8_i32_714
  let c2_i32_715 : BitVec 32 := 2#32
  let v810 : BitVec 32 := Scalar.addi v809 c2_i32_715
  let c5_i32_716 : BitVec 32 := 5#32
  let v811 : BitVec 32 := Scalar.shrui v810 c5_i32_716
  let c32_i32_718 : BitVec 32 := 32#32
  let v818 : BitVec 32 := Scalar.muli v811 c32_i32_718
  let v819 : BitVec 32 := Scalar.addi v818 v817
  let c56_i32_719 : BitVec 32 := 56#32
  let v820 : BitVec 32 := Scalar.muli v819 c56_i32_719
  let c40_i32_720 : BitVec 32 := 40#32
  let v821 : BitVec 32 := Scalar.addi v820 c40_i32_720
  let c0_i32_721 : BitVec 32 := 0#32
  let c0_i32_722 : BitVec 32 := 0#32
  ![v821.toNat, 0, 0]

def k0_chk40 (i : grid0.Coords) (v817 : BitVec 32) : Prop :=
  (∀ a, (k0_off99 i v817) a + S8x56x64.size a ≤ S14336x56x64.size a)
theorem k0_off99_inb : ∀ (i : grid0.Coords) (v817 : BitVec 32) (k0_hw40 : k0_chk40 i v817), ∀ a, (k0_off99 i v817) a + S8x56x64.size a ≤ S14336x56x64.size a := fun i v817 k0_hw40 => k0_hw40

def k0_off100 (i : grid0.Coords) (c40_i32_728 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_725 : BitVec 32 := 8#32
  let v824 : BitVec 32 := Scalar.muli v1 c8_i32_725
  let c2_i32_726 : BitVec 32 := 2#32
  let v825 : BitVec 32 := Scalar.addi v824 c2_i32_726
  let c56_i32_727 : BitVec 32 := 56#32
  let v826 : BitVec 32 := Scalar.muli v825 c56_i32_727
  let v827 : BitVec 32 := Scalar.addi v826 c40_i32_728
  let c0_i32_729 : BitVec 32 := 0#32
  let c0_i32_730 : BitVec 32 := 0#32
  ![v827.toNat, 0, 0]
def k0_off101 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_741 : BitVec 32 := 8#32
  let v836 : BitVec 32 := Scalar.muli v1 c8_i32_741
  let c2_i32_742 : BitVec 32 := 2#32
  let v837 : BitVec 32 := Scalar.addi v836 c2_i32_742
  let c31_i32_744 : BitVec 32 := 31#32
  let v839 : BitVec 32 := Scalar.andi v837 c31_i32_744
  let v840 : Index := Scalar.indexCast v839
  ![v840.toNat]
def k0_off102 (i : grid0.Coords) (v844 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_741 : BitVec 32 := 8#32
  let v836 : BitVec 32 := Scalar.muli v1 c8_i32_741
  let c2_i32_742 : BitVec 32 := 2#32
  let v837 : BitVec 32 := Scalar.addi v836 c2_i32_742
  let c5_i32_743 : BitVec 32 := 5#32
  let v838 : BitVec 32 := Scalar.shrui v837 c5_i32_743
  let c32_i32_745 : BitVec 32 := 32#32
  let v845 : BitVec 32 := Scalar.muli v838 c32_i32_745
  let v846 : BitVec 32 := Scalar.addi v845 v844
  let c56_i32_746 : BitVec 32 := 56#32
  let v847 : BitVec 32 := Scalar.muli v846 c56_i32_746
  let c48_i32_747 : BitVec 32 := 48#32
  let v848 : BitVec 32 := Scalar.addi v847 c48_i32_747
  let c0_i32_748 : BitVec 32 := 0#32
  let c0_i32_749 : BitVec 32 := 0#32
  ![v848.toNat, 0, 0]

def k0_chk41 (i : grid0.Coords) (v844 : BitVec 32) : Prop :=
  (∀ a, (k0_off102 i v844) a + S8x56x64.size a ≤ S14336x56x64.size a)
theorem k0_off102_inb : ∀ (i : grid0.Coords) (v844 : BitVec 32) (k0_hw41 : k0_chk41 i v844), ∀ a, (k0_off102 i v844) a + S8x56x64.size a ≤ S14336x56x64.size a := fun i v844 k0_hw41 => k0_hw41

def k0_off103 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_752 : BitVec 32 := 8#32
  let v851 : BitVec 32 := Scalar.muli v1 c8_i32_752
  let c2_i32_753 : BitVec 32 := 2#32
  let v852 : BitVec 32 := Scalar.addi v851 c2_i32_753
  let c31_i32_755 : BitVec 32 := 31#32
  let v854 : BitVec 32 := Scalar.andi v852 c31_i32_755
  let v855 : Index := Scalar.indexCast v854
  ![v855.toNat]
def k0_off104 (i : grid0.Coords) (v859 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_752 : BitVec 32 := 8#32
  let v851 : BitVec 32 := Scalar.muli v1 c8_i32_752
  let c2_i32_753 : BitVec 32 := 2#32
  let v852 : BitVec 32 := Scalar.addi v851 c2_i32_753
  let c5_i32_754 : BitVec 32 := 5#32
  let v853 : BitVec 32 := Scalar.shrui v852 c5_i32_754
  let c32_i32_756 : BitVec 32 := 32#32
  let v860 : BitVec 32 := Scalar.muli v853 c32_i32_756
  let v861 : BitVec 32 := Scalar.addi v860 v859
  let c56_i32_757 : BitVec 32 := 56#32
  let v862 : BitVec 32 := Scalar.muli v861 c56_i32_757
  let c48_i32_758 : BitVec 32 := 48#32
  let v863 : BitVec 32 := Scalar.addi v862 c48_i32_758
  let c0_i32_759 : BitVec 32 := 0#32
  let c0_i32_760 : BitVec 32 := 0#32
  ![v863.toNat, 0, 0]

def k0_chk42 (i : grid0.Coords) (v859 : BitVec 32) : Prop :=
  (∀ a, (k0_off104 i v859) a + S8x56x64.size a ≤ S14336x56x64.size a)
theorem k0_off104_inb : ∀ (i : grid0.Coords) (v859 : BitVec 32) (k0_hw42 : k0_chk42 i v859), ∀ a, (k0_off104 i v859) a + S8x56x64.size a ≤ S14336x56x64.size a := fun i v859 k0_hw42 => k0_hw42

def k0_off105 (i : grid0.Coords) (c48_i32_766 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_763 : BitVec 32 := 8#32
  let v866 : BitVec 32 := Scalar.muli v1 c8_i32_763
  let c2_i32_764 : BitVec 32 := 2#32
  let v867 : BitVec 32 := Scalar.addi v866 c2_i32_764
  let c56_i32_765 : BitVec 32 := 56#32
  let v868 : BitVec 32 := Scalar.muli v867 c56_i32_765
  let v869 : BitVec 32 := Scalar.addi v868 c48_i32_766
  let c0_i32_767 : BitVec 32 := 0#32
  let c0_i32_768 : BitVec 32 := 0#32
  ![v869.toNat, 0, 0]
def k0_off106 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_779 : BitVec 32 := 8#32
  let v878 : BitVec 32 := Scalar.muli v1 c8_i32_779
  let c3_i32 : BitVec 32 := 3#32
  let v879 : BitVec 32 := Scalar.addi v878 c3_i32
  let c31_i32_781 : BitVec 32 := 31#32
  let v881 : BitVec 32 := Scalar.andi v879 c31_i32_781
  let v882 : Index := Scalar.indexCast v881
  ![v882.toNat]
def k0_off107 (i : grid0.Coords) (v886 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_779 : BitVec 32 := 8#32
  let v878 : BitVec 32 := Scalar.muli v1 c8_i32_779
  let c3_i32 : BitVec 32 := 3#32
  let v879 : BitVec 32 := Scalar.addi v878 c3_i32
  let c5_i32_780 : BitVec 32 := 5#32
  let v880 : BitVec 32 := Scalar.shrui v879 c5_i32_780
  let c32_i32_782 : BitVec 32 := 32#32
  let v887 : BitVec 32 := Scalar.muli v880 c32_i32_782
  let v888 : BitVec 32 := Scalar.addi v887 v886
  let c56_i32_783 : BitVec 32 := 56#32
  let v889 : BitVec 32 := Scalar.muli v888 c56_i32_783
  let c0_i32_784 : BitVec 32 := 0#32
  let v890 : BitVec 32 := Scalar.addi v889 c0_i32_784
  let c0_i32_785 : BitVec 32 := 0#32
  let c0_i32_786 : BitVec 32 := 0#32
  ![v890.toNat, 0, 0]

def k0_chk43 (i : grid0.Coords) (v886 : BitVec 32) : Prop :=
  (∀ a, (k0_off107 i v886) a + S8x56x64.size a ≤ S14336x56x64.size a)
theorem k0_off107_inb : ∀ (i : grid0.Coords) (v886 : BitVec 32) (k0_hw43 : k0_chk43 i v886), ∀ a, (k0_off107 i v886) a + S8x56x64.size a ≤ S14336x56x64.size a := fun i v886 k0_hw43 => k0_hw43

def k0_off108 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_789 : BitVec 32 := 8#32
  let v893 : BitVec 32 := Scalar.muli v1 c8_i32_789
  let c3_i32_790 : BitVec 32 := 3#32
  let v894 : BitVec 32 := Scalar.addi v893 c3_i32_790
  let c31_i32_792 : BitVec 32 := 31#32
  let v896 : BitVec 32 := Scalar.andi v894 c31_i32_792
  let v897 : Index := Scalar.indexCast v896
  ![v897.toNat]
def k0_off109 (i : grid0.Coords) (v901 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_789 : BitVec 32 := 8#32
  let v893 : BitVec 32 := Scalar.muli v1 c8_i32_789
  let c3_i32_790 : BitVec 32 := 3#32
  let v894 : BitVec 32 := Scalar.addi v893 c3_i32_790
  let c5_i32_791 : BitVec 32 := 5#32
  let v895 : BitVec 32 := Scalar.shrui v894 c5_i32_791
  let c32_i32_793 : BitVec 32 := 32#32
  let v902 : BitVec 32 := Scalar.muli v895 c32_i32_793
  let v903 : BitVec 32 := Scalar.addi v902 v901
  let c56_i32_794 : BitVec 32 := 56#32
  let v904 : BitVec 32 := Scalar.muli v903 c56_i32_794
  let c0_i32_795 : BitVec 32 := 0#32
  let v905 : BitVec 32 := Scalar.addi v904 c0_i32_795
  let c0_i32_796 : BitVec 32 := 0#32
  let c0_i32_797 : BitVec 32 := 0#32
  ![v905.toNat, 0, 0]

def k0_chk44 (i : grid0.Coords) (v901 : BitVec 32) : Prop :=
  (∀ a, (k0_off109 i v901) a + S8x56x64.size a ≤ S14336x56x64.size a)
theorem k0_off109_inb : ∀ (i : grid0.Coords) (v901 : BitVec 32) (k0_hw44 : k0_chk44 i v901), ∀ a, (k0_off109 i v901) a + S8x56x64.size a ≤ S14336x56x64.size a := fun i v901 k0_hw44 => k0_hw44

def k0_off110 (i : grid0.Coords) (c3_i32_801 : BitVec 32) (c0_i32_803 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_800 : BitVec 32 := 8#32
  let v908 : BitVec 32 := Scalar.muli v1 c8_i32_800
  let v909 : BitVec 32 := Scalar.addi v908 c3_i32_801
  let c56_i32_802 : BitVec 32 := 56#32
  let v910 : BitVec 32 := Scalar.muli v909 c56_i32_802
  let v911 : BitVec 32 := Scalar.addi v910 c0_i32_803
  let c0_i32_804 : BitVec 32 := 0#32
  let c0_i32_805 : BitVec 32 := 0#32
  ![v911.toNat, 0, 0]
def k0_off110_at (r : Fin 2) : BitVec 32 × BitVec 32 :=
  if r.val < 1 then
    (3#32, 0#32)
  else
    (2#32, 48#32)
def k0_off111 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_816 : BitVec 32 := 8#32
  let v920 : BitVec 32 := Scalar.muli v1 c8_i32_816
  let c3_i32_817 : BitVec 32 := 3#32
  let v921 : BitVec 32 := Scalar.addi v920 c3_i32_817
  let c31_i32_819 : BitVec 32 := 31#32
  let v923 : BitVec 32 := Scalar.andi v921 c31_i32_819
  let v924 : Index := Scalar.indexCast v923
  ![v924.toNat]
def k0_off112 (i : grid0.Coords) (v928 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_816 : BitVec 32 := 8#32
  let v920 : BitVec 32 := Scalar.muli v1 c8_i32_816
  let c3_i32_817 : BitVec 32 := 3#32
  let v921 : BitVec 32 := Scalar.addi v920 c3_i32_817
  let c5_i32_818 : BitVec 32 := 5#32
  let v922 : BitVec 32 := Scalar.shrui v921 c5_i32_818
  let c32_i32_820 : BitVec 32 := 32#32
  let v929 : BitVec 32 := Scalar.muli v922 c32_i32_820
  let v930 : BitVec 32 := Scalar.addi v929 v928
  let c56_i32_821 : BitVec 32 := 56#32
  let v931 : BitVec 32 := Scalar.muli v930 c56_i32_821
  let c8_i32_822 : BitVec 32 := 8#32
  let v932 : BitVec 32 := Scalar.addi v931 c8_i32_822
  let c0_i32_823 : BitVec 32 := 0#32
  let c0_i32_824 : BitVec 32 := 0#32
  ![v932.toNat, 0, 0]

def k0_chk45 (i : grid0.Coords) (v928 : BitVec 32) : Prop :=
  (∀ a, (k0_off112 i v928) a + S8x56x64.size a ≤ S14336x56x64.size a)
theorem k0_off112_inb : ∀ (i : grid0.Coords) (v928 : BitVec 32) (k0_hw45 : k0_chk45 i v928), ∀ a, (k0_off112 i v928) a + S8x56x64.size a ≤ S14336x56x64.size a := fun i v928 k0_hw45 => k0_hw45

def k0_off113 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_827 : BitVec 32 := 8#32
  let v935 : BitVec 32 := Scalar.muli v1 c8_i32_827
  let c3_i32_828 : BitVec 32 := 3#32
  let v936 : BitVec 32 := Scalar.addi v935 c3_i32_828
  let c31_i32_830 : BitVec 32 := 31#32
  let v938 : BitVec 32 := Scalar.andi v936 c31_i32_830
  let v939 : Index := Scalar.indexCast v938
  ![v939.toNat]
def k0_off114 (i : grid0.Coords) (v943 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_827 : BitVec 32 := 8#32
  let v935 : BitVec 32 := Scalar.muli v1 c8_i32_827
  let c3_i32_828 : BitVec 32 := 3#32
  let v936 : BitVec 32 := Scalar.addi v935 c3_i32_828
  let c5_i32_829 : BitVec 32 := 5#32
  let v937 : BitVec 32 := Scalar.shrui v936 c5_i32_829
  let c32_i32_831 : BitVec 32 := 32#32
  let v944 : BitVec 32 := Scalar.muli v937 c32_i32_831
  let v945 : BitVec 32 := Scalar.addi v944 v943
  let c56_i32_832 : BitVec 32 := 56#32
  let v946 : BitVec 32 := Scalar.muli v945 c56_i32_832
  let c8_i32_833 : BitVec 32 := 8#32
  let v947 : BitVec 32 := Scalar.addi v946 c8_i32_833
  let c0_i32_834 : BitVec 32 := 0#32
  let c0_i32_835 : BitVec 32 := 0#32
  ![v947.toNat, 0, 0]

def k0_chk46 (i : grid0.Coords) (v943 : BitVec 32) : Prop :=
  (∀ a, (k0_off114 i v943) a + S8x56x64.size a ≤ S14336x56x64.size a)
theorem k0_off114_inb : ∀ (i : grid0.Coords) (v943 : BitVec 32) (k0_hw46 : k0_chk46 i v943), ∀ a, (k0_off114 i v943) a + S8x56x64.size a ≤ S14336x56x64.size a := fun i v943 k0_hw46 => k0_hw46

def k0_off115 (i : grid0.Coords) (c8_i32_841 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_838 : BitVec 32 := 8#32
  let v950 : BitVec 32 := Scalar.muli v1 c8_i32_838
  let c3_i32_839 : BitVec 32 := 3#32
  let v951 : BitVec 32 := Scalar.addi v950 c3_i32_839
  let c56_i32_840 : BitVec 32 := 56#32
  let v952 : BitVec 32 := Scalar.muli v951 c56_i32_840
  let v953 : BitVec 32 := Scalar.addi v952 c8_i32_841
  let c0_i32_842 : BitVec 32 := 0#32
  let c0_i32_843 : BitVec 32 := 0#32
  ![v953.toNat, 0, 0]
def k0_off116 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_854 : BitVec 32 := 8#32
  let v962 : BitVec 32 := Scalar.muli v1 c8_i32_854
  let c3_i32_855 : BitVec 32 := 3#32
  let v963 : BitVec 32 := Scalar.addi v962 c3_i32_855
  let c31_i32_857 : BitVec 32 := 31#32
  let v965 : BitVec 32 := Scalar.andi v963 c31_i32_857
  let v966 : Index := Scalar.indexCast v965
  ![v966.toNat]
def k0_off117 (i : grid0.Coords) (v970 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_854 : BitVec 32 := 8#32
  let v962 : BitVec 32 := Scalar.muli v1 c8_i32_854
  let c3_i32_855 : BitVec 32 := 3#32
  let v963 : BitVec 32 := Scalar.addi v962 c3_i32_855
  let c5_i32_856 : BitVec 32 := 5#32
  let v964 : BitVec 32 := Scalar.shrui v963 c5_i32_856
  let c32_i32_858 : BitVec 32 := 32#32
  let v971 : BitVec 32 := Scalar.muli v964 c32_i32_858
  let v972 : BitVec 32 := Scalar.addi v971 v970
  let c56_i32_859 : BitVec 32 := 56#32
  let v973 : BitVec 32 := Scalar.muli v972 c56_i32_859
  let c16_i32_860 : BitVec 32 := 16#32
  let v974 : BitVec 32 := Scalar.addi v973 c16_i32_860
  let c0_i32_861 : BitVec 32 := 0#32
  let c0_i32_862 : BitVec 32 := 0#32
  ![v974.toNat, 0, 0]

def k0_chk47 (i : grid0.Coords) (v970 : BitVec 32) : Prop :=
  (∀ a, (k0_off117 i v970) a + S8x56x64.size a ≤ S14336x56x64.size a)
theorem k0_off117_inb : ∀ (i : grid0.Coords) (v970 : BitVec 32) (k0_hw47 : k0_chk47 i v970), ∀ a, (k0_off117 i v970) a + S8x56x64.size a ≤ S14336x56x64.size a := fun i v970 k0_hw47 => k0_hw47

def k0_off118 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_865 : BitVec 32 := 8#32
  let v977 : BitVec 32 := Scalar.muli v1 c8_i32_865
  let c3_i32_866 : BitVec 32 := 3#32
  let v978 : BitVec 32 := Scalar.addi v977 c3_i32_866
  let c31_i32_868 : BitVec 32 := 31#32
  let v980 : BitVec 32 := Scalar.andi v978 c31_i32_868
  let v981 : Index := Scalar.indexCast v980
  ![v981.toNat]
def k0_off119 (i : grid0.Coords) (v985 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_865 : BitVec 32 := 8#32
  let v977 : BitVec 32 := Scalar.muli v1 c8_i32_865
  let c3_i32_866 : BitVec 32 := 3#32
  let v978 : BitVec 32 := Scalar.addi v977 c3_i32_866
  let c5_i32_867 : BitVec 32 := 5#32
  let v979 : BitVec 32 := Scalar.shrui v978 c5_i32_867
  let c32_i32_869 : BitVec 32 := 32#32
  let v986 : BitVec 32 := Scalar.muli v979 c32_i32_869
  let v987 : BitVec 32 := Scalar.addi v986 v985
  let c56_i32_870 : BitVec 32 := 56#32
  let v988 : BitVec 32 := Scalar.muli v987 c56_i32_870
  let c16_i32_871 : BitVec 32 := 16#32
  let v989 : BitVec 32 := Scalar.addi v988 c16_i32_871
  let c0_i32_872 : BitVec 32 := 0#32
  let c0_i32_873 : BitVec 32 := 0#32
  ![v989.toNat, 0, 0]

def k0_chk48 (i : grid0.Coords) (v985 : BitVec 32) : Prop :=
  (∀ a, (k0_off119 i v985) a + S8x56x64.size a ≤ S14336x56x64.size a)
theorem k0_off119_inb : ∀ (i : grid0.Coords) (v985 : BitVec 32) (k0_hw48 : k0_chk48 i v985), ∀ a, (k0_off119 i v985) a + S8x56x64.size a ≤ S14336x56x64.size a := fun i v985 k0_hw48 => k0_hw48

def k0_off120 (i : grid0.Coords) (c16_i32_879 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_876 : BitVec 32 := 8#32
  let v992 : BitVec 32 := Scalar.muli v1 c8_i32_876
  let c3_i32_877 : BitVec 32 := 3#32
  let v993 : BitVec 32 := Scalar.addi v992 c3_i32_877
  let c56_i32_878 : BitVec 32 := 56#32
  let v994 : BitVec 32 := Scalar.muli v993 c56_i32_878
  let v995 : BitVec 32 := Scalar.addi v994 c16_i32_879
  let c0_i32_880 : BitVec 32 := 0#32
  let c0_i32_881 : BitVec 32 := 0#32
  ![v995.toNat, 0, 0]
def k0_off121 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_892 : BitVec 32 := 8#32
  let v1004 : BitVec 32 := Scalar.muli v1 c8_i32_892
  let c3_i32_893 : BitVec 32 := 3#32
  let v1005 : BitVec 32 := Scalar.addi v1004 c3_i32_893
  let c31_i32_895 : BitVec 32 := 31#32
  let v1007 : BitVec 32 := Scalar.andi v1005 c31_i32_895
  let v1008 : Index := Scalar.indexCast v1007
  ![v1008.toNat]
def k0_off122 (i : grid0.Coords) (v1012 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_892 : BitVec 32 := 8#32
  let v1004 : BitVec 32 := Scalar.muli v1 c8_i32_892
  let c3_i32_893 : BitVec 32 := 3#32
  let v1005 : BitVec 32 := Scalar.addi v1004 c3_i32_893
  let c5_i32_894 : BitVec 32 := 5#32
  let v1006 : BitVec 32 := Scalar.shrui v1005 c5_i32_894
  let c32_i32_896 : BitVec 32 := 32#32
  let v1013 : BitVec 32 := Scalar.muli v1006 c32_i32_896
  let v1014 : BitVec 32 := Scalar.addi v1013 v1012
  let c56_i32_897 : BitVec 32 := 56#32
  let v1015 : BitVec 32 := Scalar.muli v1014 c56_i32_897
  let c24_i32_898 : BitVec 32 := 24#32
  let v1016 : BitVec 32 := Scalar.addi v1015 c24_i32_898
  let c0_i32_899 : BitVec 32 := 0#32
  let c0_i32_900 : BitVec 32 := 0#32
  ![v1016.toNat, 0, 0]

def k0_chk49 (i : grid0.Coords) (v1012 : BitVec 32) : Prop :=
  (∀ a, (k0_off122 i v1012) a + S8x56x64.size a ≤ S14336x56x64.size a)
theorem k0_off122_inb : ∀ (i : grid0.Coords) (v1012 : BitVec 32) (k0_hw49 : k0_chk49 i v1012), ∀ a, (k0_off122 i v1012) a + S8x56x64.size a ≤ S14336x56x64.size a := fun i v1012 k0_hw49 => k0_hw49

def k0_off123 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_903 : BitVec 32 := 8#32
  let v1019 : BitVec 32 := Scalar.muli v1 c8_i32_903
  let c3_i32_904 : BitVec 32 := 3#32
  let v1020 : BitVec 32 := Scalar.addi v1019 c3_i32_904
  let c31_i32_906 : BitVec 32 := 31#32
  let v1022 : BitVec 32 := Scalar.andi v1020 c31_i32_906
  let v1023 : Index := Scalar.indexCast v1022
  ![v1023.toNat]
def k0_off124 (i : grid0.Coords) (v1027 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_903 : BitVec 32 := 8#32
  let v1019 : BitVec 32 := Scalar.muli v1 c8_i32_903
  let c3_i32_904 : BitVec 32 := 3#32
  let v1020 : BitVec 32 := Scalar.addi v1019 c3_i32_904
  let c5_i32_905 : BitVec 32 := 5#32
  let v1021 : BitVec 32 := Scalar.shrui v1020 c5_i32_905
  let c32_i32_907 : BitVec 32 := 32#32
  let v1028 : BitVec 32 := Scalar.muli v1021 c32_i32_907
  let v1029 : BitVec 32 := Scalar.addi v1028 v1027
  let c56_i32_908 : BitVec 32 := 56#32
  let v1030 : BitVec 32 := Scalar.muli v1029 c56_i32_908
  let c24_i32_909 : BitVec 32 := 24#32
  let v1031 : BitVec 32 := Scalar.addi v1030 c24_i32_909
  let c0_i32_910 : BitVec 32 := 0#32
  let c0_i32_911 : BitVec 32 := 0#32
  ![v1031.toNat, 0, 0]

def k0_chk50 (i : grid0.Coords) (v1027 : BitVec 32) : Prop :=
  (∀ a, (k0_off124 i v1027) a + S8x56x64.size a ≤ S14336x56x64.size a)
theorem k0_off124_inb : ∀ (i : grid0.Coords) (v1027 : BitVec 32) (k0_hw50 : k0_chk50 i v1027), ∀ a, (k0_off124 i v1027) a + S8x56x64.size a ≤ S14336x56x64.size a := fun i v1027 k0_hw50 => k0_hw50

def k0_off125 (i : grid0.Coords) (c24_i32_917 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_914 : BitVec 32 := 8#32
  let v1034 : BitVec 32 := Scalar.muli v1 c8_i32_914
  let c3_i32_915 : BitVec 32 := 3#32
  let v1035 : BitVec 32 := Scalar.addi v1034 c3_i32_915
  let c56_i32_916 : BitVec 32 := 56#32
  let v1036 : BitVec 32 := Scalar.muli v1035 c56_i32_916
  let v1037 : BitVec 32 := Scalar.addi v1036 c24_i32_917
  let c0_i32_918 : BitVec 32 := 0#32
  let c0_i32_919 : BitVec 32 := 0#32
  ![v1037.toNat, 0, 0]
def k0_off126 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_930 : BitVec 32 := 8#32
  let v1046 : BitVec 32 := Scalar.muli v1 c8_i32_930
  let c3_i32_931 : BitVec 32 := 3#32
  let v1047 : BitVec 32 := Scalar.addi v1046 c3_i32_931
  let c31_i32_933 : BitVec 32 := 31#32
  let v1049 : BitVec 32 := Scalar.andi v1047 c31_i32_933
  let v1050 : Index := Scalar.indexCast v1049
  ![v1050.toNat]
def k0_off127 (i : grid0.Coords) (v1054 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_930 : BitVec 32 := 8#32
  let v1046 : BitVec 32 := Scalar.muli v1 c8_i32_930
  let c3_i32_931 : BitVec 32 := 3#32
  let v1047 : BitVec 32 := Scalar.addi v1046 c3_i32_931
  let c5_i32_932 : BitVec 32 := 5#32
  let v1048 : BitVec 32 := Scalar.shrui v1047 c5_i32_932
  let c32_i32_934 : BitVec 32 := 32#32
  let v1055 : BitVec 32 := Scalar.muli v1048 c32_i32_934
  let v1056 : BitVec 32 := Scalar.addi v1055 v1054
  let c56_i32_935 : BitVec 32 := 56#32
  let v1057 : BitVec 32 := Scalar.muli v1056 c56_i32_935
  let c32_i32_936 : BitVec 32 := 32#32
  let v1058 : BitVec 32 := Scalar.addi v1057 c32_i32_936
  let c0_i32_937 : BitVec 32 := 0#32
  let c0_i32_938 : BitVec 32 := 0#32
  ![v1058.toNat, 0, 0]

def k0_chk51 (i : grid0.Coords) (v1054 : BitVec 32) : Prop :=
  (∀ a, (k0_off127 i v1054) a + S8x56x64.size a ≤ S14336x56x64.size a)
theorem k0_off127_inb : ∀ (i : grid0.Coords) (v1054 : BitVec 32) (k0_hw51 : k0_chk51 i v1054), ∀ a, (k0_off127 i v1054) a + S8x56x64.size a ≤ S14336x56x64.size a := fun i v1054 k0_hw51 => k0_hw51

def k0_off128 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_941 : BitVec 32 := 8#32
  let v1061 : BitVec 32 := Scalar.muli v1 c8_i32_941
  let c3_i32_942 : BitVec 32 := 3#32
  let v1062 : BitVec 32 := Scalar.addi v1061 c3_i32_942
  let c31_i32_944 : BitVec 32 := 31#32
  let v1064 : BitVec 32 := Scalar.andi v1062 c31_i32_944
  let v1065 : Index := Scalar.indexCast v1064
  ![v1065.toNat]
def k0_off129 (i : grid0.Coords) (v1069 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_941 : BitVec 32 := 8#32
  let v1061 : BitVec 32 := Scalar.muli v1 c8_i32_941
  let c3_i32_942 : BitVec 32 := 3#32
  let v1062 : BitVec 32 := Scalar.addi v1061 c3_i32_942
  let c5_i32_943 : BitVec 32 := 5#32
  let v1063 : BitVec 32 := Scalar.shrui v1062 c5_i32_943
  let c32_i32_945 : BitVec 32 := 32#32
  let v1070 : BitVec 32 := Scalar.muli v1063 c32_i32_945
  let v1071 : BitVec 32 := Scalar.addi v1070 v1069
  let c56_i32_946 : BitVec 32 := 56#32
  let v1072 : BitVec 32 := Scalar.muli v1071 c56_i32_946
  let c32_i32_947 : BitVec 32 := 32#32
  let v1073 : BitVec 32 := Scalar.addi v1072 c32_i32_947
  let c0_i32_948 : BitVec 32 := 0#32
  let c0_i32_949 : BitVec 32 := 0#32
  ![v1073.toNat, 0, 0]

def k0_chk52 (i : grid0.Coords) (v1069 : BitVec 32) : Prop :=
  (∀ a, (k0_off129 i v1069) a + S8x56x64.size a ≤ S14336x56x64.size a)
theorem k0_off129_inb : ∀ (i : grid0.Coords) (v1069 : BitVec 32) (k0_hw52 : k0_chk52 i v1069), ∀ a, (k0_off129 i v1069) a + S8x56x64.size a ≤ S14336x56x64.size a := fun i v1069 k0_hw52 => k0_hw52

def k0_off130 (i : grid0.Coords) (c32_i32_955 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_952 : BitVec 32 := 8#32
  let v1076 : BitVec 32 := Scalar.muli v1 c8_i32_952
  let c3_i32_953 : BitVec 32 := 3#32
  let v1077 : BitVec 32 := Scalar.addi v1076 c3_i32_953
  let c56_i32_954 : BitVec 32 := 56#32
  let v1078 : BitVec 32 := Scalar.muli v1077 c56_i32_954
  let v1079 : BitVec 32 := Scalar.addi v1078 c32_i32_955
  let c0_i32_956 : BitVec 32 := 0#32
  let c0_i32_957 : BitVec 32 := 0#32
  ![v1079.toNat, 0, 0]
def k0_off131 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_968 : BitVec 32 := 8#32
  let v1088 : BitVec 32 := Scalar.muli v1 c8_i32_968
  let c3_i32_969 : BitVec 32 := 3#32
  let v1089 : BitVec 32 := Scalar.addi v1088 c3_i32_969
  let c31_i32_971 : BitVec 32 := 31#32
  let v1091 : BitVec 32 := Scalar.andi v1089 c31_i32_971
  let v1092 : Index := Scalar.indexCast v1091
  ![v1092.toNat]
def k0_off132 (i : grid0.Coords) (v1096 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_968 : BitVec 32 := 8#32
  let v1088 : BitVec 32 := Scalar.muli v1 c8_i32_968
  let c3_i32_969 : BitVec 32 := 3#32
  let v1089 : BitVec 32 := Scalar.addi v1088 c3_i32_969
  let c5_i32_970 : BitVec 32 := 5#32
  let v1090 : BitVec 32 := Scalar.shrui v1089 c5_i32_970
  let c32_i32_972 : BitVec 32 := 32#32
  let v1097 : BitVec 32 := Scalar.muli v1090 c32_i32_972
  let v1098 : BitVec 32 := Scalar.addi v1097 v1096
  let c56_i32_973 : BitVec 32 := 56#32
  let v1099 : BitVec 32 := Scalar.muli v1098 c56_i32_973
  let c40_i32_974 : BitVec 32 := 40#32
  let v1100 : BitVec 32 := Scalar.addi v1099 c40_i32_974
  let c0_i32_975 : BitVec 32 := 0#32
  let c0_i32_976 : BitVec 32 := 0#32
  ![v1100.toNat, 0, 0]

def k0_chk53 (i : grid0.Coords) (v1096 : BitVec 32) : Prop :=
  (∀ a, (k0_off132 i v1096) a + S8x56x64.size a ≤ S14336x56x64.size a)
theorem k0_off132_inb : ∀ (i : grid0.Coords) (v1096 : BitVec 32) (k0_hw53 : k0_chk53 i v1096), ∀ a, (k0_off132 i v1096) a + S8x56x64.size a ≤ S14336x56x64.size a := fun i v1096 k0_hw53 => k0_hw53

def k0_off133 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_979 : BitVec 32 := 8#32
  let v1103 : BitVec 32 := Scalar.muli v1 c8_i32_979
  let c3_i32_980 : BitVec 32 := 3#32
  let v1104 : BitVec 32 := Scalar.addi v1103 c3_i32_980
  let c31_i32_982 : BitVec 32 := 31#32
  let v1106 : BitVec 32 := Scalar.andi v1104 c31_i32_982
  let v1107 : Index := Scalar.indexCast v1106
  ![v1107.toNat]
def k0_off134 (i : grid0.Coords) (v1111 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_979 : BitVec 32 := 8#32
  let v1103 : BitVec 32 := Scalar.muli v1 c8_i32_979
  let c3_i32_980 : BitVec 32 := 3#32
  let v1104 : BitVec 32 := Scalar.addi v1103 c3_i32_980
  let c5_i32_981 : BitVec 32 := 5#32
  let v1105 : BitVec 32 := Scalar.shrui v1104 c5_i32_981
  let c32_i32_983 : BitVec 32 := 32#32
  let v1112 : BitVec 32 := Scalar.muli v1105 c32_i32_983
  let v1113 : BitVec 32 := Scalar.addi v1112 v1111
  let c56_i32_984 : BitVec 32 := 56#32
  let v1114 : BitVec 32 := Scalar.muli v1113 c56_i32_984
  let c40_i32_985 : BitVec 32 := 40#32
  let v1115 : BitVec 32 := Scalar.addi v1114 c40_i32_985
  let c0_i32_986 : BitVec 32 := 0#32
  let c0_i32_987 : BitVec 32 := 0#32
  ![v1115.toNat, 0, 0]

def k0_chk54 (i : grid0.Coords) (v1111 : BitVec 32) : Prop :=
  (∀ a, (k0_off134 i v1111) a + S8x56x64.size a ≤ S14336x56x64.size a)
theorem k0_off134_inb : ∀ (i : grid0.Coords) (v1111 : BitVec 32) (k0_hw54 : k0_chk54 i v1111), ∀ a, (k0_off134 i v1111) a + S8x56x64.size a ≤ S14336x56x64.size a := fun i v1111 k0_hw54 => k0_hw54

def k0_off135 (i : grid0.Coords) (c40_i32_993 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_990 : BitVec 32 := 8#32
  let v1118 : BitVec 32 := Scalar.muli v1 c8_i32_990
  let c3_i32_991 : BitVec 32 := 3#32
  let v1119 : BitVec 32 := Scalar.addi v1118 c3_i32_991
  let c56_i32_992 : BitVec 32 := 56#32
  let v1120 : BitVec 32 := Scalar.muli v1119 c56_i32_992
  let v1121 : BitVec 32 := Scalar.addi v1120 c40_i32_993
  let c0_i32_994 : BitVec 32 := 0#32
  let c0_i32_995 : BitVec 32 := 0#32
  ![v1121.toNat, 0, 0]
def k0_off136 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1006 : BitVec 32 := 8#32
  let v1130 : BitVec 32 := Scalar.muli v1 c8_i32_1006
  let c3_i32_1007 : BitVec 32 := 3#32
  let v1131 : BitVec 32 := Scalar.addi v1130 c3_i32_1007
  let c31_i32_1009 : BitVec 32 := 31#32
  let v1133 : BitVec 32 := Scalar.andi v1131 c31_i32_1009
  let v1134 : Index := Scalar.indexCast v1133
  ![v1134.toNat]
def k0_off137 (i : grid0.Coords) (v1138 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1006 : BitVec 32 := 8#32
  let v1130 : BitVec 32 := Scalar.muli v1 c8_i32_1006
  let c3_i32_1007 : BitVec 32 := 3#32
  let v1131 : BitVec 32 := Scalar.addi v1130 c3_i32_1007
  let c5_i32_1008 : BitVec 32 := 5#32
  let v1132 : BitVec 32 := Scalar.shrui v1131 c5_i32_1008
  let c32_i32_1010 : BitVec 32 := 32#32
  let v1139 : BitVec 32 := Scalar.muli v1132 c32_i32_1010
  let v1140 : BitVec 32 := Scalar.addi v1139 v1138
  let c56_i32_1011 : BitVec 32 := 56#32
  let v1141 : BitVec 32 := Scalar.muli v1140 c56_i32_1011
  let c48_i32_1012 : BitVec 32 := 48#32
  let v1142 : BitVec 32 := Scalar.addi v1141 c48_i32_1012
  let c0_i32_1013 : BitVec 32 := 0#32
  let c0_i32_1014 : BitVec 32 := 0#32
  ![v1142.toNat, 0, 0]

def k0_chk55 (i : grid0.Coords) (v1138 : BitVec 32) : Prop :=
  (∀ a, (k0_off137 i v1138) a + S8x56x64.size a ≤ S14336x56x64.size a)
theorem k0_off137_inb : ∀ (i : grid0.Coords) (v1138 : BitVec 32) (k0_hw55 : k0_chk55 i v1138), ∀ a, (k0_off137 i v1138) a + S8x56x64.size a ≤ S14336x56x64.size a := fun i v1138 k0_hw55 => k0_hw55

def k0_off138 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1017 : BitVec 32 := 8#32
  let v1145 : BitVec 32 := Scalar.muli v1 c8_i32_1017
  let c3_i32_1018 : BitVec 32 := 3#32
  let v1146 : BitVec 32 := Scalar.addi v1145 c3_i32_1018
  let c31_i32_1020 : BitVec 32 := 31#32
  let v1148 : BitVec 32 := Scalar.andi v1146 c31_i32_1020
  let v1149 : Index := Scalar.indexCast v1148
  ![v1149.toNat]
def k0_off139 (i : grid0.Coords) (v1153 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1017 : BitVec 32 := 8#32
  let v1145 : BitVec 32 := Scalar.muli v1 c8_i32_1017
  let c3_i32_1018 : BitVec 32 := 3#32
  let v1146 : BitVec 32 := Scalar.addi v1145 c3_i32_1018
  let c5_i32_1019 : BitVec 32 := 5#32
  let v1147 : BitVec 32 := Scalar.shrui v1146 c5_i32_1019
  let c32_i32_1021 : BitVec 32 := 32#32
  let v1154 : BitVec 32 := Scalar.muli v1147 c32_i32_1021
  let v1155 : BitVec 32 := Scalar.addi v1154 v1153
  let c56_i32_1022 : BitVec 32 := 56#32
  let v1156 : BitVec 32 := Scalar.muli v1155 c56_i32_1022
  let c48_i32_1023 : BitVec 32 := 48#32
  let v1157 : BitVec 32 := Scalar.addi v1156 c48_i32_1023
  let c0_i32_1024 : BitVec 32 := 0#32
  let c0_i32_1025 : BitVec 32 := 0#32
  ![v1157.toNat, 0, 0]

def k0_chk56 (i : grid0.Coords) (v1153 : BitVec 32) : Prop :=
  (∀ a, (k0_off139 i v1153) a + S8x56x64.size a ≤ S14336x56x64.size a)
theorem k0_off139_inb : ∀ (i : grid0.Coords) (v1153 : BitVec 32) (k0_hw56 : k0_chk56 i v1153), ∀ a, (k0_off139 i v1153) a + S8x56x64.size a ≤ S14336x56x64.size a := fun i v1153 k0_hw56 => k0_hw56

def k0_off140 (i : grid0.Coords) (c48_i32_1031 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1028 : BitVec 32 := 8#32
  let v1160 : BitVec 32 := Scalar.muli v1 c8_i32_1028
  let c3_i32_1029 : BitVec 32 := 3#32
  let v1161 : BitVec 32 := Scalar.addi v1160 c3_i32_1029
  let c56_i32_1030 : BitVec 32 := 56#32
  let v1162 : BitVec 32 := Scalar.muli v1161 c56_i32_1030
  let v1163 : BitVec 32 := Scalar.addi v1162 c48_i32_1031
  let c0_i32_1032 : BitVec 32 := 0#32
  let c0_i32_1033 : BitVec 32 := 0#32
  ![v1163.toNat, 0, 0]
def k0_off141 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1044 : BitVec 32 := 8#32
  let v1172 : BitVec 32 := Scalar.muli v1 c8_i32_1044
  let c4_i32 : BitVec 32 := 4#32
  let v1173 : BitVec 32 := Scalar.addi v1172 c4_i32
  let c31_i32_1046 : BitVec 32 := 31#32
  let v1175 : BitVec 32 := Scalar.andi v1173 c31_i32_1046
  let v1176 : Index := Scalar.indexCast v1175
  ![v1176.toNat]
def k0_off142 (i : grid0.Coords) (v1180 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1044 : BitVec 32 := 8#32
  let v1172 : BitVec 32 := Scalar.muli v1 c8_i32_1044
  let c4_i32 : BitVec 32 := 4#32
  let v1173 : BitVec 32 := Scalar.addi v1172 c4_i32
  let c5_i32_1045 : BitVec 32 := 5#32
  let v1174 : BitVec 32 := Scalar.shrui v1173 c5_i32_1045
  let c32_i32_1047 : BitVec 32 := 32#32
  let v1181 : BitVec 32 := Scalar.muli v1174 c32_i32_1047
  let v1182 : BitVec 32 := Scalar.addi v1181 v1180
  let c56_i32_1048 : BitVec 32 := 56#32
  let v1183 : BitVec 32 := Scalar.muli v1182 c56_i32_1048
  let c0_i32_1049 : BitVec 32 := 0#32
  let v1184 : BitVec 32 := Scalar.addi v1183 c0_i32_1049
  let c0_i32_1050 : BitVec 32 := 0#32
  let c0_i32_1051 : BitVec 32 := 0#32
  ![v1184.toNat, 0, 0]

def k0_chk57 (i : grid0.Coords) (v1180 : BitVec 32) : Prop :=
  (∀ a, (k0_off142 i v1180) a + S8x56x64.size a ≤ S14336x56x64.size a)
theorem k0_off142_inb : ∀ (i : grid0.Coords) (v1180 : BitVec 32) (k0_hw57 : k0_chk57 i v1180), ∀ a, (k0_off142 i v1180) a + S8x56x64.size a ≤ S14336x56x64.size a := fun i v1180 k0_hw57 => k0_hw57

def k0_off143 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1054 : BitVec 32 := 8#32
  let v1187 : BitVec 32 := Scalar.muli v1 c8_i32_1054
  let c4_i32_1055 : BitVec 32 := 4#32
  let v1188 : BitVec 32 := Scalar.addi v1187 c4_i32_1055
  let c31_i32_1057 : BitVec 32 := 31#32
  let v1190 : BitVec 32 := Scalar.andi v1188 c31_i32_1057
  let v1191 : Index := Scalar.indexCast v1190
  ![v1191.toNat]
def k0_off144 (i : grid0.Coords) (v1195 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1054 : BitVec 32 := 8#32
  let v1187 : BitVec 32 := Scalar.muli v1 c8_i32_1054
  let c4_i32_1055 : BitVec 32 := 4#32
  let v1188 : BitVec 32 := Scalar.addi v1187 c4_i32_1055
  let c5_i32_1056 : BitVec 32 := 5#32
  let v1189 : BitVec 32 := Scalar.shrui v1188 c5_i32_1056
  let c32_i32_1058 : BitVec 32 := 32#32
  let v1196 : BitVec 32 := Scalar.muli v1189 c32_i32_1058
  let v1197 : BitVec 32 := Scalar.addi v1196 v1195
  let c56_i32_1059 : BitVec 32 := 56#32
  let v1198 : BitVec 32 := Scalar.muli v1197 c56_i32_1059
  let c0_i32_1060 : BitVec 32 := 0#32
  let v1199 : BitVec 32 := Scalar.addi v1198 c0_i32_1060
  let c0_i32_1061 : BitVec 32 := 0#32
  let c0_i32_1062 : BitVec 32 := 0#32
  ![v1199.toNat, 0, 0]

def k0_chk58 (i : grid0.Coords) (v1195 : BitVec 32) : Prop :=
  (∀ a, (k0_off144 i v1195) a + S8x56x64.size a ≤ S14336x56x64.size a)
theorem k0_off144_inb : ∀ (i : grid0.Coords) (v1195 : BitVec 32) (k0_hw58 : k0_chk58 i v1195), ∀ a, (k0_off144 i v1195) a + S8x56x64.size a ≤ S14336x56x64.size a := fun i v1195 k0_hw58 => k0_hw58

def k0_off145 (i : grid0.Coords) (c4_i32_1066 : BitVec 32) (c0_i32_1068 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1065 : BitVec 32 := 8#32
  let v1202 : BitVec 32 := Scalar.muli v1 c8_i32_1065
  let v1203 : BitVec 32 := Scalar.addi v1202 c4_i32_1066
  let c56_i32_1067 : BitVec 32 := 56#32
  let v1204 : BitVec 32 := Scalar.muli v1203 c56_i32_1067
  let v1205 : BitVec 32 := Scalar.addi v1204 c0_i32_1068
  let c0_i32_1069 : BitVec 32 := 0#32
  let c0_i32_1070 : BitVec 32 := 0#32
  ![v1205.toNat, 0, 0]
def k0_off145_at (r : Fin 2) : BitVec 32 × BitVec 32 :=
  if r.val < 1 then
    (4#32, 0#32)
  else
    (3#32, 48#32)
def k0_off146 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1081 : BitVec 32 := 8#32
  let v1214 : BitVec 32 := Scalar.muli v1 c8_i32_1081
  let c4_i32_1082 : BitVec 32 := 4#32
  let v1215 : BitVec 32 := Scalar.addi v1214 c4_i32_1082
  let c31_i32_1084 : BitVec 32 := 31#32
  let v1217 : BitVec 32 := Scalar.andi v1215 c31_i32_1084
  let v1218 : Index := Scalar.indexCast v1217
  ![v1218.toNat]
def k0_off147 (i : grid0.Coords) (v1222 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1081 : BitVec 32 := 8#32
  let v1214 : BitVec 32 := Scalar.muli v1 c8_i32_1081
  let c4_i32_1082 : BitVec 32 := 4#32
  let v1215 : BitVec 32 := Scalar.addi v1214 c4_i32_1082
  let c5_i32_1083 : BitVec 32 := 5#32
  let v1216 : BitVec 32 := Scalar.shrui v1215 c5_i32_1083
  let c32_i32_1085 : BitVec 32 := 32#32
  let v1223 : BitVec 32 := Scalar.muli v1216 c32_i32_1085
  let v1224 : BitVec 32 := Scalar.addi v1223 v1222
  let c56_i32_1086 : BitVec 32 := 56#32
  let v1225 : BitVec 32 := Scalar.muli v1224 c56_i32_1086
  let c8_i32_1087 : BitVec 32 := 8#32
  let v1226 : BitVec 32 := Scalar.addi v1225 c8_i32_1087
  let c0_i32_1088 : BitVec 32 := 0#32
  let c0_i32_1089 : BitVec 32 := 0#32
  ![v1226.toNat, 0, 0]

def k0_chk59 (i : grid0.Coords) (v1222 : BitVec 32) : Prop :=
  (∀ a, (k0_off147 i v1222) a + S8x56x64.size a ≤ S14336x56x64.size a)
theorem k0_off147_inb : ∀ (i : grid0.Coords) (v1222 : BitVec 32) (k0_hw59 : k0_chk59 i v1222), ∀ a, (k0_off147 i v1222) a + S8x56x64.size a ≤ S14336x56x64.size a := fun i v1222 k0_hw59 => k0_hw59

def k0_off148 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1092 : BitVec 32 := 8#32
  let v1229 : BitVec 32 := Scalar.muli v1 c8_i32_1092
  let c4_i32_1093 : BitVec 32 := 4#32
  let v1230 : BitVec 32 := Scalar.addi v1229 c4_i32_1093
  let c31_i32_1095 : BitVec 32 := 31#32
  let v1232 : BitVec 32 := Scalar.andi v1230 c31_i32_1095
  let v1233 : Index := Scalar.indexCast v1232
  ![v1233.toNat]
def k0_off149 (i : grid0.Coords) (v1237 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1092 : BitVec 32 := 8#32
  let v1229 : BitVec 32 := Scalar.muli v1 c8_i32_1092
  let c4_i32_1093 : BitVec 32 := 4#32
  let v1230 : BitVec 32 := Scalar.addi v1229 c4_i32_1093
  let c5_i32_1094 : BitVec 32 := 5#32
  let v1231 : BitVec 32 := Scalar.shrui v1230 c5_i32_1094
  let c32_i32_1096 : BitVec 32 := 32#32
  let v1238 : BitVec 32 := Scalar.muli v1231 c32_i32_1096
  let v1239 : BitVec 32 := Scalar.addi v1238 v1237
  let c56_i32_1097 : BitVec 32 := 56#32
  let v1240 : BitVec 32 := Scalar.muli v1239 c56_i32_1097
  let c8_i32_1098 : BitVec 32 := 8#32
  let v1241 : BitVec 32 := Scalar.addi v1240 c8_i32_1098
  let c0_i32_1099 : BitVec 32 := 0#32
  let c0_i32_1100 : BitVec 32 := 0#32
  ![v1241.toNat, 0, 0]

def k0_chk60 (i : grid0.Coords) (v1237 : BitVec 32) : Prop :=
  (∀ a, (k0_off149 i v1237) a + S8x56x64.size a ≤ S14336x56x64.size a)
theorem k0_off149_inb : ∀ (i : grid0.Coords) (v1237 : BitVec 32) (k0_hw60 : k0_chk60 i v1237), ∀ a, (k0_off149 i v1237) a + S8x56x64.size a ≤ S14336x56x64.size a := fun i v1237 k0_hw60 => k0_hw60

def k0_off150 (i : grid0.Coords) (c8_i32_1106 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1103 : BitVec 32 := 8#32
  let v1244 : BitVec 32 := Scalar.muli v1 c8_i32_1103
  let c4_i32_1104 : BitVec 32 := 4#32
  let v1245 : BitVec 32 := Scalar.addi v1244 c4_i32_1104
  let c56_i32_1105 : BitVec 32 := 56#32
  let v1246 : BitVec 32 := Scalar.muli v1245 c56_i32_1105
  let v1247 : BitVec 32 := Scalar.addi v1246 c8_i32_1106
  let c0_i32_1107 : BitVec 32 := 0#32
  let c0_i32_1108 : BitVec 32 := 0#32
  ![v1247.toNat, 0, 0]
def k0_off151 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1119 : BitVec 32 := 8#32
  let v1256 : BitVec 32 := Scalar.muli v1 c8_i32_1119
  let c4_i32_1120 : BitVec 32 := 4#32
  let v1257 : BitVec 32 := Scalar.addi v1256 c4_i32_1120
  let c31_i32_1122 : BitVec 32 := 31#32
  let v1259 : BitVec 32 := Scalar.andi v1257 c31_i32_1122
  let v1260 : Index := Scalar.indexCast v1259
  ![v1260.toNat]
def k0_off152 (i : grid0.Coords) (v1264 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1119 : BitVec 32 := 8#32
  let v1256 : BitVec 32 := Scalar.muli v1 c8_i32_1119
  let c4_i32_1120 : BitVec 32 := 4#32
  let v1257 : BitVec 32 := Scalar.addi v1256 c4_i32_1120
  let c5_i32_1121 : BitVec 32 := 5#32
  let v1258 : BitVec 32 := Scalar.shrui v1257 c5_i32_1121
  let c32_i32_1123 : BitVec 32 := 32#32
  let v1265 : BitVec 32 := Scalar.muli v1258 c32_i32_1123
  let v1266 : BitVec 32 := Scalar.addi v1265 v1264
  let c56_i32_1124 : BitVec 32 := 56#32
  let v1267 : BitVec 32 := Scalar.muli v1266 c56_i32_1124
  let c16_i32_1125 : BitVec 32 := 16#32
  let v1268 : BitVec 32 := Scalar.addi v1267 c16_i32_1125
  let c0_i32_1126 : BitVec 32 := 0#32
  let c0_i32_1127 : BitVec 32 := 0#32
  ![v1268.toNat, 0, 0]

def k0_chk61 (i : grid0.Coords) (v1264 : BitVec 32) : Prop :=
  (∀ a, (k0_off152 i v1264) a + S8x56x64.size a ≤ S14336x56x64.size a)
theorem k0_off152_inb : ∀ (i : grid0.Coords) (v1264 : BitVec 32) (k0_hw61 : k0_chk61 i v1264), ∀ a, (k0_off152 i v1264) a + S8x56x64.size a ≤ S14336x56x64.size a := fun i v1264 k0_hw61 => k0_hw61

def k0_off153 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1130 : BitVec 32 := 8#32
  let v1271 : BitVec 32 := Scalar.muli v1 c8_i32_1130
  let c4_i32_1131 : BitVec 32 := 4#32
  let v1272 : BitVec 32 := Scalar.addi v1271 c4_i32_1131
  let c31_i32_1133 : BitVec 32 := 31#32
  let v1274 : BitVec 32 := Scalar.andi v1272 c31_i32_1133
  let v1275 : Index := Scalar.indexCast v1274
  ![v1275.toNat]
def k0_off154 (i : grid0.Coords) (v1279 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1130 : BitVec 32 := 8#32
  let v1271 : BitVec 32 := Scalar.muli v1 c8_i32_1130
  let c4_i32_1131 : BitVec 32 := 4#32
  let v1272 : BitVec 32 := Scalar.addi v1271 c4_i32_1131
  let c5_i32_1132 : BitVec 32 := 5#32
  let v1273 : BitVec 32 := Scalar.shrui v1272 c5_i32_1132
  let c32_i32_1134 : BitVec 32 := 32#32
  let v1280 : BitVec 32 := Scalar.muli v1273 c32_i32_1134
  let v1281 : BitVec 32 := Scalar.addi v1280 v1279
  let c56_i32_1135 : BitVec 32 := 56#32
  let v1282 : BitVec 32 := Scalar.muli v1281 c56_i32_1135
  let c16_i32_1136 : BitVec 32 := 16#32
  let v1283 : BitVec 32 := Scalar.addi v1282 c16_i32_1136
  let c0_i32_1137 : BitVec 32 := 0#32
  let c0_i32_1138 : BitVec 32 := 0#32
  ![v1283.toNat, 0, 0]

def k0_chk62 (i : grid0.Coords) (v1279 : BitVec 32) : Prop :=
  (∀ a, (k0_off154 i v1279) a + S8x56x64.size a ≤ S14336x56x64.size a)
theorem k0_off154_inb : ∀ (i : grid0.Coords) (v1279 : BitVec 32) (k0_hw62 : k0_chk62 i v1279), ∀ a, (k0_off154 i v1279) a + S8x56x64.size a ≤ S14336x56x64.size a := fun i v1279 k0_hw62 => k0_hw62

def k0_off155 (i : grid0.Coords) (c16_i32_1144 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1141 : BitVec 32 := 8#32
  let v1286 : BitVec 32 := Scalar.muli v1 c8_i32_1141
  let c4_i32_1142 : BitVec 32 := 4#32
  let v1287 : BitVec 32 := Scalar.addi v1286 c4_i32_1142
  let c56_i32_1143 : BitVec 32 := 56#32
  let v1288 : BitVec 32 := Scalar.muli v1287 c56_i32_1143
  let v1289 : BitVec 32 := Scalar.addi v1288 c16_i32_1144
  let c0_i32_1145 : BitVec 32 := 0#32
  let c0_i32_1146 : BitVec 32 := 0#32
  ![v1289.toNat, 0, 0]
def k0_off156 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1157 : BitVec 32 := 8#32
  let v1298 : BitVec 32 := Scalar.muli v1 c8_i32_1157
  let c4_i32_1158 : BitVec 32 := 4#32
  let v1299 : BitVec 32 := Scalar.addi v1298 c4_i32_1158
  let c31_i32_1160 : BitVec 32 := 31#32
  let v1301 : BitVec 32 := Scalar.andi v1299 c31_i32_1160
  let v1302 : Index := Scalar.indexCast v1301
  ![v1302.toNat]
def k0_off157 (i : grid0.Coords) (v1306 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1157 : BitVec 32 := 8#32
  let v1298 : BitVec 32 := Scalar.muli v1 c8_i32_1157
  let c4_i32_1158 : BitVec 32 := 4#32
  let v1299 : BitVec 32 := Scalar.addi v1298 c4_i32_1158
  let c5_i32_1159 : BitVec 32 := 5#32
  let v1300 : BitVec 32 := Scalar.shrui v1299 c5_i32_1159
  let c32_i32_1161 : BitVec 32 := 32#32
  let v1307 : BitVec 32 := Scalar.muli v1300 c32_i32_1161
  let v1308 : BitVec 32 := Scalar.addi v1307 v1306
  let c56_i32_1162 : BitVec 32 := 56#32
  let v1309 : BitVec 32 := Scalar.muli v1308 c56_i32_1162
  let c24_i32_1163 : BitVec 32 := 24#32
  let v1310 : BitVec 32 := Scalar.addi v1309 c24_i32_1163
  let c0_i32_1164 : BitVec 32 := 0#32
  let c0_i32_1165 : BitVec 32 := 0#32
  ![v1310.toNat, 0, 0]

def k0_chk63 (i : grid0.Coords) (v1306 : BitVec 32) : Prop :=
  (∀ a, (k0_off157 i v1306) a + S8x56x64.size a ≤ S14336x56x64.size a)
theorem k0_off157_inb : ∀ (i : grid0.Coords) (v1306 : BitVec 32) (k0_hw63 : k0_chk63 i v1306), ∀ a, (k0_off157 i v1306) a + S8x56x64.size a ≤ S14336x56x64.size a := fun i v1306 k0_hw63 => k0_hw63

def k0_off158 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1168 : BitVec 32 := 8#32
  let v1313 : BitVec 32 := Scalar.muli v1 c8_i32_1168
  let c4_i32_1169 : BitVec 32 := 4#32
  let v1314 : BitVec 32 := Scalar.addi v1313 c4_i32_1169
  let c31_i32_1171 : BitVec 32 := 31#32
  let v1316 : BitVec 32 := Scalar.andi v1314 c31_i32_1171
  let v1317 : Index := Scalar.indexCast v1316
  ![v1317.toNat]
def k0_off159 (i : grid0.Coords) (v1321 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1168 : BitVec 32 := 8#32
  let v1313 : BitVec 32 := Scalar.muli v1 c8_i32_1168
  let c4_i32_1169 : BitVec 32 := 4#32
  let v1314 : BitVec 32 := Scalar.addi v1313 c4_i32_1169
  let c5_i32_1170 : BitVec 32 := 5#32
  let v1315 : BitVec 32 := Scalar.shrui v1314 c5_i32_1170
  let c32_i32_1172 : BitVec 32 := 32#32
  let v1322 : BitVec 32 := Scalar.muli v1315 c32_i32_1172
  let v1323 : BitVec 32 := Scalar.addi v1322 v1321
  let c56_i32_1173 : BitVec 32 := 56#32
  let v1324 : BitVec 32 := Scalar.muli v1323 c56_i32_1173
  let c24_i32_1174 : BitVec 32 := 24#32
  let v1325 : BitVec 32 := Scalar.addi v1324 c24_i32_1174
  let c0_i32_1175 : BitVec 32 := 0#32
  let c0_i32_1176 : BitVec 32 := 0#32
  ![v1325.toNat, 0, 0]

def k0_chk64 (i : grid0.Coords) (v1321 : BitVec 32) : Prop :=
  (∀ a, (k0_off159 i v1321) a + S8x56x64.size a ≤ S14336x56x64.size a)
theorem k0_off159_inb : ∀ (i : grid0.Coords) (v1321 : BitVec 32) (k0_hw64 : k0_chk64 i v1321), ∀ a, (k0_off159 i v1321) a + S8x56x64.size a ≤ S14336x56x64.size a := fun i v1321 k0_hw64 => k0_hw64

def k0_off160 (i : grid0.Coords) (c24_i32_1182 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1179 : BitVec 32 := 8#32
  let v1328 : BitVec 32 := Scalar.muli v1 c8_i32_1179
  let c4_i32_1180 : BitVec 32 := 4#32
  let v1329 : BitVec 32 := Scalar.addi v1328 c4_i32_1180
  let c56_i32_1181 : BitVec 32 := 56#32
  let v1330 : BitVec 32 := Scalar.muli v1329 c56_i32_1181
  let v1331 : BitVec 32 := Scalar.addi v1330 c24_i32_1182
  let c0_i32_1183 : BitVec 32 := 0#32
  let c0_i32_1184 : BitVec 32 := 0#32
  ![v1331.toNat, 0, 0]
def k0_off161 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1195 : BitVec 32 := 8#32
  let v1340 : BitVec 32 := Scalar.muli v1 c8_i32_1195
  let c4_i32_1196 : BitVec 32 := 4#32
  let v1341 : BitVec 32 := Scalar.addi v1340 c4_i32_1196
  let c31_i32_1198 : BitVec 32 := 31#32
  let v1343 : BitVec 32 := Scalar.andi v1341 c31_i32_1198
  let v1344 : Index := Scalar.indexCast v1343
  ![v1344.toNat]
def k0_off162 (i : grid0.Coords) (v1348 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1195 : BitVec 32 := 8#32
  let v1340 : BitVec 32 := Scalar.muli v1 c8_i32_1195
  let c4_i32_1196 : BitVec 32 := 4#32
  let v1341 : BitVec 32 := Scalar.addi v1340 c4_i32_1196
  let c5_i32_1197 : BitVec 32 := 5#32
  let v1342 : BitVec 32 := Scalar.shrui v1341 c5_i32_1197
  let c32_i32_1199 : BitVec 32 := 32#32
  let v1349 : BitVec 32 := Scalar.muli v1342 c32_i32_1199
  let v1350 : BitVec 32 := Scalar.addi v1349 v1348
  let c56_i32_1200 : BitVec 32 := 56#32
  let v1351 : BitVec 32 := Scalar.muli v1350 c56_i32_1200
  let c32_i32_1201 : BitVec 32 := 32#32
  let v1352 : BitVec 32 := Scalar.addi v1351 c32_i32_1201
  let c0_i32_1202 : BitVec 32 := 0#32
  let c0_i32_1203 : BitVec 32 := 0#32
  ![v1352.toNat, 0, 0]

def k0_chk65 (i : grid0.Coords) (v1348 : BitVec 32) : Prop :=
  (∀ a, (k0_off162 i v1348) a + S8x56x64.size a ≤ S14336x56x64.size a)
theorem k0_off162_inb : ∀ (i : grid0.Coords) (v1348 : BitVec 32) (k0_hw65 : k0_chk65 i v1348), ∀ a, (k0_off162 i v1348) a + S8x56x64.size a ≤ S14336x56x64.size a := fun i v1348 k0_hw65 => k0_hw65

def k0_off163 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1206 : BitVec 32 := 8#32
  let v1355 : BitVec 32 := Scalar.muli v1 c8_i32_1206
  let c4_i32_1207 : BitVec 32 := 4#32
  let v1356 : BitVec 32 := Scalar.addi v1355 c4_i32_1207
  let c31_i32_1209 : BitVec 32 := 31#32
  let v1358 : BitVec 32 := Scalar.andi v1356 c31_i32_1209
  let v1359 : Index := Scalar.indexCast v1358
  ![v1359.toNat]
def k0_off164 (i : grid0.Coords) (v1363 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1206 : BitVec 32 := 8#32
  let v1355 : BitVec 32 := Scalar.muli v1 c8_i32_1206
  let c4_i32_1207 : BitVec 32 := 4#32
  let v1356 : BitVec 32 := Scalar.addi v1355 c4_i32_1207
  let c5_i32_1208 : BitVec 32 := 5#32
  let v1357 : BitVec 32 := Scalar.shrui v1356 c5_i32_1208
  let c32_i32_1210 : BitVec 32 := 32#32
  let v1364 : BitVec 32 := Scalar.muli v1357 c32_i32_1210
  let v1365 : BitVec 32 := Scalar.addi v1364 v1363
  let c56_i32_1211 : BitVec 32 := 56#32
  let v1366 : BitVec 32 := Scalar.muli v1365 c56_i32_1211
  let c32_i32_1212 : BitVec 32 := 32#32
  let v1367 : BitVec 32 := Scalar.addi v1366 c32_i32_1212
  let c0_i32_1213 : BitVec 32 := 0#32
  let c0_i32_1214 : BitVec 32 := 0#32
  ![v1367.toNat, 0, 0]

def k0_chk66 (i : grid0.Coords) (v1363 : BitVec 32) : Prop :=
  (∀ a, (k0_off164 i v1363) a + S8x56x64.size a ≤ S14336x56x64.size a)
theorem k0_off164_inb : ∀ (i : grid0.Coords) (v1363 : BitVec 32) (k0_hw66 : k0_chk66 i v1363), ∀ a, (k0_off164 i v1363) a + S8x56x64.size a ≤ S14336x56x64.size a := fun i v1363 k0_hw66 => k0_hw66

def k0_off165 (i : grid0.Coords) (c32_i32_1220 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1217 : BitVec 32 := 8#32
  let v1370 : BitVec 32 := Scalar.muli v1 c8_i32_1217
  let c4_i32_1218 : BitVec 32 := 4#32
  let v1371 : BitVec 32 := Scalar.addi v1370 c4_i32_1218
  let c56_i32_1219 : BitVec 32 := 56#32
  let v1372 : BitVec 32 := Scalar.muli v1371 c56_i32_1219
  let v1373 : BitVec 32 := Scalar.addi v1372 c32_i32_1220
  let c0_i32_1221 : BitVec 32 := 0#32
  let c0_i32_1222 : BitVec 32 := 0#32
  ![v1373.toNat, 0, 0]
def k0_off166 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1233 : BitVec 32 := 8#32
  let v1382 : BitVec 32 := Scalar.muli v1 c8_i32_1233
  let c4_i32_1234 : BitVec 32 := 4#32
  let v1383 : BitVec 32 := Scalar.addi v1382 c4_i32_1234
  let c31_i32_1236 : BitVec 32 := 31#32
  let v1385 : BitVec 32 := Scalar.andi v1383 c31_i32_1236
  let v1386 : Index := Scalar.indexCast v1385
  ![v1386.toNat]
def k0_off167 (i : grid0.Coords) (v1390 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1233 : BitVec 32 := 8#32
  let v1382 : BitVec 32 := Scalar.muli v1 c8_i32_1233
  let c4_i32_1234 : BitVec 32 := 4#32
  let v1383 : BitVec 32 := Scalar.addi v1382 c4_i32_1234
  let c5_i32_1235 : BitVec 32 := 5#32
  let v1384 : BitVec 32 := Scalar.shrui v1383 c5_i32_1235
  let c32_i32_1237 : BitVec 32 := 32#32
  let v1391 : BitVec 32 := Scalar.muli v1384 c32_i32_1237
  let v1392 : BitVec 32 := Scalar.addi v1391 v1390
  let c56_i32_1238 : BitVec 32 := 56#32
  let v1393 : BitVec 32 := Scalar.muli v1392 c56_i32_1238
  let c40_i32_1239 : BitVec 32 := 40#32
  let v1394 : BitVec 32 := Scalar.addi v1393 c40_i32_1239
  let c0_i32_1240 : BitVec 32 := 0#32
  let c0_i32_1241 : BitVec 32 := 0#32
  ![v1394.toNat, 0, 0]

def k0_chk67 (i : grid0.Coords) (v1390 : BitVec 32) : Prop :=
  (∀ a, (k0_off167 i v1390) a + S8x56x64.size a ≤ S14336x56x64.size a)
theorem k0_off167_inb : ∀ (i : grid0.Coords) (v1390 : BitVec 32) (k0_hw67 : k0_chk67 i v1390), ∀ a, (k0_off167 i v1390) a + S8x56x64.size a ≤ S14336x56x64.size a := fun i v1390 k0_hw67 => k0_hw67

def k0_off168 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1244 : BitVec 32 := 8#32
  let v1397 : BitVec 32 := Scalar.muli v1 c8_i32_1244
  let c4_i32_1245 : BitVec 32 := 4#32
  let v1398 : BitVec 32 := Scalar.addi v1397 c4_i32_1245
  let c31_i32_1247 : BitVec 32 := 31#32
  let v1400 : BitVec 32 := Scalar.andi v1398 c31_i32_1247
  let v1401 : Index := Scalar.indexCast v1400
  ![v1401.toNat]
def k0_off169 (i : grid0.Coords) (v1405 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1244 : BitVec 32 := 8#32
  let v1397 : BitVec 32 := Scalar.muli v1 c8_i32_1244
  let c4_i32_1245 : BitVec 32 := 4#32
  let v1398 : BitVec 32 := Scalar.addi v1397 c4_i32_1245
  let c5_i32_1246 : BitVec 32 := 5#32
  let v1399 : BitVec 32 := Scalar.shrui v1398 c5_i32_1246
  let c32_i32_1248 : BitVec 32 := 32#32
  let v1406 : BitVec 32 := Scalar.muli v1399 c32_i32_1248
  let v1407 : BitVec 32 := Scalar.addi v1406 v1405
  let c56_i32_1249 : BitVec 32 := 56#32
  let v1408 : BitVec 32 := Scalar.muli v1407 c56_i32_1249
  let c40_i32_1250 : BitVec 32 := 40#32
  let v1409 : BitVec 32 := Scalar.addi v1408 c40_i32_1250
  let c0_i32_1251 : BitVec 32 := 0#32
  let c0_i32_1252 : BitVec 32 := 0#32
  ![v1409.toNat, 0, 0]

def k0_chk68 (i : grid0.Coords) (v1405 : BitVec 32) : Prop :=
  (∀ a, (k0_off169 i v1405) a + S8x56x64.size a ≤ S14336x56x64.size a)
theorem k0_off169_inb : ∀ (i : grid0.Coords) (v1405 : BitVec 32) (k0_hw68 : k0_chk68 i v1405), ∀ a, (k0_off169 i v1405) a + S8x56x64.size a ≤ S14336x56x64.size a := fun i v1405 k0_hw68 => k0_hw68

def k0_off170 (i : grid0.Coords) (c40_i32_1258 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1255 : BitVec 32 := 8#32
  let v1412 : BitVec 32 := Scalar.muli v1 c8_i32_1255
  let c4_i32_1256 : BitVec 32 := 4#32
  let v1413 : BitVec 32 := Scalar.addi v1412 c4_i32_1256
  let c56_i32_1257 : BitVec 32 := 56#32
  let v1414 : BitVec 32 := Scalar.muli v1413 c56_i32_1257
  let v1415 : BitVec 32 := Scalar.addi v1414 c40_i32_1258
  let c0_i32_1259 : BitVec 32 := 0#32
  let c0_i32_1260 : BitVec 32 := 0#32
  ![v1415.toNat, 0, 0]
def k0_off171 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1271 : BitVec 32 := 8#32
  let v1424 : BitVec 32 := Scalar.muli v1 c8_i32_1271
  let c4_i32_1272 : BitVec 32 := 4#32
  let v1425 : BitVec 32 := Scalar.addi v1424 c4_i32_1272
  let c31_i32_1274 : BitVec 32 := 31#32
  let v1427 : BitVec 32 := Scalar.andi v1425 c31_i32_1274
  let v1428 : Index := Scalar.indexCast v1427
  ![v1428.toNat]
def k0_off172 (i : grid0.Coords) (v1432 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1271 : BitVec 32 := 8#32
  let v1424 : BitVec 32 := Scalar.muli v1 c8_i32_1271
  let c4_i32_1272 : BitVec 32 := 4#32
  let v1425 : BitVec 32 := Scalar.addi v1424 c4_i32_1272
  let c5_i32_1273 : BitVec 32 := 5#32
  let v1426 : BitVec 32 := Scalar.shrui v1425 c5_i32_1273
  let c32_i32_1275 : BitVec 32 := 32#32
  let v1433 : BitVec 32 := Scalar.muli v1426 c32_i32_1275
  let v1434 : BitVec 32 := Scalar.addi v1433 v1432
  let c56_i32_1276 : BitVec 32 := 56#32
  let v1435 : BitVec 32 := Scalar.muli v1434 c56_i32_1276
  let c48_i32_1277 : BitVec 32 := 48#32
  let v1436 : BitVec 32 := Scalar.addi v1435 c48_i32_1277
  let c0_i32_1278 : BitVec 32 := 0#32
  let c0_i32_1279 : BitVec 32 := 0#32
  ![v1436.toNat, 0, 0]

def k0_chk69 (i : grid0.Coords) (v1432 : BitVec 32) : Prop :=
  (∀ a, (k0_off172 i v1432) a + S8x56x64.size a ≤ S14336x56x64.size a)
theorem k0_off172_inb : ∀ (i : grid0.Coords) (v1432 : BitVec 32) (k0_hw69 : k0_chk69 i v1432), ∀ a, (k0_off172 i v1432) a + S8x56x64.size a ≤ S14336x56x64.size a := fun i v1432 k0_hw69 => k0_hw69

def k0_off173 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1282 : BitVec 32 := 8#32
  let v1439 : BitVec 32 := Scalar.muli v1 c8_i32_1282
  let c4_i32_1283 : BitVec 32 := 4#32
  let v1440 : BitVec 32 := Scalar.addi v1439 c4_i32_1283
  let c31_i32_1285 : BitVec 32 := 31#32
  let v1442 : BitVec 32 := Scalar.andi v1440 c31_i32_1285
  let v1443 : Index := Scalar.indexCast v1442
  ![v1443.toNat]
def k0_off174 (i : grid0.Coords) (v1447 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1282 : BitVec 32 := 8#32
  let v1439 : BitVec 32 := Scalar.muli v1 c8_i32_1282
  let c4_i32_1283 : BitVec 32 := 4#32
  let v1440 : BitVec 32 := Scalar.addi v1439 c4_i32_1283
  let c5_i32_1284 : BitVec 32 := 5#32
  let v1441 : BitVec 32 := Scalar.shrui v1440 c5_i32_1284
  let c32_i32_1286 : BitVec 32 := 32#32
  let v1448 : BitVec 32 := Scalar.muli v1441 c32_i32_1286
  let v1449 : BitVec 32 := Scalar.addi v1448 v1447
  let c56_i32_1287 : BitVec 32 := 56#32
  let v1450 : BitVec 32 := Scalar.muli v1449 c56_i32_1287
  let c48_i32_1288 : BitVec 32 := 48#32
  let v1451 : BitVec 32 := Scalar.addi v1450 c48_i32_1288
  let c0_i32_1289 : BitVec 32 := 0#32
  let c0_i32_1290 : BitVec 32 := 0#32
  ![v1451.toNat, 0, 0]

def k0_chk70 (i : grid0.Coords) (v1447 : BitVec 32) : Prop :=
  (∀ a, (k0_off174 i v1447) a + S8x56x64.size a ≤ S14336x56x64.size a)
theorem k0_off174_inb : ∀ (i : grid0.Coords) (v1447 : BitVec 32) (k0_hw70 : k0_chk70 i v1447), ∀ a, (k0_off174 i v1447) a + S8x56x64.size a ≤ S14336x56x64.size a := fun i v1447 k0_hw70 => k0_hw70

def k0_off175 (i : grid0.Coords) (c48_i32_1296 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1293 : BitVec 32 := 8#32
  let v1454 : BitVec 32 := Scalar.muli v1 c8_i32_1293
  let c4_i32_1294 : BitVec 32 := 4#32
  let v1455 : BitVec 32 := Scalar.addi v1454 c4_i32_1294
  let c56_i32_1295 : BitVec 32 := 56#32
  let v1456 : BitVec 32 := Scalar.muli v1455 c56_i32_1295
  let v1457 : BitVec 32 := Scalar.addi v1456 c48_i32_1296
  let c0_i32_1297 : BitVec 32 := 0#32
  let c0_i32_1298 : BitVec 32 := 0#32
  ![v1457.toNat, 0, 0]
def k0_off176 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1309 : BitVec 32 := 8#32
  let v1466 : BitVec 32 := Scalar.muli v1 c8_i32_1309
  let c5_i32_1310 : BitVec 32 := 5#32
  let v1467 : BitVec 32 := Scalar.addi v1466 c5_i32_1310
  let c31_i32_1312 : BitVec 32 := 31#32
  let v1469 : BitVec 32 := Scalar.andi v1467 c31_i32_1312
  let v1470 : Index := Scalar.indexCast v1469
  ![v1470.toNat]
def k0_off177 (i : grid0.Coords) (v1474 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1309 : BitVec 32 := 8#32
  let v1466 : BitVec 32 := Scalar.muli v1 c8_i32_1309
  let c5_i32_1310 : BitVec 32 := 5#32
  let v1467 : BitVec 32 := Scalar.addi v1466 c5_i32_1310
  let c5_i32_1311 : BitVec 32 := 5#32
  let v1468 : BitVec 32 := Scalar.shrui v1467 c5_i32_1311
  let c32_i32_1313 : BitVec 32 := 32#32
  let v1475 : BitVec 32 := Scalar.muli v1468 c32_i32_1313
  let v1476 : BitVec 32 := Scalar.addi v1475 v1474
  let c56_i32_1314 : BitVec 32 := 56#32
  let v1477 : BitVec 32 := Scalar.muli v1476 c56_i32_1314
  let c0_i32_1315 : BitVec 32 := 0#32
  let v1478 : BitVec 32 := Scalar.addi v1477 c0_i32_1315
  let c0_i32_1316 : BitVec 32 := 0#32
  let c0_i32_1317 : BitVec 32 := 0#32
  ![v1478.toNat, 0, 0]

def k0_chk71 (i : grid0.Coords) (v1474 : BitVec 32) : Prop :=
  (∀ a, (k0_off177 i v1474) a + S8x56x64.size a ≤ S14336x56x64.size a)
theorem k0_off177_inb : ∀ (i : grid0.Coords) (v1474 : BitVec 32) (k0_hw71 : k0_chk71 i v1474), ∀ a, (k0_off177 i v1474) a + S8x56x64.size a ≤ S14336x56x64.size a := fun i v1474 k0_hw71 => k0_hw71

def k0_off178 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1320 : BitVec 32 := 8#32
  let v1481 : BitVec 32 := Scalar.muli v1 c8_i32_1320
  let c5_i32_1321 : BitVec 32 := 5#32
  let v1482 : BitVec 32 := Scalar.addi v1481 c5_i32_1321
  let c31_i32_1323 : BitVec 32 := 31#32
  let v1484 : BitVec 32 := Scalar.andi v1482 c31_i32_1323
  let v1485 : Index := Scalar.indexCast v1484
  ![v1485.toNat]
def k0_off179 (i : grid0.Coords) (v1489 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1320 : BitVec 32 := 8#32
  let v1481 : BitVec 32 := Scalar.muli v1 c8_i32_1320
  let c5_i32_1321 : BitVec 32 := 5#32
  let v1482 : BitVec 32 := Scalar.addi v1481 c5_i32_1321
  let c5_i32_1322 : BitVec 32 := 5#32
  let v1483 : BitVec 32 := Scalar.shrui v1482 c5_i32_1322
  let c32_i32_1324 : BitVec 32 := 32#32
  let v1490 : BitVec 32 := Scalar.muli v1483 c32_i32_1324
  let v1491 : BitVec 32 := Scalar.addi v1490 v1489
  let c56_i32_1325 : BitVec 32 := 56#32
  let v1492 : BitVec 32 := Scalar.muli v1491 c56_i32_1325
  let c0_i32_1326 : BitVec 32 := 0#32
  let v1493 : BitVec 32 := Scalar.addi v1492 c0_i32_1326
  let c0_i32_1327 : BitVec 32 := 0#32
  let c0_i32_1328 : BitVec 32 := 0#32
  ![v1493.toNat, 0, 0]

def k0_chk72 (i : grid0.Coords) (v1489 : BitVec 32) : Prop :=
  (∀ a, (k0_off179 i v1489) a + S8x56x64.size a ≤ S14336x56x64.size a)
theorem k0_off179_inb : ∀ (i : grid0.Coords) (v1489 : BitVec 32) (k0_hw72 : k0_chk72 i v1489), ∀ a, (k0_off179 i v1489) a + S8x56x64.size a ≤ S14336x56x64.size a := fun i v1489 k0_hw72 => k0_hw72

def k0_off180 (i : grid0.Coords) (c5_i32_1332 : BitVec 32) (c0_i32_1334 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1331 : BitVec 32 := 8#32
  let v1496 : BitVec 32 := Scalar.muli v1 c8_i32_1331
  let v1497 : BitVec 32 := Scalar.addi v1496 c5_i32_1332
  let c56_i32_1333 : BitVec 32 := 56#32
  let v1498 : BitVec 32 := Scalar.muli v1497 c56_i32_1333
  let v1499 : BitVec 32 := Scalar.addi v1498 c0_i32_1334
  let c0_i32_1335 : BitVec 32 := 0#32
  let c0_i32_1336 : BitVec 32 := 0#32
  ![v1499.toNat, 0, 0]
def k0_off180_at (r : Fin 2) : BitVec 32 × BitVec 32 :=
  if r.val < 1 then
    (5#32, 0#32)
  else
    (4#32, 48#32)
def k0_off181 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1347 : BitVec 32 := 8#32
  let v1508 : BitVec 32 := Scalar.muli v1 c8_i32_1347
  let c5_i32_1348 : BitVec 32 := 5#32
  let v1509 : BitVec 32 := Scalar.addi v1508 c5_i32_1348
  let c31_i32_1350 : BitVec 32 := 31#32
  let v1511 : BitVec 32 := Scalar.andi v1509 c31_i32_1350
  let v1512 : Index := Scalar.indexCast v1511
  ![v1512.toNat]
def k0_off182 (i : grid0.Coords) (v1516 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1347 : BitVec 32 := 8#32
  let v1508 : BitVec 32 := Scalar.muli v1 c8_i32_1347
  let c5_i32_1348 : BitVec 32 := 5#32
  let v1509 : BitVec 32 := Scalar.addi v1508 c5_i32_1348
  let c5_i32_1349 : BitVec 32 := 5#32
  let v1510 : BitVec 32 := Scalar.shrui v1509 c5_i32_1349
  let c32_i32_1351 : BitVec 32 := 32#32
  let v1517 : BitVec 32 := Scalar.muli v1510 c32_i32_1351
  let v1518 : BitVec 32 := Scalar.addi v1517 v1516
  let c56_i32_1352 : BitVec 32 := 56#32
  let v1519 : BitVec 32 := Scalar.muli v1518 c56_i32_1352
  let c8_i32_1353 : BitVec 32 := 8#32
  let v1520 : BitVec 32 := Scalar.addi v1519 c8_i32_1353
  let c0_i32_1354 : BitVec 32 := 0#32
  let c0_i32_1355 : BitVec 32 := 0#32
  ![v1520.toNat, 0, 0]

def k0_chk73 (i : grid0.Coords) (v1516 : BitVec 32) : Prop :=
  (∀ a, (k0_off182 i v1516) a + S8x56x64.size a ≤ S14336x56x64.size a)
theorem k0_off182_inb : ∀ (i : grid0.Coords) (v1516 : BitVec 32) (k0_hw73 : k0_chk73 i v1516), ∀ a, (k0_off182 i v1516) a + S8x56x64.size a ≤ S14336x56x64.size a := fun i v1516 k0_hw73 => k0_hw73

def k0_off183 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1358 : BitVec 32 := 8#32
  let v1523 : BitVec 32 := Scalar.muli v1 c8_i32_1358
  let c5_i32_1359 : BitVec 32 := 5#32
  let v1524 : BitVec 32 := Scalar.addi v1523 c5_i32_1359
  let c31_i32_1361 : BitVec 32 := 31#32
  let v1526 : BitVec 32 := Scalar.andi v1524 c31_i32_1361
  let v1527 : Index := Scalar.indexCast v1526
  ![v1527.toNat]
def k0_off184 (i : grid0.Coords) (v1531 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1358 : BitVec 32 := 8#32
  let v1523 : BitVec 32 := Scalar.muli v1 c8_i32_1358
  let c5_i32_1359 : BitVec 32 := 5#32
  let v1524 : BitVec 32 := Scalar.addi v1523 c5_i32_1359
  let c5_i32_1360 : BitVec 32 := 5#32
  let v1525 : BitVec 32 := Scalar.shrui v1524 c5_i32_1360
  let c32_i32_1362 : BitVec 32 := 32#32
  let v1532 : BitVec 32 := Scalar.muli v1525 c32_i32_1362
  let v1533 : BitVec 32 := Scalar.addi v1532 v1531
  let c56_i32_1363 : BitVec 32 := 56#32
  let v1534 : BitVec 32 := Scalar.muli v1533 c56_i32_1363
  let c8_i32_1364 : BitVec 32 := 8#32
  let v1535 : BitVec 32 := Scalar.addi v1534 c8_i32_1364
  let c0_i32_1365 : BitVec 32 := 0#32
  let c0_i32_1366 : BitVec 32 := 0#32
  ![v1535.toNat, 0, 0]

def k0_chk74 (i : grid0.Coords) (v1531 : BitVec 32) : Prop :=
  (∀ a, (k0_off184 i v1531) a + S8x56x64.size a ≤ S14336x56x64.size a)
theorem k0_off184_inb : ∀ (i : grid0.Coords) (v1531 : BitVec 32) (k0_hw74 : k0_chk74 i v1531), ∀ a, (k0_off184 i v1531) a + S8x56x64.size a ≤ S14336x56x64.size a := fun i v1531 k0_hw74 => k0_hw74

def k0_off185 (i : grid0.Coords) (c8_i32_1372 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1369 : BitVec 32 := 8#32
  let v1538 : BitVec 32 := Scalar.muli v1 c8_i32_1369
  let c5_i32_1370 : BitVec 32 := 5#32
  let v1539 : BitVec 32 := Scalar.addi v1538 c5_i32_1370
  let c56_i32_1371 : BitVec 32 := 56#32
  let v1540 : BitVec 32 := Scalar.muli v1539 c56_i32_1371
  let v1541 : BitVec 32 := Scalar.addi v1540 c8_i32_1372
  let c0_i32_1373 : BitVec 32 := 0#32
  let c0_i32_1374 : BitVec 32 := 0#32
  ![v1541.toNat, 0, 0]
def k0_off186 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1385 : BitVec 32 := 8#32
  let v1550 : BitVec 32 := Scalar.muli v1 c8_i32_1385
  let c5_i32_1386 : BitVec 32 := 5#32
  let v1551 : BitVec 32 := Scalar.addi v1550 c5_i32_1386
  let c31_i32_1388 : BitVec 32 := 31#32
  let v1553 : BitVec 32 := Scalar.andi v1551 c31_i32_1388
  let v1554 : Index := Scalar.indexCast v1553
  ![v1554.toNat]
def k0_off187 (i : grid0.Coords) (v1558 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1385 : BitVec 32 := 8#32
  let v1550 : BitVec 32 := Scalar.muli v1 c8_i32_1385
  let c5_i32_1386 : BitVec 32 := 5#32
  let v1551 : BitVec 32 := Scalar.addi v1550 c5_i32_1386
  let c5_i32_1387 : BitVec 32 := 5#32
  let v1552 : BitVec 32 := Scalar.shrui v1551 c5_i32_1387
  let c32_i32_1389 : BitVec 32 := 32#32
  let v1559 : BitVec 32 := Scalar.muli v1552 c32_i32_1389
  let v1560 : BitVec 32 := Scalar.addi v1559 v1558
  let c56_i32_1390 : BitVec 32 := 56#32
  let v1561 : BitVec 32 := Scalar.muli v1560 c56_i32_1390
  let c16_i32_1391 : BitVec 32 := 16#32
  let v1562 : BitVec 32 := Scalar.addi v1561 c16_i32_1391
  let c0_i32_1392 : BitVec 32 := 0#32
  let c0_i32_1393 : BitVec 32 := 0#32
  ![v1562.toNat, 0, 0]

def k0_chk75 (i : grid0.Coords) (v1558 : BitVec 32) : Prop :=
  (∀ a, (k0_off187 i v1558) a + S8x56x64.size a ≤ S14336x56x64.size a)
theorem k0_off187_inb : ∀ (i : grid0.Coords) (v1558 : BitVec 32) (k0_hw75 : k0_chk75 i v1558), ∀ a, (k0_off187 i v1558) a + S8x56x64.size a ≤ S14336x56x64.size a := fun i v1558 k0_hw75 => k0_hw75

def k0_off188 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1396 : BitVec 32 := 8#32
  let v1565 : BitVec 32 := Scalar.muli v1 c8_i32_1396
  let c5_i32_1397 : BitVec 32 := 5#32
  let v1566 : BitVec 32 := Scalar.addi v1565 c5_i32_1397
  let c31_i32_1399 : BitVec 32 := 31#32
  let v1568 : BitVec 32 := Scalar.andi v1566 c31_i32_1399
  let v1569 : Index := Scalar.indexCast v1568
  ![v1569.toNat]
def k0_off189 (i : grid0.Coords) (v1573 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1396 : BitVec 32 := 8#32
  let v1565 : BitVec 32 := Scalar.muli v1 c8_i32_1396
  let c5_i32_1397 : BitVec 32 := 5#32
  let v1566 : BitVec 32 := Scalar.addi v1565 c5_i32_1397
  let c5_i32_1398 : BitVec 32 := 5#32
  let v1567 : BitVec 32 := Scalar.shrui v1566 c5_i32_1398
  let c32_i32_1400 : BitVec 32 := 32#32
  let v1574 : BitVec 32 := Scalar.muli v1567 c32_i32_1400
  let v1575 : BitVec 32 := Scalar.addi v1574 v1573
  let c56_i32_1401 : BitVec 32 := 56#32
  let v1576 : BitVec 32 := Scalar.muli v1575 c56_i32_1401
  let c16_i32_1402 : BitVec 32 := 16#32
  let v1577 : BitVec 32 := Scalar.addi v1576 c16_i32_1402
  let c0_i32_1403 : BitVec 32 := 0#32
  let c0_i32_1404 : BitVec 32 := 0#32
  ![v1577.toNat, 0, 0]

def k0_chk76 (i : grid0.Coords) (v1573 : BitVec 32) : Prop :=
  (∀ a, (k0_off189 i v1573) a + S8x56x64.size a ≤ S14336x56x64.size a)
theorem k0_off189_inb : ∀ (i : grid0.Coords) (v1573 : BitVec 32) (k0_hw76 : k0_chk76 i v1573), ∀ a, (k0_off189 i v1573) a + S8x56x64.size a ≤ S14336x56x64.size a := fun i v1573 k0_hw76 => k0_hw76

def k0_off190 (i : grid0.Coords) (c16_i32_1410 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1407 : BitVec 32 := 8#32
  let v1580 : BitVec 32 := Scalar.muli v1 c8_i32_1407
  let c5_i32_1408 : BitVec 32 := 5#32
  let v1581 : BitVec 32 := Scalar.addi v1580 c5_i32_1408
  let c56_i32_1409 : BitVec 32 := 56#32
  let v1582 : BitVec 32 := Scalar.muli v1581 c56_i32_1409
  let v1583 : BitVec 32 := Scalar.addi v1582 c16_i32_1410
  let c0_i32_1411 : BitVec 32 := 0#32
  let c0_i32_1412 : BitVec 32 := 0#32
  ![v1583.toNat, 0, 0]
def k0_off191 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1423 : BitVec 32 := 8#32
  let v1592 : BitVec 32 := Scalar.muli v1 c8_i32_1423
  let c5_i32_1424 : BitVec 32 := 5#32
  let v1593 : BitVec 32 := Scalar.addi v1592 c5_i32_1424
  let c31_i32_1426 : BitVec 32 := 31#32
  let v1595 : BitVec 32 := Scalar.andi v1593 c31_i32_1426
  let v1596 : Index := Scalar.indexCast v1595
  ![v1596.toNat]
def k0_off192 (i : grid0.Coords) (v1600 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1423 : BitVec 32 := 8#32
  let v1592 : BitVec 32 := Scalar.muli v1 c8_i32_1423
  let c5_i32_1424 : BitVec 32 := 5#32
  let v1593 : BitVec 32 := Scalar.addi v1592 c5_i32_1424
  let c5_i32_1425 : BitVec 32 := 5#32
  let v1594 : BitVec 32 := Scalar.shrui v1593 c5_i32_1425
  let c32_i32_1427 : BitVec 32 := 32#32
  let v1601 : BitVec 32 := Scalar.muli v1594 c32_i32_1427
  let v1602 : BitVec 32 := Scalar.addi v1601 v1600
  let c56_i32_1428 : BitVec 32 := 56#32
  let v1603 : BitVec 32 := Scalar.muli v1602 c56_i32_1428
  let c24_i32_1429 : BitVec 32 := 24#32
  let v1604 : BitVec 32 := Scalar.addi v1603 c24_i32_1429
  let c0_i32_1430 : BitVec 32 := 0#32
  let c0_i32_1431 : BitVec 32 := 0#32
  ![v1604.toNat, 0, 0]

def k0_chk77 (i : grid0.Coords) (v1600 : BitVec 32) : Prop :=
  (∀ a, (k0_off192 i v1600) a + S8x56x64.size a ≤ S14336x56x64.size a)
theorem k0_off192_inb : ∀ (i : grid0.Coords) (v1600 : BitVec 32) (k0_hw77 : k0_chk77 i v1600), ∀ a, (k0_off192 i v1600) a + S8x56x64.size a ≤ S14336x56x64.size a := fun i v1600 k0_hw77 => k0_hw77

def k0_off193 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1434 : BitVec 32 := 8#32
  let v1607 : BitVec 32 := Scalar.muli v1 c8_i32_1434
  let c5_i32_1435 : BitVec 32 := 5#32
  let v1608 : BitVec 32 := Scalar.addi v1607 c5_i32_1435
  let c31_i32_1437 : BitVec 32 := 31#32
  let v1610 : BitVec 32 := Scalar.andi v1608 c31_i32_1437
  let v1611 : Index := Scalar.indexCast v1610
  ![v1611.toNat]
def k0_off194 (i : grid0.Coords) (v1615 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1434 : BitVec 32 := 8#32
  let v1607 : BitVec 32 := Scalar.muli v1 c8_i32_1434
  let c5_i32_1435 : BitVec 32 := 5#32
  let v1608 : BitVec 32 := Scalar.addi v1607 c5_i32_1435
  let c5_i32_1436 : BitVec 32 := 5#32
  let v1609 : BitVec 32 := Scalar.shrui v1608 c5_i32_1436
  let c32_i32_1438 : BitVec 32 := 32#32
  let v1616 : BitVec 32 := Scalar.muli v1609 c32_i32_1438
  let v1617 : BitVec 32 := Scalar.addi v1616 v1615
  let c56_i32_1439 : BitVec 32 := 56#32
  let v1618 : BitVec 32 := Scalar.muli v1617 c56_i32_1439
  let c24_i32_1440 : BitVec 32 := 24#32
  let v1619 : BitVec 32 := Scalar.addi v1618 c24_i32_1440
  let c0_i32_1441 : BitVec 32 := 0#32
  let c0_i32_1442 : BitVec 32 := 0#32
  ![v1619.toNat, 0, 0]

def k0_chk78 (i : grid0.Coords) (v1615 : BitVec 32) : Prop :=
  (∀ a, (k0_off194 i v1615) a + S8x56x64.size a ≤ S14336x56x64.size a)
theorem k0_off194_inb : ∀ (i : grid0.Coords) (v1615 : BitVec 32) (k0_hw78 : k0_chk78 i v1615), ∀ a, (k0_off194 i v1615) a + S8x56x64.size a ≤ S14336x56x64.size a := fun i v1615 k0_hw78 => k0_hw78

def k0_off195 (i : grid0.Coords) (c24_i32_1448 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1445 : BitVec 32 := 8#32
  let v1622 : BitVec 32 := Scalar.muli v1 c8_i32_1445
  let c5_i32_1446 : BitVec 32 := 5#32
  let v1623 : BitVec 32 := Scalar.addi v1622 c5_i32_1446
  let c56_i32_1447 : BitVec 32 := 56#32
  let v1624 : BitVec 32 := Scalar.muli v1623 c56_i32_1447
  let v1625 : BitVec 32 := Scalar.addi v1624 c24_i32_1448
  let c0_i32_1449 : BitVec 32 := 0#32
  let c0_i32_1450 : BitVec 32 := 0#32
  ![v1625.toNat, 0, 0]
def k0_off196 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1461 : BitVec 32 := 8#32
  let v1634 : BitVec 32 := Scalar.muli v1 c8_i32_1461
  let c5_i32_1462 : BitVec 32 := 5#32
  let v1635 : BitVec 32 := Scalar.addi v1634 c5_i32_1462
  let c31_i32_1464 : BitVec 32 := 31#32
  let v1637 : BitVec 32 := Scalar.andi v1635 c31_i32_1464
  let v1638 : Index := Scalar.indexCast v1637
  ![v1638.toNat]
def k0_off197 (i : grid0.Coords) (v1642 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1461 : BitVec 32 := 8#32
  let v1634 : BitVec 32 := Scalar.muli v1 c8_i32_1461
  let c5_i32_1462 : BitVec 32 := 5#32
  let v1635 : BitVec 32 := Scalar.addi v1634 c5_i32_1462
  let c5_i32_1463 : BitVec 32 := 5#32
  let v1636 : BitVec 32 := Scalar.shrui v1635 c5_i32_1463
  let c32_i32_1465 : BitVec 32 := 32#32
  let v1643 : BitVec 32 := Scalar.muli v1636 c32_i32_1465
  let v1644 : BitVec 32 := Scalar.addi v1643 v1642
  let c56_i32_1466 : BitVec 32 := 56#32
  let v1645 : BitVec 32 := Scalar.muli v1644 c56_i32_1466
  let c32_i32_1467 : BitVec 32 := 32#32
  let v1646 : BitVec 32 := Scalar.addi v1645 c32_i32_1467
  let c0_i32_1468 : BitVec 32 := 0#32
  let c0_i32_1469 : BitVec 32 := 0#32
  ![v1646.toNat, 0, 0]

def k0_chk79 (i : grid0.Coords) (v1642 : BitVec 32) : Prop :=
  (∀ a, (k0_off197 i v1642) a + S8x56x64.size a ≤ S14336x56x64.size a)
theorem k0_off197_inb : ∀ (i : grid0.Coords) (v1642 : BitVec 32) (k0_hw79 : k0_chk79 i v1642), ∀ a, (k0_off197 i v1642) a + S8x56x64.size a ≤ S14336x56x64.size a := fun i v1642 k0_hw79 => k0_hw79

def k0_off198 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1472 : BitVec 32 := 8#32
  let v1649 : BitVec 32 := Scalar.muli v1 c8_i32_1472
  let c5_i32_1473 : BitVec 32 := 5#32
  let v1650 : BitVec 32 := Scalar.addi v1649 c5_i32_1473
  let c31_i32_1475 : BitVec 32 := 31#32
  let v1652 : BitVec 32 := Scalar.andi v1650 c31_i32_1475
  let v1653 : Index := Scalar.indexCast v1652
  ![v1653.toNat]
def k0_off199 (i : grid0.Coords) (v1657 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1472 : BitVec 32 := 8#32
  let v1649 : BitVec 32 := Scalar.muli v1 c8_i32_1472
  let c5_i32_1473 : BitVec 32 := 5#32
  let v1650 : BitVec 32 := Scalar.addi v1649 c5_i32_1473
  let c5_i32_1474 : BitVec 32 := 5#32
  let v1651 : BitVec 32 := Scalar.shrui v1650 c5_i32_1474
  let c32_i32_1476 : BitVec 32 := 32#32
  let v1658 : BitVec 32 := Scalar.muli v1651 c32_i32_1476
  let v1659 : BitVec 32 := Scalar.addi v1658 v1657
  let c56_i32_1477 : BitVec 32 := 56#32
  let v1660 : BitVec 32 := Scalar.muli v1659 c56_i32_1477
  let c32_i32_1478 : BitVec 32 := 32#32
  let v1661 : BitVec 32 := Scalar.addi v1660 c32_i32_1478
  let c0_i32_1479 : BitVec 32 := 0#32
  let c0_i32_1480 : BitVec 32 := 0#32
  ![v1661.toNat, 0, 0]

def k0_chk80 (i : grid0.Coords) (v1657 : BitVec 32) : Prop :=
  (∀ a, (k0_off199 i v1657) a + S8x56x64.size a ≤ S14336x56x64.size a)
theorem k0_off199_inb : ∀ (i : grid0.Coords) (v1657 : BitVec 32) (k0_hw80 : k0_chk80 i v1657), ∀ a, (k0_off199 i v1657) a + S8x56x64.size a ≤ S14336x56x64.size a := fun i v1657 k0_hw80 => k0_hw80

def k0_off200 (i : grid0.Coords) (c32_i32_1486 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1483 : BitVec 32 := 8#32
  let v1664 : BitVec 32 := Scalar.muli v1 c8_i32_1483
  let c5_i32_1484 : BitVec 32 := 5#32
  let v1665 : BitVec 32 := Scalar.addi v1664 c5_i32_1484
  let c56_i32_1485 : BitVec 32 := 56#32
  let v1666 : BitVec 32 := Scalar.muli v1665 c56_i32_1485
  let v1667 : BitVec 32 := Scalar.addi v1666 c32_i32_1486
  let c0_i32_1487 : BitVec 32 := 0#32
  let c0_i32_1488 : BitVec 32 := 0#32
  ![v1667.toNat, 0, 0]
def k0_off201 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1499 : BitVec 32 := 8#32
  let v1676 : BitVec 32 := Scalar.muli v1 c8_i32_1499
  let c5_i32_1500 : BitVec 32 := 5#32
  let v1677 : BitVec 32 := Scalar.addi v1676 c5_i32_1500
  let c31_i32_1502 : BitVec 32 := 31#32
  let v1679 : BitVec 32 := Scalar.andi v1677 c31_i32_1502
  let v1680 : Index := Scalar.indexCast v1679
  ![v1680.toNat]
def k0_off202 (i : grid0.Coords) (v1684 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1499 : BitVec 32 := 8#32
  let v1676 : BitVec 32 := Scalar.muli v1 c8_i32_1499
  let c5_i32_1500 : BitVec 32 := 5#32
  let v1677 : BitVec 32 := Scalar.addi v1676 c5_i32_1500
  let c5_i32_1501 : BitVec 32 := 5#32
  let v1678 : BitVec 32 := Scalar.shrui v1677 c5_i32_1501
  let c32_i32_1503 : BitVec 32 := 32#32
  let v1685 : BitVec 32 := Scalar.muli v1678 c32_i32_1503
  let v1686 : BitVec 32 := Scalar.addi v1685 v1684
  let c56_i32_1504 : BitVec 32 := 56#32
  let v1687 : BitVec 32 := Scalar.muli v1686 c56_i32_1504
  let c40_i32_1505 : BitVec 32 := 40#32
  let v1688 : BitVec 32 := Scalar.addi v1687 c40_i32_1505
  let c0_i32_1506 : BitVec 32 := 0#32
  let c0_i32_1507 : BitVec 32 := 0#32
  ![v1688.toNat, 0, 0]

def k0_chk81 (i : grid0.Coords) (v1684 : BitVec 32) : Prop :=
  (∀ a, (k0_off202 i v1684) a + S8x56x64.size a ≤ S14336x56x64.size a)
theorem k0_off202_inb : ∀ (i : grid0.Coords) (v1684 : BitVec 32) (k0_hw81 : k0_chk81 i v1684), ∀ a, (k0_off202 i v1684) a + S8x56x64.size a ≤ S14336x56x64.size a := fun i v1684 k0_hw81 => k0_hw81

def k0_off203 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1510 : BitVec 32 := 8#32
  let v1691 : BitVec 32 := Scalar.muli v1 c8_i32_1510
  let c5_i32_1511 : BitVec 32 := 5#32
  let v1692 : BitVec 32 := Scalar.addi v1691 c5_i32_1511
  let c31_i32_1513 : BitVec 32 := 31#32
  let v1694 : BitVec 32 := Scalar.andi v1692 c31_i32_1513
  let v1695 : Index := Scalar.indexCast v1694
  ![v1695.toNat]
def k0_off204 (i : grid0.Coords) (v1699 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1510 : BitVec 32 := 8#32
  let v1691 : BitVec 32 := Scalar.muli v1 c8_i32_1510
  let c5_i32_1511 : BitVec 32 := 5#32
  let v1692 : BitVec 32 := Scalar.addi v1691 c5_i32_1511
  let c5_i32_1512 : BitVec 32 := 5#32
  let v1693 : BitVec 32 := Scalar.shrui v1692 c5_i32_1512
  let c32_i32_1514 : BitVec 32 := 32#32
  let v1700 : BitVec 32 := Scalar.muli v1693 c32_i32_1514
  let v1701 : BitVec 32 := Scalar.addi v1700 v1699
  let c56_i32_1515 : BitVec 32 := 56#32
  let v1702 : BitVec 32 := Scalar.muli v1701 c56_i32_1515
  let c40_i32_1516 : BitVec 32 := 40#32
  let v1703 : BitVec 32 := Scalar.addi v1702 c40_i32_1516
  let c0_i32_1517 : BitVec 32 := 0#32
  let c0_i32_1518 : BitVec 32 := 0#32
  ![v1703.toNat, 0, 0]

def k0_chk82 (i : grid0.Coords) (v1699 : BitVec 32) : Prop :=
  (∀ a, (k0_off204 i v1699) a + S8x56x64.size a ≤ S14336x56x64.size a)
theorem k0_off204_inb : ∀ (i : grid0.Coords) (v1699 : BitVec 32) (k0_hw82 : k0_chk82 i v1699), ∀ a, (k0_off204 i v1699) a + S8x56x64.size a ≤ S14336x56x64.size a := fun i v1699 k0_hw82 => k0_hw82

def k0_off205 (i : grid0.Coords) (c40_i32_1524 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1521 : BitVec 32 := 8#32
  let v1706 : BitVec 32 := Scalar.muli v1 c8_i32_1521
  let c5_i32_1522 : BitVec 32 := 5#32
  let v1707 : BitVec 32 := Scalar.addi v1706 c5_i32_1522
  let c56_i32_1523 : BitVec 32 := 56#32
  let v1708 : BitVec 32 := Scalar.muli v1707 c56_i32_1523
  let v1709 : BitVec 32 := Scalar.addi v1708 c40_i32_1524
  let c0_i32_1525 : BitVec 32 := 0#32
  let c0_i32_1526 : BitVec 32 := 0#32
  ![v1709.toNat, 0, 0]
def k0_off206 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1537 : BitVec 32 := 8#32
  let v1718 : BitVec 32 := Scalar.muli v1 c8_i32_1537
  let c5_i32_1538 : BitVec 32 := 5#32
  let v1719 : BitVec 32 := Scalar.addi v1718 c5_i32_1538
  let c31_i32_1540 : BitVec 32 := 31#32
  let v1721 : BitVec 32 := Scalar.andi v1719 c31_i32_1540
  let v1722 : Index := Scalar.indexCast v1721
  ![v1722.toNat]
def k0_off207 (i : grid0.Coords) (v1726 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1537 : BitVec 32 := 8#32
  let v1718 : BitVec 32 := Scalar.muli v1 c8_i32_1537
  let c5_i32_1538 : BitVec 32 := 5#32
  let v1719 : BitVec 32 := Scalar.addi v1718 c5_i32_1538
  let c5_i32_1539 : BitVec 32 := 5#32
  let v1720 : BitVec 32 := Scalar.shrui v1719 c5_i32_1539
  let c32_i32_1541 : BitVec 32 := 32#32
  let v1727 : BitVec 32 := Scalar.muli v1720 c32_i32_1541
  let v1728 : BitVec 32 := Scalar.addi v1727 v1726
  let c56_i32_1542 : BitVec 32 := 56#32
  let v1729 : BitVec 32 := Scalar.muli v1728 c56_i32_1542
  let c48_i32_1543 : BitVec 32 := 48#32
  let v1730 : BitVec 32 := Scalar.addi v1729 c48_i32_1543
  let c0_i32_1544 : BitVec 32 := 0#32
  let c0_i32_1545 : BitVec 32 := 0#32
  ![v1730.toNat, 0, 0]

def k0_chk83 (i : grid0.Coords) (v1726 : BitVec 32) : Prop :=
  (∀ a, (k0_off207 i v1726) a + S8x56x64.size a ≤ S14336x56x64.size a)
theorem k0_off207_inb : ∀ (i : grid0.Coords) (v1726 : BitVec 32) (k0_hw83 : k0_chk83 i v1726), ∀ a, (k0_off207 i v1726) a + S8x56x64.size a ≤ S14336x56x64.size a := fun i v1726 k0_hw83 => k0_hw83

def k0_off208 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1548 : BitVec 32 := 8#32
  let v1733 : BitVec 32 := Scalar.muli v1 c8_i32_1548
  let c5_i32_1549 : BitVec 32 := 5#32
  let v1734 : BitVec 32 := Scalar.addi v1733 c5_i32_1549
  let c31_i32_1551 : BitVec 32 := 31#32
  let v1736 : BitVec 32 := Scalar.andi v1734 c31_i32_1551
  let v1737 : Index := Scalar.indexCast v1736
  ![v1737.toNat]
def k0_off209 (i : grid0.Coords) (v1741 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1548 : BitVec 32 := 8#32
  let v1733 : BitVec 32 := Scalar.muli v1 c8_i32_1548
  let c5_i32_1549 : BitVec 32 := 5#32
  let v1734 : BitVec 32 := Scalar.addi v1733 c5_i32_1549
  let c5_i32_1550 : BitVec 32 := 5#32
  let v1735 : BitVec 32 := Scalar.shrui v1734 c5_i32_1550
  let c32_i32_1552 : BitVec 32 := 32#32
  let v1742 : BitVec 32 := Scalar.muli v1735 c32_i32_1552
  let v1743 : BitVec 32 := Scalar.addi v1742 v1741
  let c56_i32_1553 : BitVec 32 := 56#32
  let v1744 : BitVec 32 := Scalar.muli v1743 c56_i32_1553
  let c48_i32_1554 : BitVec 32 := 48#32
  let v1745 : BitVec 32 := Scalar.addi v1744 c48_i32_1554
  let c0_i32_1555 : BitVec 32 := 0#32
  let c0_i32_1556 : BitVec 32 := 0#32
  ![v1745.toNat, 0, 0]

def k0_chk84 (i : grid0.Coords) (v1741 : BitVec 32) : Prop :=
  (∀ a, (k0_off209 i v1741) a + S8x56x64.size a ≤ S14336x56x64.size a)
theorem k0_off209_inb : ∀ (i : grid0.Coords) (v1741 : BitVec 32) (k0_hw84 : k0_chk84 i v1741), ∀ a, (k0_off209 i v1741) a + S8x56x64.size a ≤ S14336x56x64.size a := fun i v1741 k0_hw84 => k0_hw84

def k0_off210 (i : grid0.Coords) (c48_i32_1562 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1559 : BitVec 32 := 8#32
  let v1748 : BitVec 32 := Scalar.muli v1 c8_i32_1559
  let c5_i32_1560 : BitVec 32 := 5#32
  let v1749 : BitVec 32 := Scalar.addi v1748 c5_i32_1560
  let c56_i32_1561 : BitVec 32 := 56#32
  let v1750 : BitVec 32 := Scalar.muli v1749 c56_i32_1561
  let v1751 : BitVec 32 := Scalar.addi v1750 c48_i32_1562
  let c0_i32_1563 : BitVec 32 := 0#32
  let c0_i32_1564 : BitVec 32 := 0#32
  ![v1751.toNat, 0, 0]
def k0_off211 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1575 : BitVec 32 := 8#32
  let v1760 : BitVec 32 := Scalar.muli v1 c8_i32_1575
  let c6_i32 : BitVec 32 := 6#32
  let v1761 : BitVec 32 := Scalar.addi v1760 c6_i32
  let c31_i32_1577 : BitVec 32 := 31#32
  let v1763 : BitVec 32 := Scalar.andi v1761 c31_i32_1577
  let v1764 : Index := Scalar.indexCast v1763
  ![v1764.toNat]
def k0_off212 (i : grid0.Coords) (v1768 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1575 : BitVec 32 := 8#32
  let v1760 : BitVec 32 := Scalar.muli v1 c8_i32_1575
  let c6_i32 : BitVec 32 := 6#32
  let v1761 : BitVec 32 := Scalar.addi v1760 c6_i32
  let c5_i32_1576 : BitVec 32 := 5#32
  let v1762 : BitVec 32 := Scalar.shrui v1761 c5_i32_1576
  let c32_i32_1578 : BitVec 32 := 32#32
  let v1769 : BitVec 32 := Scalar.muli v1762 c32_i32_1578
  let v1770 : BitVec 32 := Scalar.addi v1769 v1768
  let c56_i32_1579 : BitVec 32 := 56#32
  let v1771 : BitVec 32 := Scalar.muli v1770 c56_i32_1579
  let c0_i32_1580 : BitVec 32 := 0#32
  let v1772 : BitVec 32 := Scalar.addi v1771 c0_i32_1580
  let c0_i32_1581 : BitVec 32 := 0#32
  let c0_i32_1582 : BitVec 32 := 0#32
  ![v1772.toNat, 0, 0]

def k0_chk85 (i : grid0.Coords) (v1768 : BitVec 32) : Prop :=
  (∀ a, (k0_off212 i v1768) a + S8x56x64.size a ≤ S14336x56x64.size a)
theorem k0_off212_inb : ∀ (i : grid0.Coords) (v1768 : BitVec 32) (k0_hw85 : k0_chk85 i v1768), ∀ a, (k0_off212 i v1768) a + S8x56x64.size a ≤ S14336x56x64.size a := fun i v1768 k0_hw85 => k0_hw85

def k0_off213 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1585 : BitVec 32 := 8#32
  let v1775 : BitVec 32 := Scalar.muli v1 c8_i32_1585
  let c6_i32_1586 : BitVec 32 := 6#32
  let v1776 : BitVec 32 := Scalar.addi v1775 c6_i32_1586
  let c31_i32_1588 : BitVec 32 := 31#32
  let v1778 : BitVec 32 := Scalar.andi v1776 c31_i32_1588
  let v1779 : Index := Scalar.indexCast v1778
  ![v1779.toNat]
def k0_off214 (i : grid0.Coords) (v1783 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1585 : BitVec 32 := 8#32
  let v1775 : BitVec 32 := Scalar.muli v1 c8_i32_1585
  let c6_i32_1586 : BitVec 32 := 6#32
  let v1776 : BitVec 32 := Scalar.addi v1775 c6_i32_1586
  let c5_i32_1587 : BitVec 32 := 5#32
  let v1777 : BitVec 32 := Scalar.shrui v1776 c5_i32_1587
  let c32_i32_1589 : BitVec 32 := 32#32
  let v1784 : BitVec 32 := Scalar.muli v1777 c32_i32_1589
  let v1785 : BitVec 32 := Scalar.addi v1784 v1783
  let c56_i32_1590 : BitVec 32 := 56#32
  let v1786 : BitVec 32 := Scalar.muli v1785 c56_i32_1590
  let c0_i32_1591 : BitVec 32 := 0#32
  let v1787 : BitVec 32 := Scalar.addi v1786 c0_i32_1591
  let c0_i32_1592 : BitVec 32 := 0#32
  let c0_i32_1593 : BitVec 32 := 0#32
  ![v1787.toNat, 0, 0]

def k0_chk86 (i : grid0.Coords) (v1783 : BitVec 32) : Prop :=
  (∀ a, (k0_off214 i v1783) a + S8x56x64.size a ≤ S14336x56x64.size a)
theorem k0_off214_inb : ∀ (i : grid0.Coords) (v1783 : BitVec 32) (k0_hw86 : k0_chk86 i v1783), ∀ a, (k0_off214 i v1783) a + S8x56x64.size a ≤ S14336x56x64.size a := fun i v1783 k0_hw86 => k0_hw86

def k0_off215 (i : grid0.Coords) (c6_i32_1597 : BitVec 32) (c0_i32_1599 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1596 : BitVec 32 := 8#32
  let v1790 : BitVec 32 := Scalar.muli v1 c8_i32_1596
  let v1791 : BitVec 32 := Scalar.addi v1790 c6_i32_1597
  let c56_i32_1598 : BitVec 32 := 56#32
  let v1792 : BitVec 32 := Scalar.muli v1791 c56_i32_1598
  let v1793 : BitVec 32 := Scalar.addi v1792 c0_i32_1599
  let c0_i32_1600 : BitVec 32 := 0#32
  let c0_i32_1601 : BitVec 32 := 0#32
  ![v1793.toNat, 0, 0]
def k0_off215_at (r : Fin 2) : BitVec 32 × BitVec 32 :=
  if r.val < 1 then
    (6#32, 0#32)
  else
    (5#32, 48#32)
def k0_off216 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1612 : BitVec 32 := 8#32
  let v1802 : BitVec 32 := Scalar.muli v1 c8_i32_1612
  let c6_i32_1613 : BitVec 32 := 6#32
  let v1803 : BitVec 32 := Scalar.addi v1802 c6_i32_1613
  let c31_i32_1615 : BitVec 32 := 31#32
  let v1805 : BitVec 32 := Scalar.andi v1803 c31_i32_1615
  let v1806 : Index := Scalar.indexCast v1805
  ![v1806.toNat]
def k0_off217 (i : grid0.Coords) (v1810 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1612 : BitVec 32 := 8#32
  let v1802 : BitVec 32 := Scalar.muli v1 c8_i32_1612
  let c6_i32_1613 : BitVec 32 := 6#32
  let v1803 : BitVec 32 := Scalar.addi v1802 c6_i32_1613
  let c5_i32_1614 : BitVec 32 := 5#32
  let v1804 : BitVec 32 := Scalar.shrui v1803 c5_i32_1614
  let c32_i32_1616 : BitVec 32 := 32#32
  let v1811 : BitVec 32 := Scalar.muli v1804 c32_i32_1616
  let v1812 : BitVec 32 := Scalar.addi v1811 v1810
  let c56_i32_1617 : BitVec 32 := 56#32
  let v1813 : BitVec 32 := Scalar.muli v1812 c56_i32_1617
  let c8_i32_1618 : BitVec 32 := 8#32
  let v1814 : BitVec 32 := Scalar.addi v1813 c8_i32_1618
  let c0_i32_1619 : BitVec 32 := 0#32
  let c0_i32_1620 : BitVec 32 := 0#32
  ![v1814.toNat, 0, 0]

def k0_chk87 (i : grid0.Coords) (v1810 : BitVec 32) : Prop :=
  (∀ a, (k0_off217 i v1810) a + S8x56x64.size a ≤ S14336x56x64.size a)
theorem k0_off217_inb : ∀ (i : grid0.Coords) (v1810 : BitVec 32) (k0_hw87 : k0_chk87 i v1810), ∀ a, (k0_off217 i v1810) a + S8x56x64.size a ≤ S14336x56x64.size a := fun i v1810 k0_hw87 => k0_hw87

def k0_off218 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1623 : BitVec 32 := 8#32
  let v1817 : BitVec 32 := Scalar.muli v1 c8_i32_1623
  let c6_i32_1624 : BitVec 32 := 6#32
  let v1818 : BitVec 32 := Scalar.addi v1817 c6_i32_1624
  let c31_i32_1626 : BitVec 32 := 31#32
  let v1820 : BitVec 32 := Scalar.andi v1818 c31_i32_1626
  let v1821 : Index := Scalar.indexCast v1820
  ![v1821.toNat]
def k0_off219 (i : grid0.Coords) (v1825 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1623 : BitVec 32 := 8#32
  let v1817 : BitVec 32 := Scalar.muli v1 c8_i32_1623
  let c6_i32_1624 : BitVec 32 := 6#32
  let v1818 : BitVec 32 := Scalar.addi v1817 c6_i32_1624
  let c5_i32_1625 : BitVec 32 := 5#32
  let v1819 : BitVec 32 := Scalar.shrui v1818 c5_i32_1625
  let c32_i32_1627 : BitVec 32 := 32#32
  let v1826 : BitVec 32 := Scalar.muli v1819 c32_i32_1627
  let v1827 : BitVec 32 := Scalar.addi v1826 v1825
  let c56_i32_1628 : BitVec 32 := 56#32
  let v1828 : BitVec 32 := Scalar.muli v1827 c56_i32_1628
  let c8_i32_1629 : BitVec 32 := 8#32
  let v1829 : BitVec 32 := Scalar.addi v1828 c8_i32_1629
  let c0_i32_1630 : BitVec 32 := 0#32
  let c0_i32_1631 : BitVec 32 := 0#32
  ![v1829.toNat, 0, 0]

def k0_chk88 (i : grid0.Coords) (v1825 : BitVec 32) : Prop :=
  (∀ a, (k0_off219 i v1825) a + S8x56x64.size a ≤ S14336x56x64.size a)
theorem k0_off219_inb : ∀ (i : grid0.Coords) (v1825 : BitVec 32) (k0_hw88 : k0_chk88 i v1825), ∀ a, (k0_off219 i v1825) a + S8x56x64.size a ≤ S14336x56x64.size a := fun i v1825 k0_hw88 => k0_hw88

def k0_off220 (i : grid0.Coords) (c8_i32_1637 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1634 : BitVec 32 := 8#32
  let v1832 : BitVec 32 := Scalar.muli v1 c8_i32_1634
  let c6_i32_1635 : BitVec 32 := 6#32
  let v1833 : BitVec 32 := Scalar.addi v1832 c6_i32_1635
  let c56_i32_1636 : BitVec 32 := 56#32
  let v1834 : BitVec 32 := Scalar.muli v1833 c56_i32_1636
  let v1835 : BitVec 32 := Scalar.addi v1834 c8_i32_1637
  let c0_i32_1638 : BitVec 32 := 0#32
  let c0_i32_1639 : BitVec 32 := 0#32
  ![v1835.toNat, 0, 0]
def k0_off221 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1650 : BitVec 32 := 8#32
  let v1844 : BitVec 32 := Scalar.muli v1 c8_i32_1650
  let c6_i32_1651 : BitVec 32 := 6#32
  let v1845 : BitVec 32 := Scalar.addi v1844 c6_i32_1651
  let c31_i32_1653 : BitVec 32 := 31#32
  let v1847 : BitVec 32 := Scalar.andi v1845 c31_i32_1653
  let v1848 : Index := Scalar.indexCast v1847
  ![v1848.toNat]
def k0_off222 (i : grid0.Coords) (v1852 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1650 : BitVec 32 := 8#32
  let v1844 : BitVec 32 := Scalar.muli v1 c8_i32_1650
  let c6_i32_1651 : BitVec 32 := 6#32
  let v1845 : BitVec 32 := Scalar.addi v1844 c6_i32_1651
  let c5_i32_1652 : BitVec 32 := 5#32
  let v1846 : BitVec 32 := Scalar.shrui v1845 c5_i32_1652
  let c32_i32_1654 : BitVec 32 := 32#32
  let v1853 : BitVec 32 := Scalar.muli v1846 c32_i32_1654
  let v1854 : BitVec 32 := Scalar.addi v1853 v1852
  let c56_i32_1655 : BitVec 32 := 56#32
  let v1855 : BitVec 32 := Scalar.muli v1854 c56_i32_1655
  let c16_i32_1656 : BitVec 32 := 16#32
  let v1856 : BitVec 32 := Scalar.addi v1855 c16_i32_1656
  let c0_i32_1657 : BitVec 32 := 0#32
  let c0_i32_1658 : BitVec 32 := 0#32
  ![v1856.toNat, 0, 0]

def k0_chk89 (i : grid0.Coords) (v1852 : BitVec 32) : Prop :=
  (∀ a, (k0_off222 i v1852) a + S8x56x64.size a ≤ S14336x56x64.size a)
theorem k0_off222_inb : ∀ (i : grid0.Coords) (v1852 : BitVec 32) (k0_hw89 : k0_chk89 i v1852), ∀ a, (k0_off222 i v1852) a + S8x56x64.size a ≤ S14336x56x64.size a := fun i v1852 k0_hw89 => k0_hw89

def k0_off223 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1661 : BitVec 32 := 8#32
  let v1859 : BitVec 32 := Scalar.muli v1 c8_i32_1661
  let c6_i32_1662 : BitVec 32 := 6#32
  let v1860 : BitVec 32 := Scalar.addi v1859 c6_i32_1662
  let c31_i32_1664 : BitVec 32 := 31#32
  let v1862 : BitVec 32 := Scalar.andi v1860 c31_i32_1664
  let v1863 : Index := Scalar.indexCast v1862
  ![v1863.toNat]
def k0_off224 (i : grid0.Coords) (v1867 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1661 : BitVec 32 := 8#32
  let v1859 : BitVec 32 := Scalar.muli v1 c8_i32_1661
  let c6_i32_1662 : BitVec 32 := 6#32
  let v1860 : BitVec 32 := Scalar.addi v1859 c6_i32_1662
  let c5_i32_1663 : BitVec 32 := 5#32
  let v1861 : BitVec 32 := Scalar.shrui v1860 c5_i32_1663
  let c32_i32_1665 : BitVec 32 := 32#32
  let v1868 : BitVec 32 := Scalar.muli v1861 c32_i32_1665
  let v1869 : BitVec 32 := Scalar.addi v1868 v1867
  let c56_i32_1666 : BitVec 32 := 56#32
  let v1870 : BitVec 32 := Scalar.muli v1869 c56_i32_1666
  let c16_i32_1667 : BitVec 32 := 16#32
  let v1871 : BitVec 32 := Scalar.addi v1870 c16_i32_1667
  let c0_i32_1668 : BitVec 32 := 0#32
  let c0_i32_1669 : BitVec 32 := 0#32
  ![v1871.toNat, 0, 0]

def k0_chk90 (i : grid0.Coords) (v1867 : BitVec 32) : Prop :=
  (∀ a, (k0_off224 i v1867) a + S8x56x64.size a ≤ S14336x56x64.size a)
theorem k0_off224_inb : ∀ (i : grid0.Coords) (v1867 : BitVec 32) (k0_hw90 : k0_chk90 i v1867), ∀ a, (k0_off224 i v1867) a + S8x56x64.size a ≤ S14336x56x64.size a := fun i v1867 k0_hw90 => k0_hw90

def k0_off225 (i : grid0.Coords) (c16_i32_1675 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1672 : BitVec 32 := 8#32
  let v1874 : BitVec 32 := Scalar.muli v1 c8_i32_1672
  let c6_i32_1673 : BitVec 32 := 6#32
  let v1875 : BitVec 32 := Scalar.addi v1874 c6_i32_1673
  let c56_i32_1674 : BitVec 32 := 56#32
  let v1876 : BitVec 32 := Scalar.muli v1875 c56_i32_1674
  let v1877 : BitVec 32 := Scalar.addi v1876 c16_i32_1675
  let c0_i32_1676 : BitVec 32 := 0#32
  let c0_i32_1677 : BitVec 32 := 0#32
  ![v1877.toNat, 0, 0]
def k0_off226 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1688 : BitVec 32 := 8#32
  let v1886 : BitVec 32 := Scalar.muli v1 c8_i32_1688
  let c6_i32_1689 : BitVec 32 := 6#32
  let v1887 : BitVec 32 := Scalar.addi v1886 c6_i32_1689
  let c31_i32_1691 : BitVec 32 := 31#32
  let v1889 : BitVec 32 := Scalar.andi v1887 c31_i32_1691
  let v1890 : Index := Scalar.indexCast v1889
  ![v1890.toNat]
def k0_off227 (i : grid0.Coords) (v1894 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1688 : BitVec 32 := 8#32
  let v1886 : BitVec 32 := Scalar.muli v1 c8_i32_1688
  let c6_i32_1689 : BitVec 32 := 6#32
  let v1887 : BitVec 32 := Scalar.addi v1886 c6_i32_1689
  let c5_i32_1690 : BitVec 32 := 5#32
  let v1888 : BitVec 32 := Scalar.shrui v1887 c5_i32_1690
  let c32_i32_1692 : BitVec 32 := 32#32
  let v1895 : BitVec 32 := Scalar.muli v1888 c32_i32_1692
  let v1896 : BitVec 32 := Scalar.addi v1895 v1894
  let c56_i32_1693 : BitVec 32 := 56#32
  let v1897 : BitVec 32 := Scalar.muli v1896 c56_i32_1693
  let c24_i32_1694 : BitVec 32 := 24#32
  let v1898 : BitVec 32 := Scalar.addi v1897 c24_i32_1694
  let c0_i32_1695 : BitVec 32 := 0#32
  let c0_i32_1696 : BitVec 32 := 0#32
  ![v1898.toNat, 0, 0]

def k0_chk91 (i : grid0.Coords) (v1894 : BitVec 32) : Prop :=
  (∀ a, (k0_off227 i v1894) a + S8x56x64.size a ≤ S14336x56x64.size a)
theorem k0_off227_inb : ∀ (i : grid0.Coords) (v1894 : BitVec 32) (k0_hw91 : k0_chk91 i v1894), ∀ a, (k0_off227 i v1894) a + S8x56x64.size a ≤ S14336x56x64.size a := fun i v1894 k0_hw91 => k0_hw91

def k0_off228 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1699 : BitVec 32 := 8#32
  let v1901 : BitVec 32 := Scalar.muli v1 c8_i32_1699
  let c6_i32_1700 : BitVec 32 := 6#32
  let v1902 : BitVec 32 := Scalar.addi v1901 c6_i32_1700
  let c31_i32_1702 : BitVec 32 := 31#32
  let v1904 : BitVec 32 := Scalar.andi v1902 c31_i32_1702
  let v1905 : Index := Scalar.indexCast v1904
  ![v1905.toNat]
def k0_off229 (i : grid0.Coords) (v1909 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1699 : BitVec 32 := 8#32
  let v1901 : BitVec 32 := Scalar.muli v1 c8_i32_1699
  let c6_i32_1700 : BitVec 32 := 6#32
  let v1902 : BitVec 32 := Scalar.addi v1901 c6_i32_1700
  let c5_i32_1701 : BitVec 32 := 5#32
  let v1903 : BitVec 32 := Scalar.shrui v1902 c5_i32_1701
  let c32_i32_1703 : BitVec 32 := 32#32
  let v1910 : BitVec 32 := Scalar.muli v1903 c32_i32_1703
  let v1911 : BitVec 32 := Scalar.addi v1910 v1909
  let c56_i32_1704 : BitVec 32 := 56#32
  let v1912 : BitVec 32 := Scalar.muli v1911 c56_i32_1704
  let c24_i32_1705 : BitVec 32 := 24#32
  let v1913 : BitVec 32 := Scalar.addi v1912 c24_i32_1705
  let c0_i32_1706 : BitVec 32 := 0#32
  let c0_i32_1707 : BitVec 32 := 0#32
  ![v1913.toNat, 0, 0]

def k0_chk92 (i : grid0.Coords) (v1909 : BitVec 32) : Prop :=
  (∀ a, (k0_off229 i v1909) a + S8x56x64.size a ≤ S14336x56x64.size a)
theorem k0_off229_inb : ∀ (i : grid0.Coords) (v1909 : BitVec 32) (k0_hw92 : k0_chk92 i v1909), ∀ a, (k0_off229 i v1909) a + S8x56x64.size a ≤ S14336x56x64.size a := fun i v1909 k0_hw92 => k0_hw92

def k0_off230 (i : grid0.Coords) (c24_i32_1713 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1710 : BitVec 32 := 8#32
  let v1916 : BitVec 32 := Scalar.muli v1 c8_i32_1710
  let c6_i32_1711 : BitVec 32 := 6#32
  let v1917 : BitVec 32 := Scalar.addi v1916 c6_i32_1711
  let c56_i32_1712 : BitVec 32 := 56#32
  let v1918 : BitVec 32 := Scalar.muli v1917 c56_i32_1712
  let v1919 : BitVec 32 := Scalar.addi v1918 c24_i32_1713
  let c0_i32_1714 : BitVec 32 := 0#32
  let c0_i32_1715 : BitVec 32 := 0#32
  ![v1919.toNat, 0, 0]
def k0_off231 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1726 : BitVec 32 := 8#32
  let v1928 : BitVec 32 := Scalar.muli v1 c8_i32_1726
  let c6_i32_1727 : BitVec 32 := 6#32
  let v1929 : BitVec 32 := Scalar.addi v1928 c6_i32_1727
  let c31_i32_1729 : BitVec 32 := 31#32
  let v1931 : BitVec 32 := Scalar.andi v1929 c31_i32_1729
  let v1932 : Index := Scalar.indexCast v1931
  ![v1932.toNat]
def k0_off232 (i : grid0.Coords) (v1936 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1726 : BitVec 32 := 8#32
  let v1928 : BitVec 32 := Scalar.muli v1 c8_i32_1726
  let c6_i32_1727 : BitVec 32 := 6#32
  let v1929 : BitVec 32 := Scalar.addi v1928 c6_i32_1727
  let c5_i32_1728 : BitVec 32 := 5#32
  let v1930 : BitVec 32 := Scalar.shrui v1929 c5_i32_1728
  let c32_i32_1730 : BitVec 32 := 32#32
  let v1937 : BitVec 32 := Scalar.muli v1930 c32_i32_1730
  let v1938 : BitVec 32 := Scalar.addi v1937 v1936
  let c56_i32_1731 : BitVec 32 := 56#32
  let v1939 : BitVec 32 := Scalar.muli v1938 c56_i32_1731
  let c32_i32_1732 : BitVec 32 := 32#32
  let v1940 : BitVec 32 := Scalar.addi v1939 c32_i32_1732
  let c0_i32_1733 : BitVec 32 := 0#32
  let c0_i32_1734 : BitVec 32 := 0#32
  ![v1940.toNat, 0, 0]

def k0_chk93 (i : grid0.Coords) (v1936 : BitVec 32) : Prop :=
  (∀ a, (k0_off232 i v1936) a + S8x56x64.size a ≤ S14336x56x64.size a)
theorem k0_off232_inb : ∀ (i : grid0.Coords) (v1936 : BitVec 32) (k0_hw93 : k0_chk93 i v1936), ∀ a, (k0_off232 i v1936) a + S8x56x64.size a ≤ S14336x56x64.size a := fun i v1936 k0_hw93 => k0_hw93

def k0_off233 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1737 : BitVec 32 := 8#32
  let v1943 : BitVec 32 := Scalar.muli v1 c8_i32_1737
  let c6_i32_1738 : BitVec 32 := 6#32
  let v1944 : BitVec 32 := Scalar.addi v1943 c6_i32_1738
  let c31_i32_1740 : BitVec 32 := 31#32
  let v1946 : BitVec 32 := Scalar.andi v1944 c31_i32_1740
  let v1947 : Index := Scalar.indexCast v1946
  ![v1947.toNat]
def k0_off234 (i : grid0.Coords) (v1951 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1737 : BitVec 32 := 8#32
  let v1943 : BitVec 32 := Scalar.muli v1 c8_i32_1737
  let c6_i32_1738 : BitVec 32 := 6#32
  let v1944 : BitVec 32 := Scalar.addi v1943 c6_i32_1738
  let c5_i32_1739 : BitVec 32 := 5#32
  let v1945 : BitVec 32 := Scalar.shrui v1944 c5_i32_1739
  let c32_i32_1741 : BitVec 32 := 32#32
  let v1952 : BitVec 32 := Scalar.muli v1945 c32_i32_1741
  let v1953 : BitVec 32 := Scalar.addi v1952 v1951
  let c56_i32_1742 : BitVec 32 := 56#32
  let v1954 : BitVec 32 := Scalar.muli v1953 c56_i32_1742
  let c32_i32_1743 : BitVec 32 := 32#32
  let v1955 : BitVec 32 := Scalar.addi v1954 c32_i32_1743
  let c0_i32_1744 : BitVec 32 := 0#32
  let c0_i32_1745 : BitVec 32 := 0#32
  ![v1955.toNat, 0, 0]

def k0_chk94 (i : grid0.Coords) (v1951 : BitVec 32) : Prop :=
  (∀ a, (k0_off234 i v1951) a + S8x56x64.size a ≤ S14336x56x64.size a)
theorem k0_off234_inb : ∀ (i : grid0.Coords) (v1951 : BitVec 32) (k0_hw94 : k0_chk94 i v1951), ∀ a, (k0_off234 i v1951) a + S8x56x64.size a ≤ S14336x56x64.size a := fun i v1951 k0_hw94 => k0_hw94

def k0_off235 (i : grid0.Coords) (c32_i32_1751 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1748 : BitVec 32 := 8#32
  let v1958 : BitVec 32 := Scalar.muli v1 c8_i32_1748
  let c6_i32_1749 : BitVec 32 := 6#32
  let v1959 : BitVec 32 := Scalar.addi v1958 c6_i32_1749
  let c56_i32_1750 : BitVec 32 := 56#32
  let v1960 : BitVec 32 := Scalar.muli v1959 c56_i32_1750
  let v1961 : BitVec 32 := Scalar.addi v1960 c32_i32_1751
  let c0_i32_1752 : BitVec 32 := 0#32
  let c0_i32_1753 : BitVec 32 := 0#32
  ![v1961.toNat, 0, 0]
def k0_off236 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1764 : BitVec 32 := 8#32
  let v1970 : BitVec 32 := Scalar.muli v1 c8_i32_1764
  let c6_i32_1765 : BitVec 32 := 6#32
  let v1971 : BitVec 32 := Scalar.addi v1970 c6_i32_1765
  let c31_i32_1767 : BitVec 32 := 31#32
  let v1973 : BitVec 32 := Scalar.andi v1971 c31_i32_1767
  let v1974 : Index := Scalar.indexCast v1973
  ![v1974.toNat]
def k0_off237 (i : grid0.Coords) (v1978 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1764 : BitVec 32 := 8#32
  let v1970 : BitVec 32 := Scalar.muli v1 c8_i32_1764
  let c6_i32_1765 : BitVec 32 := 6#32
  let v1971 : BitVec 32 := Scalar.addi v1970 c6_i32_1765
  let c5_i32_1766 : BitVec 32 := 5#32
  let v1972 : BitVec 32 := Scalar.shrui v1971 c5_i32_1766
  let c32_i32_1768 : BitVec 32 := 32#32
  let v1979 : BitVec 32 := Scalar.muli v1972 c32_i32_1768
  let v1980 : BitVec 32 := Scalar.addi v1979 v1978
  let c56_i32_1769 : BitVec 32 := 56#32
  let v1981 : BitVec 32 := Scalar.muli v1980 c56_i32_1769
  let c40_i32_1770 : BitVec 32 := 40#32
  let v1982 : BitVec 32 := Scalar.addi v1981 c40_i32_1770
  let c0_i32_1771 : BitVec 32 := 0#32
  let c0_i32_1772 : BitVec 32 := 0#32
  ![v1982.toNat, 0, 0]

def k0_chk95 (i : grid0.Coords) (v1978 : BitVec 32) : Prop :=
  (∀ a, (k0_off237 i v1978) a + S8x56x64.size a ≤ S14336x56x64.size a)
theorem k0_off237_inb : ∀ (i : grid0.Coords) (v1978 : BitVec 32) (k0_hw95 : k0_chk95 i v1978), ∀ a, (k0_off237 i v1978) a + S8x56x64.size a ≤ S14336x56x64.size a := fun i v1978 k0_hw95 => k0_hw95

def k0_off238 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1775 : BitVec 32 := 8#32
  let v1985 : BitVec 32 := Scalar.muli v1 c8_i32_1775
  let c6_i32_1776 : BitVec 32 := 6#32
  let v1986 : BitVec 32 := Scalar.addi v1985 c6_i32_1776
  let c31_i32_1778 : BitVec 32 := 31#32
  let v1988 : BitVec 32 := Scalar.andi v1986 c31_i32_1778
  let v1989 : Index := Scalar.indexCast v1988
  ![v1989.toNat]
def k0_off239 (i : grid0.Coords) (v1993 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1775 : BitVec 32 := 8#32
  let v1985 : BitVec 32 := Scalar.muli v1 c8_i32_1775
  let c6_i32_1776 : BitVec 32 := 6#32
  let v1986 : BitVec 32 := Scalar.addi v1985 c6_i32_1776
  let c5_i32_1777 : BitVec 32 := 5#32
  let v1987 : BitVec 32 := Scalar.shrui v1986 c5_i32_1777
  let c32_i32_1779 : BitVec 32 := 32#32
  let v1994 : BitVec 32 := Scalar.muli v1987 c32_i32_1779
  let v1995 : BitVec 32 := Scalar.addi v1994 v1993
  let c56_i32_1780 : BitVec 32 := 56#32
  let v1996 : BitVec 32 := Scalar.muli v1995 c56_i32_1780
  let c40_i32_1781 : BitVec 32 := 40#32
  let v1997 : BitVec 32 := Scalar.addi v1996 c40_i32_1781
  let c0_i32_1782 : BitVec 32 := 0#32
  let c0_i32_1783 : BitVec 32 := 0#32
  ![v1997.toNat, 0, 0]

def k0_chk96 (i : grid0.Coords) (v1993 : BitVec 32) : Prop :=
  (∀ a, (k0_off239 i v1993) a + S8x56x64.size a ≤ S14336x56x64.size a)
theorem k0_off239_inb : ∀ (i : grid0.Coords) (v1993 : BitVec 32) (k0_hw96 : k0_chk96 i v1993), ∀ a, (k0_off239 i v1993) a + S8x56x64.size a ≤ S14336x56x64.size a := fun i v1993 k0_hw96 => k0_hw96

def k0_off240 (i : grid0.Coords) (c40_i32_1789 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1786 : BitVec 32 := 8#32
  let v2000 : BitVec 32 := Scalar.muli v1 c8_i32_1786
  let c6_i32_1787 : BitVec 32 := 6#32
  let v2001 : BitVec 32 := Scalar.addi v2000 c6_i32_1787
  let c56_i32_1788 : BitVec 32 := 56#32
  let v2002 : BitVec 32 := Scalar.muli v2001 c56_i32_1788
  let v2003 : BitVec 32 := Scalar.addi v2002 c40_i32_1789
  let c0_i32_1790 : BitVec 32 := 0#32
  let c0_i32_1791 : BitVec 32 := 0#32
  ![v2003.toNat, 0, 0]
def k0_off241 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1802 : BitVec 32 := 8#32
  let v2012 : BitVec 32 := Scalar.muli v1 c8_i32_1802
  let c6_i32_1803 : BitVec 32 := 6#32
  let v2013 : BitVec 32 := Scalar.addi v2012 c6_i32_1803
  let c31_i32_1805 : BitVec 32 := 31#32
  let v2015 : BitVec 32 := Scalar.andi v2013 c31_i32_1805
  let v2016 : Index := Scalar.indexCast v2015
  ![v2016.toNat]
def k0_off242 (i : grid0.Coords) (v2020 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1802 : BitVec 32 := 8#32
  let v2012 : BitVec 32 := Scalar.muli v1 c8_i32_1802
  let c6_i32_1803 : BitVec 32 := 6#32
  let v2013 : BitVec 32 := Scalar.addi v2012 c6_i32_1803
  let c5_i32_1804 : BitVec 32 := 5#32
  let v2014 : BitVec 32 := Scalar.shrui v2013 c5_i32_1804
  let c32_i32_1806 : BitVec 32 := 32#32
  let v2021 : BitVec 32 := Scalar.muli v2014 c32_i32_1806
  let v2022 : BitVec 32 := Scalar.addi v2021 v2020
  let c56_i32_1807 : BitVec 32 := 56#32
  let v2023 : BitVec 32 := Scalar.muli v2022 c56_i32_1807
  let c48_i32_1808 : BitVec 32 := 48#32
  let v2024 : BitVec 32 := Scalar.addi v2023 c48_i32_1808
  let c0_i32_1809 : BitVec 32 := 0#32
  let c0_i32_1810 : BitVec 32 := 0#32
  ![v2024.toNat, 0, 0]

def k0_chk97 (i : grid0.Coords) (v2020 : BitVec 32) : Prop :=
  (∀ a, (k0_off242 i v2020) a + S8x56x64.size a ≤ S14336x56x64.size a)
theorem k0_off242_inb : ∀ (i : grid0.Coords) (v2020 : BitVec 32) (k0_hw97 : k0_chk97 i v2020), ∀ a, (k0_off242 i v2020) a + S8x56x64.size a ≤ S14336x56x64.size a := fun i v2020 k0_hw97 => k0_hw97

def k0_off243 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1813 : BitVec 32 := 8#32
  let v2027 : BitVec 32 := Scalar.muli v1 c8_i32_1813
  let c6_i32_1814 : BitVec 32 := 6#32
  let v2028 : BitVec 32 := Scalar.addi v2027 c6_i32_1814
  let c31_i32_1816 : BitVec 32 := 31#32
  let v2030 : BitVec 32 := Scalar.andi v2028 c31_i32_1816
  let v2031 : Index := Scalar.indexCast v2030
  ![v2031.toNat]
def k0_off244 (i : grid0.Coords) (v2035 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1813 : BitVec 32 := 8#32
  let v2027 : BitVec 32 := Scalar.muli v1 c8_i32_1813
  let c6_i32_1814 : BitVec 32 := 6#32
  let v2028 : BitVec 32 := Scalar.addi v2027 c6_i32_1814
  let c5_i32_1815 : BitVec 32 := 5#32
  let v2029 : BitVec 32 := Scalar.shrui v2028 c5_i32_1815
  let c32_i32_1817 : BitVec 32 := 32#32
  let v2036 : BitVec 32 := Scalar.muli v2029 c32_i32_1817
  let v2037 : BitVec 32 := Scalar.addi v2036 v2035
  let c56_i32_1818 : BitVec 32 := 56#32
  let v2038 : BitVec 32 := Scalar.muli v2037 c56_i32_1818
  let c48_i32_1819 : BitVec 32 := 48#32
  let v2039 : BitVec 32 := Scalar.addi v2038 c48_i32_1819
  let c0_i32_1820 : BitVec 32 := 0#32
  let c0_i32_1821 : BitVec 32 := 0#32
  ![v2039.toNat, 0, 0]

def k0_chk98 (i : grid0.Coords) (v2035 : BitVec 32) : Prop :=
  (∀ a, (k0_off244 i v2035) a + S8x56x64.size a ≤ S14336x56x64.size a)
theorem k0_off244_inb : ∀ (i : grid0.Coords) (v2035 : BitVec 32) (k0_hw98 : k0_chk98 i v2035), ∀ a, (k0_off244 i v2035) a + S8x56x64.size a ≤ S14336x56x64.size a := fun i v2035 k0_hw98 => k0_hw98

def k0_off245 (i : grid0.Coords) (c48_i32_1827 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1824 : BitVec 32 := 8#32
  let v2042 : BitVec 32 := Scalar.muli v1 c8_i32_1824
  let c6_i32_1825 : BitVec 32 := 6#32
  let v2043 : BitVec 32 := Scalar.addi v2042 c6_i32_1825
  let c56_i32_1826 : BitVec 32 := 56#32
  let v2044 : BitVec 32 := Scalar.muli v2043 c56_i32_1826
  let v2045 : BitVec 32 := Scalar.addi v2044 c48_i32_1827
  let c0_i32_1828 : BitVec 32 := 0#32
  let c0_i32_1829 : BitVec 32 := 0#32
  ![v2045.toNat, 0, 0]
def k0_off246 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1840 : BitVec 32 := 8#32
  let v2054 : BitVec 32 := Scalar.muli v1 c8_i32_1840
  let c7_i32 : BitVec 32 := 7#32
  let v2055 : BitVec 32 := Scalar.addi v2054 c7_i32
  let c31_i32_1842 : BitVec 32 := 31#32
  let v2057 : BitVec 32 := Scalar.andi v2055 c31_i32_1842
  let v2058 : Index := Scalar.indexCast v2057
  ![v2058.toNat]
def k0_off247 (i : grid0.Coords) (v2062 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1840 : BitVec 32 := 8#32
  let v2054 : BitVec 32 := Scalar.muli v1 c8_i32_1840
  let c7_i32 : BitVec 32 := 7#32
  let v2055 : BitVec 32 := Scalar.addi v2054 c7_i32
  let c5_i32_1841 : BitVec 32 := 5#32
  let v2056 : BitVec 32 := Scalar.shrui v2055 c5_i32_1841
  let c32_i32_1843 : BitVec 32 := 32#32
  let v2063 : BitVec 32 := Scalar.muli v2056 c32_i32_1843
  let v2064 : BitVec 32 := Scalar.addi v2063 v2062
  let c56_i32_1844 : BitVec 32 := 56#32
  let v2065 : BitVec 32 := Scalar.muli v2064 c56_i32_1844
  let c0_i32_1845 : BitVec 32 := 0#32
  let v2066 : BitVec 32 := Scalar.addi v2065 c0_i32_1845
  let c0_i32_1846 : BitVec 32 := 0#32
  let c0_i32_1847 : BitVec 32 := 0#32
  ![v2066.toNat, 0, 0]

def k0_chk99 (i : grid0.Coords) (v2062 : BitVec 32) : Prop :=
  (∀ a, (k0_off247 i v2062) a + S8x56x64.size a ≤ S14336x56x64.size a)
theorem k0_off247_inb : ∀ (i : grid0.Coords) (v2062 : BitVec 32) (k0_hw99 : k0_chk99 i v2062), ∀ a, (k0_off247 i v2062) a + S8x56x64.size a ≤ S14336x56x64.size a := fun i v2062 k0_hw99 => k0_hw99

def k0_off248 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1850 : BitVec 32 := 8#32
  let v2069 : BitVec 32 := Scalar.muli v1 c8_i32_1850
  let c7_i32_1851 : BitVec 32 := 7#32
  let v2070 : BitVec 32 := Scalar.addi v2069 c7_i32_1851
  let c31_i32_1853 : BitVec 32 := 31#32
  let v2072 : BitVec 32 := Scalar.andi v2070 c31_i32_1853
  let v2073 : Index := Scalar.indexCast v2072
  ![v2073.toNat]
def k0_off249 (i : grid0.Coords) (v2077 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1850 : BitVec 32 := 8#32
  let v2069 : BitVec 32 := Scalar.muli v1 c8_i32_1850
  let c7_i32_1851 : BitVec 32 := 7#32
  let v2070 : BitVec 32 := Scalar.addi v2069 c7_i32_1851
  let c5_i32_1852 : BitVec 32 := 5#32
  let v2071 : BitVec 32 := Scalar.shrui v2070 c5_i32_1852
  let c32_i32_1854 : BitVec 32 := 32#32
  let v2078 : BitVec 32 := Scalar.muli v2071 c32_i32_1854
  let v2079 : BitVec 32 := Scalar.addi v2078 v2077
  let c56_i32_1855 : BitVec 32 := 56#32
  let v2080 : BitVec 32 := Scalar.muli v2079 c56_i32_1855
  let c0_i32_1856 : BitVec 32 := 0#32
  let v2081 : BitVec 32 := Scalar.addi v2080 c0_i32_1856
  let c0_i32_1857 : BitVec 32 := 0#32
  let c0_i32_1858 : BitVec 32 := 0#32
  ![v2081.toNat, 0, 0]

def k0_chk100 (i : grid0.Coords) (v2077 : BitVec 32) : Prop :=
  (∀ a, (k0_off249 i v2077) a + S8x56x64.size a ≤ S14336x56x64.size a)
theorem k0_off249_inb : ∀ (i : grid0.Coords) (v2077 : BitVec 32) (k0_hw100 : k0_chk100 i v2077), ∀ a, (k0_off249 i v2077) a + S8x56x64.size a ≤ S14336x56x64.size a := fun i v2077 k0_hw100 => k0_hw100

def k0_off250 (i : grid0.Coords) (c7_i32_1862 : BitVec 32) (c0_i32_1864 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1861 : BitVec 32 := 8#32
  let v2084 : BitVec 32 := Scalar.muli v1 c8_i32_1861
  let v2085 : BitVec 32 := Scalar.addi v2084 c7_i32_1862
  let c56_i32_1863 : BitVec 32 := 56#32
  let v2086 : BitVec 32 := Scalar.muli v2085 c56_i32_1863
  let v2087 : BitVec 32 := Scalar.addi v2086 c0_i32_1864
  let c0_i32_1865 : BitVec 32 := 0#32
  let c0_i32_1866 : BitVec 32 := 0#32
  ![v2087.toNat, 0, 0]
def k0_off250_at (r : Fin 2) : BitVec 32 × BitVec 32 :=
  if r.val < 1 then
    (7#32, 0#32)
  else
    (6#32, 48#32)
def k0_off251 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1877 : BitVec 32 := 8#32
  let v2096 : BitVec 32 := Scalar.muli v1 c8_i32_1877
  let c7_i32_1878 : BitVec 32 := 7#32
  let v2097 : BitVec 32 := Scalar.addi v2096 c7_i32_1878
  let c31_i32_1880 : BitVec 32 := 31#32
  let v2099 : BitVec 32 := Scalar.andi v2097 c31_i32_1880
  let v2100 : Index := Scalar.indexCast v2099
  ![v2100.toNat]
def k0_off252 (i : grid0.Coords) (v2104 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1877 : BitVec 32 := 8#32
  let v2096 : BitVec 32 := Scalar.muli v1 c8_i32_1877
  let c7_i32_1878 : BitVec 32 := 7#32
  let v2097 : BitVec 32 := Scalar.addi v2096 c7_i32_1878
  let c5_i32_1879 : BitVec 32 := 5#32
  let v2098 : BitVec 32 := Scalar.shrui v2097 c5_i32_1879
  let c32_i32_1881 : BitVec 32 := 32#32
  let v2105 : BitVec 32 := Scalar.muli v2098 c32_i32_1881
  let v2106 : BitVec 32 := Scalar.addi v2105 v2104
  let c56_i32_1882 : BitVec 32 := 56#32
  let v2107 : BitVec 32 := Scalar.muli v2106 c56_i32_1882
  let c8_i32_1883 : BitVec 32 := 8#32
  let v2108 : BitVec 32 := Scalar.addi v2107 c8_i32_1883
  let c0_i32_1884 : BitVec 32 := 0#32
  let c0_i32_1885 : BitVec 32 := 0#32
  ![v2108.toNat, 0, 0]

def k0_chk101 (i : grid0.Coords) (v2104 : BitVec 32) : Prop :=
  (∀ a, (k0_off252 i v2104) a + S8x56x64.size a ≤ S14336x56x64.size a)
theorem k0_off252_inb : ∀ (i : grid0.Coords) (v2104 : BitVec 32) (k0_hw101 : k0_chk101 i v2104), ∀ a, (k0_off252 i v2104) a + S8x56x64.size a ≤ S14336x56x64.size a := fun i v2104 k0_hw101 => k0_hw101

def k0_off253 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1888 : BitVec 32 := 8#32
  let v2111 : BitVec 32 := Scalar.muli v1 c8_i32_1888
  let c7_i32_1889 : BitVec 32 := 7#32
  let v2112 : BitVec 32 := Scalar.addi v2111 c7_i32_1889
  let c31_i32_1891 : BitVec 32 := 31#32
  let v2114 : BitVec 32 := Scalar.andi v2112 c31_i32_1891
  let v2115 : Index := Scalar.indexCast v2114
  ![v2115.toNat]
def k0_off254 (i : grid0.Coords) (v2119 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1888 : BitVec 32 := 8#32
  let v2111 : BitVec 32 := Scalar.muli v1 c8_i32_1888
  let c7_i32_1889 : BitVec 32 := 7#32
  let v2112 : BitVec 32 := Scalar.addi v2111 c7_i32_1889
  let c5_i32_1890 : BitVec 32 := 5#32
  let v2113 : BitVec 32 := Scalar.shrui v2112 c5_i32_1890
  let c32_i32_1892 : BitVec 32 := 32#32
  let v2120 : BitVec 32 := Scalar.muli v2113 c32_i32_1892
  let v2121 : BitVec 32 := Scalar.addi v2120 v2119
  let c56_i32_1893 : BitVec 32 := 56#32
  let v2122 : BitVec 32 := Scalar.muli v2121 c56_i32_1893
  let c8_i32_1894 : BitVec 32 := 8#32
  let v2123 : BitVec 32 := Scalar.addi v2122 c8_i32_1894
  let c0_i32_1895 : BitVec 32 := 0#32
  let c0_i32_1896 : BitVec 32 := 0#32
  ![v2123.toNat, 0, 0]

def k0_chk102 (i : grid0.Coords) (v2119 : BitVec 32) : Prop :=
  (∀ a, (k0_off254 i v2119) a + S8x56x64.size a ≤ S14336x56x64.size a)
theorem k0_off254_inb : ∀ (i : grid0.Coords) (v2119 : BitVec 32) (k0_hw102 : k0_chk102 i v2119), ∀ a, (k0_off254 i v2119) a + S8x56x64.size a ≤ S14336x56x64.size a := fun i v2119 k0_hw102 => k0_hw102

def k0_off255 (i : grid0.Coords) (c8_i32_1902 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1899 : BitVec 32 := 8#32
  let v2126 : BitVec 32 := Scalar.muli v1 c8_i32_1899
  let c7_i32_1900 : BitVec 32 := 7#32
  let v2127 : BitVec 32 := Scalar.addi v2126 c7_i32_1900
  let c56_i32_1901 : BitVec 32 := 56#32
  let v2128 : BitVec 32 := Scalar.muli v2127 c56_i32_1901
  let v2129 : BitVec 32 := Scalar.addi v2128 c8_i32_1902
  let c0_i32_1903 : BitVec 32 := 0#32
  let c0_i32_1904 : BitVec 32 := 0#32
  ![v2129.toNat, 0, 0]
def k0_off256 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1915 : BitVec 32 := 8#32
  let v2138 : BitVec 32 := Scalar.muli v1 c8_i32_1915
  let c7_i32_1916 : BitVec 32 := 7#32
  let v2139 : BitVec 32 := Scalar.addi v2138 c7_i32_1916
  let c31_i32_1918 : BitVec 32 := 31#32
  let v2141 : BitVec 32 := Scalar.andi v2139 c31_i32_1918
  let v2142 : Index := Scalar.indexCast v2141
  ![v2142.toNat]
def k0_off257 (i : grid0.Coords) (v2146 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1915 : BitVec 32 := 8#32
  let v2138 : BitVec 32 := Scalar.muli v1 c8_i32_1915
  let c7_i32_1916 : BitVec 32 := 7#32
  let v2139 : BitVec 32 := Scalar.addi v2138 c7_i32_1916
  let c5_i32_1917 : BitVec 32 := 5#32
  let v2140 : BitVec 32 := Scalar.shrui v2139 c5_i32_1917
  let c32_i32_1919 : BitVec 32 := 32#32
  let v2147 : BitVec 32 := Scalar.muli v2140 c32_i32_1919
  let v2148 : BitVec 32 := Scalar.addi v2147 v2146
  let c56_i32_1920 : BitVec 32 := 56#32
  let v2149 : BitVec 32 := Scalar.muli v2148 c56_i32_1920
  let c16_i32_1921 : BitVec 32 := 16#32
  let v2150 : BitVec 32 := Scalar.addi v2149 c16_i32_1921
  let c0_i32_1922 : BitVec 32 := 0#32
  let c0_i32_1923 : BitVec 32 := 0#32
  ![v2150.toNat, 0, 0]

def k0_chk103 (i : grid0.Coords) (v2146 : BitVec 32) : Prop :=
  (∀ a, (k0_off257 i v2146) a + S8x56x64.size a ≤ S14336x56x64.size a)
theorem k0_off257_inb : ∀ (i : grid0.Coords) (v2146 : BitVec 32) (k0_hw103 : k0_chk103 i v2146), ∀ a, (k0_off257 i v2146) a + S8x56x64.size a ≤ S14336x56x64.size a := fun i v2146 k0_hw103 => k0_hw103

def k0_off258 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1926 : BitVec 32 := 8#32
  let v2153 : BitVec 32 := Scalar.muli v1 c8_i32_1926
  let c7_i32_1927 : BitVec 32 := 7#32
  let v2154 : BitVec 32 := Scalar.addi v2153 c7_i32_1927
  let c31_i32_1929 : BitVec 32 := 31#32
  let v2156 : BitVec 32 := Scalar.andi v2154 c31_i32_1929
  let v2157 : Index := Scalar.indexCast v2156
  ![v2157.toNat]
def k0_off259 (i : grid0.Coords) (v2161 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1926 : BitVec 32 := 8#32
  let v2153 : BitVec 32 := Scalar.muli v1 c8_i32_1926
  let c7_i32_1927 : BitVec 32 := 7#32
  let v2154 : BitVec 32 := Scalar.addi v2153 c7_i32_1927
  let c5_i32_1928 : BitVec 32 := 5#32
  let v2155 : BitVec 32 := Scalar.shrui v2154 c5_i32_1928
  let c32_i32_1930 : BitVec 32 := 32#32
  let v2162 : BitVec 32 := Scalar.muli v2155 c32_i32_1930
  let v2163 : BitVec 32 := Scalar.addi v2162 v2161
  let c56_i32_1931 : BitVec 32 := 56#32
  let v2164 : BitVec 32 := Scalar.muli v2163 c56_i32_1931
  let c16_i32_1932 : BitVec 32 := 16#32
  let v2165 : BitVec 32 := Scalar.addi v2164 c16_i32_1932
  let c0_i32_1933 : BitVec 32 := 0#32
  let c0_i32_1934 : BitVec 32 := 0#32
  ![v2165.toNat, 0, 0]

def k0_chk104 (i : grid0.Coords) (v2161 : BitVec 32) : Prop :=
  (∀ a, (k0_off259 i v2161) a + S8x56x64.size a ≤ S14336x56x64.size a)
theorem k0_off259_inb : ∀ (i : grid0.Coords) (v2161 : BitVec 32) (k0_hw104 : k0_chk104 i v2161), ∀ a, (k0_off259 i v2161) a + S8x56x64.size a ≤ S14336x56x64.size a := fun i v2161 k0_hw104 => k0_hw104

def k0_off260 (i : grid0.Coords) (c16_i32_1940 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1937 : BitVec 32 := 8#32
  let v2168 : BitVec 32 := Scalar.muli v1 c8_i32_1937
  let c7_i32_1938 : BitVec 32 := 7#32
  let v2169 : BitVec 32 := Scalar.addi v2168 c7_i32_1938
  let c56_i32_1939 : BitVec 32 := 56#32
  let v2170 : BitVec 32 := Scalar.muli v2169 c56_i32_1939
  let v2171 : BitVec 32 := Scalar.addi v2170 c16_i32_1940
  let c0_i32_1941 : BitVec 32 := 0#32
  let c0_i32_1942 : BitVec 32 := 0#32
  ![v2171.toNat, 0, 0]
def k0_off261 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1953 : BitVec 32 := 8#32
  let v2180 : BitVec 32 := Scalar.muli v1 c8_i32_1953
  let c7_i32_1954 : BitVec 32 := 7#32
  let v2181 : BitVec 32 := Scalar.addi v2180 c7_i32_1954
  let c31_i32_1956 : BitVec 32 := 31#32
  let v2183 : BitVec 32 := Scalar.andi v2181 c31_i32_1956
  let v2184 : Index := Scalar.indexCast v2183
  ![v2184.toNat]
def k0_off262 (i : grid0.Coords) (v2188 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1953 : BitVec 32 := 8#32
  let v2180 : BitVec 32 := Scalar.muli v1 c8_i32_1953
  let c7_i32_1954 : BitVec 32 := 7#32
  let v2181 : BitVec 32 := Scalar.addi v2180 c7_i32_1954
  let c5_i32_1955 : BitVec 32 := 5#32
  let v2182 : BitVec 32 := Scalar.shrui v2181 c5_i32_1955
  let c32_i32_1957 : BitVec 32 := 32#32
  let v2189 : BitVec 32 := Scalar.muli v2182 c32_i32_1957
  let v2190 : BitVec 32 := Scalar.addi v2189 v2188
  let c56_i32_1958 : BitVec 32 := 56#32
  let v2191 : BitVec 32 := Scalar.muli v2190 c56_i32_1958
  let c24_i32_1959 : BitVec 32 := 24#32
  let v2192 : BitVec 32 := Scalar.addi v2191 c24_i32_1959
  let c0_i32_1960 : BitVec 32 := 0#32
  let c0_i32_1961 : BitVec 32 := 0#32
  ![v2192.toNat, 0, 0]

def k0_chk105 (i : grid0.Coords) (v2188 : BitVec 32) : Prop :=
  (∀ a, (k0_off262 i v2188) a + S8x56x64.size a ≤ S14336x56x64.size a)
theorem k0_off262_inb : ∀ (i : grid0.Coords) (v2188 : BitVec 32) (k0_hw105 : k0_chk105 i v2188), ∀ a, (k0_off262 i v2188) a + S8x56x64.size a ≤ S14336x56x64.size a := fun i v2188 k0_hw105 => k0_hw105

def k0_off263 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1964 : BitVec 32 := 8#32
  let v2195 : BitVec 32 := Scalar.muli v1 c8_i32_1964
  let c7_i32_1965 : BitVec 32 := 7#32
  let v2196 : BitVec 32 := Scalar.addi v2195 c7_i32_1965
  let c31_i32_1967 : BitVec 32 := 31#32
  let v2198 : BitVec 32 := Scalar.andi v2196 c31_i32_1967
  let v2199 : Index := Scalar.indexCast v2198
  ![v2199.toNat]
def k0_off264 (i : grid0.Coords) (v2203 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1964 : BitVec 32 := 8#32
  let v2195 : BitVec 32 := Scalar.muli v1 c8_i32_1964
  let c7_i32_1965 : BitVec 32 := 7#32
  let v2196 : BitVec 32 := Scalar.addi v2195 c7_i32_1965
  let c5_i32_1966 : BitVec 32 := 5#32
  let v2197 : BitVec 32 := Scalar.shrui v2196 c5_i32_1966
  let c32_i32_1968 : BitVec 32 := 32#32
  let v2204 : BitVec 32 := Scalar.muli v2197 c32_i32_1968
  let v2205 : BitVec 32 := Scalar.addi v2204 v2203
  let c56_i32_1969 : BitVec 32 := 56#32
  let v2206 : BitVec 32 := Scalar.muli v2205 c56_i32_1969
  let c24_i32_1970 : BitVec 32 := 24#32
  let v2207 : BitVec 32 := Scalar.addi v2206 c24_i32_1970
  let c0_i32_1971 : BitVec 32 := 0#32
  let c0_i32_1972 : BitVec 32 := 0#32
  ![v2207.toNat, 0, 0]

def k0_chk106 (i : grid0.Coords) (v2203 : BitVec 32) : Prop :=
  (∀ a, (k0_off264 i v2203) a + S8x56x64.size a ≤ S14336x56x64.size a)
theorem k0_off264_inb : ∀ (i : grid0.Coords) (v2203 : BitVec 32) (k0_hw106 : k0_chk106 i v2203), ∀ a, (k0_off264 i v2203) a + S8x56x64.size a ≤ S14336x56x64.size a := fun i v2203 k0_hw106 => k0_hw106

def k0_off265 (i : grid0.Coords) (c24_i32_1978 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1975 : BitVec 32 := 8#32
  let v2210 : BitVec 32 := Scalar.muli v1 c8_i32_1975
  let c7_i32_1976 : BitVec 32 := 7#32
  let v2211 : BitVec 32 := Scalar.addi v2210 c7_i32_1976
  let c56_i32_1977 : BitVec 32 := 56#32
  let v2212 : BitVec 32 := Scalar.muli v2211 c56_i32_1977
  let v2213 : BitVec 32 := Scalar.addi v2212 c24_i32_1978
  let c0_i32_1979 : BitVec 32 := 0#32
  let c0_i32_1980 : BitVec 32 := 0#32
  ![v2213.toNat, 0, 0]
def k0_off266 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1991 : BitVec 32 := 8#32
  let v2222 : BitVec 32 := Scalar.muli v1 c8_i32_1991
  let c7_i32_1992 : BitVec 32 := 7#32
  let v2223 : BitVec 32 := Scalar.addi v2222 c7_i32_1992
  let c31_i32_1994 : BitVec 32 := 31#32
  let v2225 : BitVec 32 := Scalar.andi v2223 c31_i32_1994
  let v2226 : Index := Scalar.indexCast v2225
  ![v2226.toNat]
def k0_off267 (i : grid0.Coords) (v2230 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1991 : BitVec 32 := 8#32
  let v2222 : BitVec 32 := Scalar.muli v1 c8_i32_1991
  let c7_i32_1992 : BitVec 32 := 7#32
  let v2223 : BitVec 32 := Scalar.addi v2222 c7_i32_1992
  let c5_i32_1993 : BitVec 32 := 5#32
  let v2224 : BitVec 32 := Scalar.shrui v2223 c5_i32_1993
  let c32_i32_1995 : BitVec 32 := 32#32
  let v2231 : BitVec 32 := Scalar.muli v2224 c32_i32_1995
  let v2232 : BitVec 32 := Scalar.addi v2231 v2230
  let c56_i32_1996 : BitVec 32 := 56#32
  let v2233 : BitVec 32 := Scalar.muli v2232 c56_i32_1996
  let c32_i32_1997 : BitVec 32 := 32#32
  let v2234 : BitVec 32 := Scalar.addi v2233 c32_i32_1997
  let c0_i32_1998 : BitVec 32 := 0#32
  let c0_i32_1999 : BitVec 32 := 0#32
  ![v2234.toNat, 0, 0]

def k0_chk107 (i : grid0.Coords) (v2230 : BitVec 32) : Prop :=
  (∀ a, (k0_off267 i v2230) a + S8x56x64.size a ≤ S14336x56x64.size a)
theorem k0_off267_inb : ∀ (i : grid0.Coords) (v2230 : BitVec 32) (k0_hw107 : k0_chk107 i v2230), ∀ a, (k0_off267 i v2230) a + S8x56x64.size a ≤ S14336x56x64.size a := fun i v2230 k0_hw107 => k0_hw107

def k0_off268 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2002 : BitVec 32 := 8#32
  let v2237 : BitVec 32 := Scalar.muli v1 c8_i32_2002
  let c7_i32_2003 : BitVec 32 := 7#32
  let v2238 : BitVec 32 := Scalar.addi v2237 c7_i32_2003
  let c31_i32_2005 : BitVec 32 := 31#32
  let v2240 : BitVec 32 := Scalar.andi v2238 c31_i32_2005
  let v2241 : Index := Scalar.indexCast v2240
  ![v2241.toNat]
def k0_off269 (i : grid0.Coords) (v2245 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2002 : BitVec 32 := 8#32
  let v2237 : BitVec 32 := Scalar.muli v1 c8_i32_2002
  let c7_i32_2003 : BitVec 32 := 7#32
  let v2238 : BitVec 32 := Scalar.addi v2237 c7_i32_2003
  let c5_i32_2004 : BitVec 32 := 5#32
  let v2239 : BitVec 32 := Scalar.shrui v2238 c5_i32_2004
  let c32_i32_2006 : BitVec 32 := 32#32
  let v2246 : BitVec 32 := Scalar.muli v2239 c32_i32_2006
  let v2247 : BitVec 32 := Scalar.addi v2246 v2245
  let c56_i32_2007 : BitVec 32 := 56#32
  let v2248 : BitVec 32 := Scalar.muli v2247 c56_i32_2007
  let c32_i32_2008 : BitVec 32 := 32#32
  let v2249 : BitVec 32 := Scalar.addi v2248 c32_i32_2008
  let c0_i32_2009 : BitVec 32 := 0#32
  let c0_i32_2010 : BitVec 32 := 0#32
  ![v2249.toNat, 0, 0]

def k0_chk108 (i : grid0.Coords) (v2245 : BitVec 32) : Prop :=
  (∀ a, (k0_off269 i v2245) a + S8x56x64.size a ≤ S14336x56x64.size a)
theorem k0_off269_inb : ∀ (i : grid0.Coords) (v2245 : BitVec 32) (k0_hw108 : k0_chk108 i v2245), ∀ a, (k0_off269 i v2245) a + S8x56x64.size a ≤ S14336x56x64.size a := fun i v2245 k0_hw108 => k0_hw108

def k0_off270 (i : grid0.Coords) (c32_i32_2016 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2013 : BitVec 32 := 8#32
  let v2252 : BitVec 32 := Scalar.muli v1 c8_i32_2013
  let c7_i32_2014 : BitVec 32 := 7#32
  let v2253 : BitVec 32 := Scalar.addi v2252 c7_i32_2014
  let c56_i32_2015 : BitVec 32 := 56#32
  let v2254 : BitVec 32 := Scalar.muli v2253 c56_i32_2015
  let v2255 : BitVec 32 := Scalar.addi v2254 c32_i32_2016
  let c0_i32_2017 : BitVec 32 := 0#32
  let c0_i32_2018 : BitVec 32 := 0#32
  ![v2255.toNat, 0, 0]
def k0_off271 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2029 : BitVec 32 := 8#32
  let v2264 : BitVec 32 := Scalar.muli v1 c8_i32_2029
  let c7_i32_2030 : BitVec 32 := 7#32
  let v2265 : BitVec 32 := Scalar.addi v2264 c7_i32_2030
  let c31_i32_2032 : BitVec 32 := 31#32
  let v2267 : BitVec 32 := Scalar.andi v2265 c31_i32_2032
  let v2268 : Index := Scalar.indexCast v2267
  ![v2268.toNat]
def k0_off272 (i : grid0.Coords) (v2272 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2029 : BitVec 32 := 8#32
  let v2264 : BitVec 32 := Scalar.muli v1 c8_i32_2029
  let c7_i32_2030 : BitVec 32 := 7#32
  let v2265 : BitVec 32 := Scalar.addi v2264 c7_i32_2030
  let c5_i32_2031 : BitVec 32 := 5#32
  let v2266 : BitVec 32 := Scalar.shrui v2265 c5_i32_2031
  let c32_i32_2033 : BitVec 32 := 32#32
  let v2273 : BitVec 32 := Scalar.muli v2266 c32_i32_2033
  let v2274 : BitVec 32 := Scalar.addi v2273 v2272
  let c56_i32_2034 : BitVec 32 := 56#32
  let v2275 : BitVec 32 := Scalar.muli v2274 c56_i32_2034
  let c40_i32_2035 : BitVec 32 := 40#32
  let v2276 : BitVec 32 := Scalar.addi v2275 c40_i32_2035
  let c0_i32_2036 : BitVec 32 := 0#32
  let c0_i32_2037 : BitVec 32 := 0#32
  ![v2276.toNat, 0, 0]

def k0_chk109 (i : grid0.Coords) (v2272 : BitVec 32) : Prop :=
  (∀ a, (k0_off272 i v2272) a + S8x56x64.size a ≤ S14336x56x64.size a)
theorem k0_off272_inb : ∀ (i : grid0.Coords) (v2272 : BitVec 32) (k0_hw109 : k0_chk109 i v2272), ∀ a, (k0_off272 i v2272) a + S8x56x64.size a ≤ S14336x56x64.size a := fun i v2272 k0_hw109 => k0_hw109

def k0_off273 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2040 : BitVec 32 := 8#32
  let v2279 : BitVec 32 := Scalar.muli v1 c8_i32_2040
  let c7_i32_2041 : BitVec 32 := 7#32
  let v2280 : BitVec 32 := Scalar.addi v2279 c7_i32_2041
  let c31_i32_2043 : BitVec 32 := 31#32
  let v2282 : BitVec 32 := Scalar.andi v2280 c31_i32_2043
  let v2283 : Index := Scalar.indexCast v2282
  ![v2283.toNat]
def k0_off274 (i : grid0.Coords) (v2287 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2040 : BitVec 32 := 8#32
  let v2279 : BitVec 32 := Scalar.muli v1 c8_i32_2040
  let c7_i32_2041 : BitVec 32 := 7#32
  let v2280 : BitVec 32 := Scalar.addi v2279 c7_i32_2041
  let c5_i32_2042 : BitVec 32 := 5#32
  let v2281 : BitVec 32 := Scalar.shrui v2280 c5_i32_2042
  let c32_i32_2044 : BitVec 32 := 32#32
  let v2288 : BitVec 32 := Scalar.muli v2281 c32_i32_2044
  let v2289 : BitVec 32 := Scalar.addi v2288 v2287
  let c56_i32_2045 : BitVec 32 := 56#32
  let v2290 : BitVec 32 := Scalar.muli v2289 c56_i32_2045
  let c40_i32_2046 : BitVec 32 := 40#32
  let v2291 : BitVec 32 := Scalar.addi v2290 c40_i32_2046
  let c0_i32_2047 : BitVec 32 := 0#32
  let c0_i32_2048 : BitVec 32 := 0#32
  ![v2291.toNat, 0, 0]

def k0_chk110 (i : grid0.Coords) (v2287 : BitVec 32) : Prop :=
  (∀ a, (k0_off274 i v2287) a + S8x56x64.size a ≤ S14336x56x64.size a)
theorem k0_off274_inb : ∀ (i : grid0.Coords) (v2287 : BitVec 32) (k0_hw110 : k0_chk110 i v2287), ∀ a, (k0_off274 i v2287) a + S8x56x64.size a ≤ S14336x56x64.size a := fun i v2287 k0_hw110 => k0_hw110

def k0_off275 (i : grid0.Coords) (c40_i32_2054 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2051 : BitVec 32 := 8#32
  let v2294 : BitVec 32 := Scalar.muli v1 c8_i32_2051
  let c7_i32_2052 : BitVec 32 := 7#32
  let v2295 : BitVec 32 := Scalar.addi v2294 c7_i32_2052
  let c56_i32_2053 : BitVec 32 := 56#32
  let v2296 : BitVec 32 := Scalar.muli v2295 c56_i32_2053
  let v2297 : BitVec 32 := Scalar.addi v2296 c40_i32_2054
  let c0_i32_2055 : BitVec 32 := 0#32
  let c0_i32_2056 : BitVec 32 := 0#32
  ![v2297.toNat, 0, 0]
def k0_off276 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2067 : BitVec 32 := 8#32
  let v2306 : BitVec 32 := Scalar.muli v1 c8_i32_2067
  let c7_i32_2068 : BitVec 32 := 7#32
  let v2307 : BitVec 32 := Scalar.addi v2306 c7_i32_2068
  let c31_i32_2070 : BitVec 32 := 31#32
  let v2309 : BitVec 32 := Scalar.andi v2307 c31_i32_2070
  let v2310 : Index := Scalar.indexCast v2309
  ![v2310.toNat]
def k0_off277 (i : grid0.Coords) (v2314 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2067 : BitVec 32 := 8#32
  let v2306 : BitVec 32 := Scalar.muli v1 c8_i32_2067
  let c7_i32_2068 : BitVec 32 := 7#32
  let v2307 : BitVec 32 := Scalar.addi v2306 c7_i32_2068
  let c5_i32_2069 : BitVec 32 := 5#32
  let v2308 : BitVec 32 := Scalar.shrui v2307 c5_i32_2069
  let c32_i32_2071 : BitVec 32 := 32#32
  let v2315 : BitVec 32 := Scalar.muli v2308 c32_i32_2071
  let v2316 : BitVec 32 := Scalar.addi v2315 v2314
  let c56_i32_2072 : BitVec 32 := 56#32
  let v2317 : BitVec 32 := Scalar.muli v2316 c56_i32_2072
  let c48_i32_2073 : BitVec 32 := 48#32
  let v2318 : BitVec 32 := Scalar.addi v2317 c48_i32_2073
  let c0_i32_2074 : BitVec 32 := 0#32
  let c0_i32_2075 : BitVec 32 := 0#32
  ![v2318.toNat, 0, 0]

def k0_chk111 (i : grid0.Coords) (v2314 : BitVec 32) : Prop :=
  (∀ a, (k0_off277 i v2314) a + S8x56x64.size a ≤ S14336x56x64.size a)
theorem k0_off277_inb : ∀ (i : grid0.Coords) (v2314 : BitVec 32) (k0_hw111 : k0_chk111 i v2314), ∀ a, (k0_off277 i v2314) a + S8x56x64.size a ≤ S14336x56x64.size a := fun i v2314 k0_hw111 => k0_hw111

def k0_off278 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2078 : BitVec 32 := 8#32
  let v2321 : BitVec 32 := Scalar.muli v1 c8_i32_2078
  let c7_i32_2079 : BitVec 32 := 7#32
  let v2322 : BitVec 32 := Scalar.addi v2321 c7_i32_2079
  let c31_i32_2081 : BitVec 32 := 31#32
  let v2324 : BitVec 32 := Scalar.andi v2322 c31_i32_2081
  let v2325 : Index := Scalar.indexCast v2324
  ![v2325.toNat]
def k0_off279 (i : grid0.Coords) (v2329 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2078 : BitVec 32 := 8#32
  let v2321 : BitVec 32 := Scalar.muli v1 c8_i32_2078
  let c7_i32_2079 : BitVec 32 := 7#32
  let v2322 : BitVec 32 := Scalar.addi v2321 c7_i32_2079
  let c5_i32_2080 : BitVec 32 := 5#32
  let v2323 : BitVec 32 := Scalar.shrui v2322 c5_i32_2080
  let c32_i32_2082 : BitVec 32 := 32#32
  let v2330 : BitVec 32 := Scalar.muli v2323 c32_i32_2082
  let v2331 : BitVec 32 := Scalar.addi v2330 v2329
  let c56_i32_2083 : BitVec 32 := 56#32
  let v2332 : BitVec 32 := Scalar.muli v2331 c56_i32_2083
  let c48_i32_2084 : BitVec 32 := 48#32
  let v2333 : BitVec 32 := Scalar.addi v2332 c48_i32_2084
  let c0_i32_2085 : BitVec 32 := 0#32
  let c0_i32_2086 : BitVec 32 := 0#32
  ![v2333.toNat, 0, 0]

def k0_chk112 (i : grid0.Coords) (v2329 : BitVec 32) : Prop :=
  (∀ a, (k0_off279 i v2329) a + S8x56x64.size a ≤ S14336x56x64.size a)
theorem k0_off279_inb : ∀ (i : grid0.Coords) (v2329 : BitVec 32) (k0_hw112 : k0_chk112 i v2329), ∀ a, (k0_off279 i v2329) a + S8x56x64.size a ≤ S14336x56x64.size a := fun i v2329 k0_hw112 => k0_hw112

def k0_off280 (i : grid0.Coords) (c48_i32_2092 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2089 : BitVec 32 := 8#32
  let v2336 : BitVec 32 := Scalar.muli v1 c8_i32_2089
  let c7_i32_2090 : BitVec 32 := 7#32
  let v2337 : BitVec 32 := Scalar.addi v2336 c7_i32_2090
  let c56_i32_2091 : BitVec 32 := 56#32
  let v2338 : BitVec 32 := Scalar.muli v2337 c56_i32_2091
  let v2339 : BitVec 32 := Scalar.addi v2338 c48_i32_2092
  let c0_i32_2093 : BitVec 32 := 0#32
  let c0_i32_2094 : BitVec 32 := 0#32
  ![v2339.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x64x32x56x56 : Shape := ⟨5, ![8, 64, 32, 56, 56]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x64x32x56x56, .f32⟩
  | .hbm, ⟨1, _⟩ => ⟨S32, .i32⟩
  | .hbm, ⟨2, _⟩ => ⟨S_, .i32⟩
  | .hbm, ⟨3, _⟩ => ⟨S32, .i32⟩
  | .hbm, ⟨4, _⟩ => ⟨S32, .i1⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .i32⟩
  | .hbm, ⟨9, _⟩ => ⟨S32x1, .i32⟩
  | .hbm, ⟨10, _⟩ => ⟨S1, .i32⟩
  | .hbm, ⟨11, _⟩ => ⟨S_, .i32⟩
  | .hbm, ⟨12, _⟩ => ⟨S32x1, .i32⟩
  | .hbm, ⟨13, _⟩ => ⟨S32x1, .i1⟩
  | .hbm, ⟨14, _⟩ => ⟨S1x1, .i32⟩
  | .hbm, ⟨15, _⟩ => ⟨S32x1, .i32⟩
  | .hbm, ⟨16, _⟩ => ⟨S32x1, .i1⟩
  | .hbm, ⟨17, _⟩ => ⟨S32x1, .i1⟩
  | .hbm, ⟨18, _⟩ => ⟨S_, .i1⟩
  | .hbm, ⟨19, _⟩ => ⟨S32, .i1⟩
  | .hbm, ⟨20, _⟩ => ⟨S8x64x32x56x56, .f32⟩
  | .hbm, ⟨21, _⟩ => ⟨S8x64x32x56x56, .i1⟩
  | .hbm, ⟨22, _⟩ => ⟨S_, .f32⟩
  | .hbm, ⟨23, _⟩ => ⟨S8x64x32x56x56, .f32⟩
  | .hbm, ⟨24, _⟩ => ⟨S8x64x32x56x56, .f32⟩
  | _, _ => ⟨S8x64x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Model.lean ====
/- The tile body as a recursion over its chunks: the same transfers, loads and checks as the printed body,
   stated once at a symbolic chunk. -/
module

public import proofs.«01_k».proof.Proof.Gen.Kernel

@[expose] public section

noncomputable section

namespace Cert.Kernel.Tile

open Idealize.ShloMosaic Idealize.SL.Sem
open Cert.Kernel Facts₀ Facts

/-- The number of the tile at grid point `i`, as the body computes it. -/
def wid (i : grid0.Coords) : BitVec 32 :=
  Scalar.addi (Scalar.muli (BitVec.ofNat 32 (i 1).val) 2#32) (BitVec.ofNat 32 (i 0).val)

/-- The slab that chunk `c` of the tile belongs to. -/
def slab (i : grid0.Coords) (c : ℕ) : BitVec 32 :=
  Scalar.addi (Scalar.muli (wid i) 8#32) (BitVec.ofNat 32 (c / 7))

/-- Where chunk `c`'s index load starts. -/
def lstOff (i : grid0.Coords) (c : ℕ) : Fin 1 → ℕ :=
  ![(Scalar.indexCast (Scalar.andi (slab i c) 31#32)).toNat]

/-- The rows chunk `c` reads when its index is `v`. -/
def srcOff (i : grid0.Coords) (c : ℕ) (v : BitVec 32) : Fin 3 → ℕ :=
  ![(Scalar.addi (Scalar.muli (Scalar.addi (Scalar.muli (Scalar.shrui (slab i c) 5#32) 32#32) v) 56#32)
      (BitVec.ofNat 32 (8 * (c % 7)))).toNat, 0, 0]

/-- The rows chunk `c` writes. -/
def dstOff (i : grid0.Coords) (c : ℕ) : Fin 3 → ℕ :=
  ![(Scalar.addi (Scalar.muli (slab i c) 56#32) (BitVec.ofNat 32 (8 * (c % 7)))).toNat, 0, 0]

/-- The check on chunk `c`'s index: the rows it names lie in the array. -/
def Chk (i : grid0.Coords) (c : ℕ) (v : BitVec 32) : Prop :=
  ∀ a, (srcOff i c v) a + S8x56x64.size a ≤ S14336x56x64.size a

instance Chk.dec (i : grid0.Coords) (c : ℕ) (v : BitVec 32) : Decidable (Chk i c v) :=
  decidable_of_iff' _ (Iff.of_eq (Chk.eq_1 i c v))

/-- The tile's number as a natural. -/
def tnum (i : grid0.Coords) : ℕ := 2 * (i 1).val + (i 0).val

theorem tnum_lt (i : grid0.Coords) : tnum i < 32 := by
  have h0 : (i 0).val < 2 := (i 0).isLt
  have h1 : (i 1).val < 16 := (i 1).isLt
  unfold tnum; omega

theorem wid_toNat (i : grid0.Coords) : (wid i).toNat = tnum i := by
  have h0 : (i 0).val < 2 := (i 0).isLt
  have h1 : (i 1).val < 16 := (i 1).isLt
  simp only [wid, tnum, Scalar.addi, Scalar.muli, IntOp.addi, IntOp.muli, BitVec.toNat_add, BitVec.toNat_mul, BitVec.toNat_ofNat]
  omega

theorem slab_toNat (i : grid0.Coords) (c : ℕ) (hc : c < 56) : (slab i c).toNat = 8 * tnum i + c / 7 := by
  have h := tnum_lt i
  simp only [slab, Scalar.addi, Scalar.muli, IntOp.addi, IntOp.muli, BitVec.toNat_add, BitVec.toNat_mul, BitVec.toNat_ofNat, wid_toNat]
  omega

/-- The index load starts at the slab's place in its block of 32. -/
theorem lstOff_zero (i : grid0.Coords) (c : ℕ) : lstOff i c 0 = (slab i c).toNat % 32 := by
  show (Scalar.indexCast (Scalar.andi (slab i c) 31#32)).toNat = _
  simp only [Scalar.indexCast, Scalar.andi, IntOp.andi, BitVec.toNat_and, BitVec.toNat_ofNat]
  exact Nat.and_two_pow_sub_one_eq_mod _ 5

/-- Chunk `c` of tile `w` writes the eight rows from row `8 * (56 * w + c)` on. -/
theorem dstOff_zero (i : grid0.Coords) (c : ℕ) (hc : c < 56) : dstOff i c 0 = 8 * (56 * tnum i + c) := by
  have h := tnum_lt i
  show (Scalar.addi (Scalar.muli (slab i c) 56#32) (BitVec.ofNat 32 (8 * (c % 7)))).toNat = _
  simp only [Scalar.addi, Scalar.muli, IntOp.addi, IntOp.muli, BitVec.toNat_add, BitVec.toNat_mul, BitVec.toNat_ofNat, slab_toNat i c hc]
  omega

/-- Chunk `c` at index `v` reads the eight rows at the same place in slab `v` of the chunk's block of 32 slabs. -/
theorem srcOff_zero (i : grid0.Coords) (c : ℕ) (hc : c < 56) (v : BitVec 32) (hv : v.toNat < 32) :
    srcOff i c v 0 = ((8 * tnum i + c / 7) / 32 * 32 + v.toNat) * 56 + 8 * (c % 7) := by
  have h := tnum_lt i
  have h5 : (Scalar.shrui (slab i c) 5#32).toNat = (8 * tnum i + c / 7) / 32 := by
    have : (Scalar.shrui (slab i c) 5#32) = slab i c >>> (5#32) := by
      simp only [Scalar.shrui, IntOp.shrui]; exact if_pos (by decide)
    rw [this, BitVec.ushiftRight_eq', BitVec.toNat_ushiftRight, slab_toNat i c hc]
    exact Nat.shiftRight_eq_div_pow _ 5
  show (Scalar.addi (Scalar.muli (Scalar.addi (Scalar.muli (Scalar.shrui (slab i c) 5#32) 32#32) v) 56#32)
      (BitVec.ofNat 32 (8 * (c % 7)))).toNat = _
  simp only [Scalar.addi, Scalar.muli, IntOp.addi, IntOp.muli, BitVec.toNat_add, BitVec.toNat_mul, BitVec.toNat_ofNat, h5]
  omega

theorem lstOff_inb (i : grid0.Coords) (c : ℕ) : ∀ a, lstOff i c a + S16.size a ≤ S48.size a := by
  intro a
  obtain rfl : a = 0 := Subsingleton.elim _ _
  have h := lstOff_zero i c
  have : S16.size 0 = 16 := rfl
  have : S48.size 0 = 48 := rfl
  omega

theorem dstOff_inb (i : grid0.Coords) (c : ℕ) (hc : c < 56) :
    ∀ a, dstOff i c a + S8x56x64.size a ≤ S14336x56x64.size a := by
  intro a
  match a with
  | 0 =>
    have h := dstOff_zero i c hc
    have h' := tnum_lt i
    have : S8x56x64.size 0 = 8 := rfl
    have : S14336x56x64.size 0 = 14336 := rfl
    omega
  | 1 => exact Nat.le_refl 56
  | 2 => exact Nat.le_refl 64

/-- An index below 32 passes the check. -/
theorem chk_of_lt (i : grid0.Coords) (c : ℕ) (hc : c < 56) (v : BitVec 32) (hv : v.toNat < 32) : Chk i c v := by
  intro a
  match a with
  | 0 =>
    have h := srcOff_zero i c hc v hv
    have h' := tnum_lt i
    have : S8x56x64.size 0 = 8 := rfl
    have : S14336x56x64.size 0 = 14336 := rfl
    omega
  | 1 => exact Nat.le_refl 56
  | 2 => exact Nat.le_refl 64

variable {F : FTy → Type} [FloatOps F]
variable [Facts]

/-- The type of a tile's program. -/
abbrev TProg (F : FTy → Type) (i : grid0.Coords) [Facts] (α : Type) :=
  Prog (TpuEff nD τ sig (Elt F) Λ₀ (.scVector ((i 0).castLE hcore0) ((i 1).castLE hsub0))) α

/-- The index of a chunk, out of the sixteen words loaded at its slab's place. -/
def pick (w : Vec F S16 .i32) : BitVec 32 :=
  extractAt ![0] (extractStridedSlice S1 ![0] (shapeCast S16 w shapeCasts_S16_S16) slices_S16_o0_S1) inpos_S1_p0

/-- A slot of the tile's: a buffer of one chunk, and the two semaphores its gathers and scatters complete on. -/
structure Slot where
  buf : Memref sig .scVector .vmem S8x56x64 .f32
  whole : buf.IsWhole
  g : DmaSems sig S_
  o : DmaSems sig S_

section

variable (i : grid0.Coords) (x out : Memref sig .scVector .hbm S14336x56x64 .f32)
  (iv : Memref sig .scVector .vmem S48 .i32)

/-- The rows chunk `c` reads, at an index that passes the check. -/
abbrev srcRef (c : ℕ) (v : BitVec 32) (h : Chk i c v) : Memref sig .scVector .hbm S8x56x64 .f32 :=
  x.slice (Rect.unit (s := S14336x56x64) (srcOff i c v) S8x56x64.size h) (fun _ => rfl)

/-- The rows chunk `c` writes. -/
abbrev dstRef (c : ℕ) (hc : c < 56) : Memref sig .scVector .hbm S8x56x64 .f32 :=
  out.slice (Rect.unit (s := S14336x56x64) (dstOff i c) S8x56x64.size (dstOff_inb i c hc)) (fun _ => rfl)

/-- Read chunk `c`'s index and check it. -/
def readIdx (c : ℕ) : TProg F i (Σ' v : BitVec 32, Chk i c v) := do
  let w : Vec F S16 .i32 ← Prog.lift (.load iv (Rect.unit (s := S48) (lstOff i c) S16.size (lstOff_inb i c)).toLoadRect (View.loadsAt_vmem h_S16))
  let h ← Prog.lift (TpuEff.assume (Chk i c (pick w)) (Chk.dec i c (pick w)))
  pure ⟨pick w, h.down⟩

/-- Start chunk `c`'s gather into a slot. -/
def gather (c : ℕ) (A : Slot) : TProg F i PUnit := do
  let ⟨v, h⟩ ← readIdx i iv c
  Prog.lift (.enqueueDma (srcRef i x c v h) (.here A.buf) (.dma A.g.sem) (View.wordExact_bits rfl) A.whole.wordExact ⟨Or.inl rfl, trivial⟩)

/-- Wait for chunk `c`'s gather into a slot. -/
def gatherWait (c : ℕ) (A : Slot) : TProg F i PUnit := do
  let ⟨v, h⟩ ← readIdx i iv c
  Prog.lift (.waitDma2 A.g.sem (srcRef i x c v h) A.buf (View.wordExact_bits rfl) A.whole.wordExact)

/-- Start chunk `c`'s scatter out of a slot. -/
def scatter (c : ℕ) (hc : c < 56) (A : Slot) : TProg F i PUnit :=
  Prog.lift (.enqueueDma A.buf (.here (dstRef i out c hc)) (.dma A.o.sem) A.whole.wordExact (View.wordExact_bits rfl) ⟨Or.inl rfl, trivial⟩)

/-- Wait for chunk `c`'s scatter out of a slot. -/
def scatterWait (c : ℕ) (hc : c < 56) (A : Slot) : TProg F i PUnit :=
  Prog.lift (.waitDma2 A.o.sem A.buf (dstRef i out c hc) A.whole.wordExact (View.wordExact_bits rfl))

/-- From chunk `c ≥ 1` on, `n` more chunks before the last: chunk `c` is arriving in `A`, chunk `c - 1` leaving `B`. -/
def loop : (n c : ℕ) → (hc : c + n < 55) → (A B : Slot) → TProg F i PUnit
  | 0, c, hc, A, B => do
    gatherWait i x iv (c + 1) A
    scatter i out (c + 1) (by omega) A
    scatterWait i out c (by omega) B
    scatterWait i out (c + 1) (by omega) A
  | n + 1, c, hc, A, B => do
    gatherWait i x iv (c + 1) A
    scatter i out (c + 1) (by omega) A
    scatterWait i out c (by omega) B
    gather i x iv (c + 2) B
    loop n (c + 1) (by omega) B A

/-- The whole body: the index list in, two gathers started, the first chunk sent on, and the rest by `loop`. -/
def tile (idx : Memref sig .scVector .hbm S32 .i32) (hidx : idx.IsWhole) (l : DmaSems sig S_) (A B : Slot) :
    TProg F i PUnit := do
  Prog.lift (.enqueueDma idx (.here (iv.slice (Rect.unit (s := S48) ![0] S32.size inb_S48_S32_0) (fun _ => rfl))) (.dma l.sem) hidx.wordExact (View.wordExact_bits rfl) ⟨Or.inl rfl, trivial⟩)
  Prog.lift (.waitDma2 l.sem idx (iv.slice (Rect.unit (s := S48) ![0] S32.size inb_S48_S32_0) (fun _ => rfl)) hidx.wordExact (View.wordExact_bits rfl))
  gather i x iv 0 A
  gather i x iv 1 B
  gatherWait i x iv 0 A
  scatter i out 0 (by omega) A
  loop i x out iv 54 0 (by omega) B A

end

set_option maxRecDepth 100000 in
set_option maxHeartbeats 0 in
/-- The printed body is `tile`. -/
theorem body_eq (i : grid0.Coords) (arg2 : Memref sig .scVector .hbm S14336x56x64 .f32) (harg2 : arg2.IsWhole) (arg3 : Memref sig .scVector .hbm S32 .i32) (harg3 : arg3.IsWhole) (arg4 : Memref sig .scVector .hbm S14336x56x64 .f32) (harg4 : arg4.IsWhole) (arg5 : Memref sig .scVector .vmem S48 .i32) (harg5 : arg5.IsWhole) (arg6 : Memref sig .scVector .vmem S8x56x64 .f32) (harg6 : arg6.IsWhole) (arg7 : Memref sig .scVector .vmem S8x56x64 .f32) (harg7 : arg7.IsWhole) (arg8 : DmaSems sig S_) (arg9 : DmaSems sig S_) (arg10 : DmaSems sig S_) (arg11 : DmaSems sig S_) (l : DmaSems sig S_) :
    cc0__sc_shuffle (F := F) i arg2 harg2 arg3 harg3 arg4 harg4 arg5 harg5 arg6 harg6 arg7 harg7 arg8 arg9 arg10 arg11 l
      = tile i arg2 arg4 arg5 arg3 harg3 l ⟨arg6, harg6, arg8, arg10⟩ ⟨arg7, harg7, arg9, arg11⟩ := rfl

end Cert.Kernel.Tile
-- ==== Proof.Rows.lean ====
/- The rows a tile reads and writes, and the array the kernel leaves: every row of it the row of the source that its
   slab's index names. -/
module

public import proofs.«01_k».proof.Proof.Model
public import Idealize.ShloMosaic.Lib.ViewIndex
public import Idealize.ShloMosaic.Lib.Pipeline.Value

@[expose] public section

noncomputable section

namespace Cert.Kernel.Tile

open Idealize.ShloMosaic Idealize.SL.Sem
open Cert.Kernel Facts₀ Facts

/-! ## Blocks of rows -/

/-- The elements in the rows from `a` up to `b`. -/
def rows (a b : ℕ) : Finset S14336x56x64.Idx := Finset.univ.filter fun j => a ≤ (j 0).val ∧ (j 0).val < b

theorem mem_rows {a b : ℕ} {j : S14336x56x64.Idx} : j ∈ rows a b ↔ a ≤ (j 0).val ∧ (j 0).val < b := by
  simp [rows]

theorem rows_union {a b c : ℕ} (hab : a ≤ b) (hbc : b ≤ c) : rows a b ∪ rows b c = rows a c := by
  ext j; simp only [Finset.mem_union, mem_rows]; omega

theorem rows_disjoint {a b c d : ℕ} (h : b ≤ c) : Disjoint (rows a b) (rows c d) :=
  Finset.disjoint_left.mpr fun j h1 h2 => by rw [mem_rows] at h1 h2; omega

theorem rows_empty (a : ℕ) : rows a a = ∅ :=
  Finset.eq_empty_of_forall_notMem fun j h => by rw [mem_rows] at h; omega

/-- Tile `w`'s rows: 448 of them. -/
def tileRows (w : ℕ) : Finset S14336x56x64.Idx := rows (8 * (56 * w)) (8 * (56 * w + 56))

theorem tileRows_disjoint : ∀ w ∈ (Finset.univ : Finset (Fin 32)), ∀ w' ∈ (Finset.univ : Finset (Fin 32)), w ≠ w' →
    Disjoint (tileRows w.val) (tileRows w'.val) := by
  intro w _ w' _ h
  have h' : w.val ≠ w'.val := fun e => h (Fin.ext e)
  rcases Nat.lt_or_gt_of_ne h' with h' | h'
  · exact rows_disjoint (by omega)
  · exact (rows_disjoint (by omega)).symm

theorem tileRows_cover : (Finset.univ : Finset (Fin 32)).biUnion (fun w => tileRows w.val) = Finset.univ := by
  refine Finset.eq_univ_of_forall fun j => Finset.mem_biUnion.mpr ?_
  have hj : (j 0).val < 14336 := (j 0).isLt
  exact ⟨⟨(j 0).val / 448, by omega⟩, Finset.mem_univ _, mem_rows.mpr ⟨by show 8 * (56 * ((j 0).val / 448)) ≤ _; omega, by show _ < 8 * (56 * ((j 0).val / 448) + 56); omega⟩⟩

/-! ## The array the kernel leaves -/

section Value

variable {α : Type}

/-- Place `n` of the index list, counted around. -/
def lane (n : ℕ) : S32.Idx
  | 0 => ⟨n % 32, Nat.mod_lt _ (by decide)⟩

/-- The source row that row `r` of the result is: the same place in the slab that the index of `r`'s slab names, in the
    same block of 32 slabs. -/
def srcRow (I : S32.Idx → BitVec 32) (r : ℕ) : ℕ :=
  (r / 56 / 32 * 32 + (I (lane (r / 56))).toNat % 32) * 56 + r % 56

theorem srcRow_lt (I : S32.Idx → BitVec 32) (r : ℕ) (hr : r < 14336) : srcRow I r < 14336 := by
  unfold srcRow
  have := Nat.mod_lt (I (lane (r / 56))).toNat (y := 32) (by decide)
  omega

/-- The element of the source that element `j` of the result is. -/
def srcIdx (I : S32.Idx → BitVec 32) (j : S14336x56x64.Idx) : S14336x56x64.Idx
  | 0 => ⟨srcRow I (j 0).val, srcRow_lt I _ (j 0).isLt⟩
  | 1 => j 1
  | 2 => j 2

/-- The array the kernel leaves: every row the source row that its slab's index names. -/
def shuffled (X : S14336x56x64.Idx → α) (I : S32.Idx → BitVec 32) : S14336x56x64.Idx → α := fun j => X (srcIdx I j)

end Value

/-! ## A chunk's views -/

section Chunk

variable {F : FTy → Type} [FloatOps F] [Facts]

/-- The source array, the result array, the index list and the index buffer, whole. -/
abbrev xV : Memref sig .scVector .hbm S14336x56x64 .f32 := Memref.whole main_v1_scv
abbrev oV : Memref sig .scVector .hbm S14336x56x64 .f32 := Memref.whole main_v2_scv
abbrev lV : Memref sig .scVector .hbm S32 .i32 := Memref.whole main_arg1_scv
abbrev sV : Memref sig .scVector .vmem S48 .i32 := Memref.whole cc0_scratch0

/-- The elements chunk `c` writes are its eight rows. -/
theorem set_dstRef (i : grid0.Coords) (c : ℕ) (hc : c < 56) :
    (dstRef i oV c hc).view.set = rows (8 * (56 * tnum i + c)) (8 * (56 * tnum i + (c + 1))) := by
  have h0 := dstOff_zero i c hc
  refine (View.set_slice_whole (main_v2_scv : Ref sig .scVector) _).trans ?_
  ext j
  rw [mem_rows]
  refine Rect.mem_set_unit.trans ⟨fun h => ?_, fun h a => ?_⟩
  · have := h 0
    have e : S8x56x64.size 0 = 8 := rfl
    omega
  · match a with
    | 0 =>
      have e : S8x56x64.size 0 = 8 := rfl
      constructor
      · show dstOff i c 0 ≤ (j 0).val; omega
      · show (j 0).val < dstOff i c 0 + S8x56x64.size 0; omega
    | 1 => exact ⟨Nat.zero_le _, (Nat.zero_add _).symm ▸ (j 1).isLt⟩
    | 2 => exact ⟨Nat.zero_le _, (Nat.zero_add _).symm ▸ (j 2).isLt⟩

/-- The index chunk `c` reads. -/
def idxOf (I : S32.Idx → BitVec 32) (i : grid0.Coords) (c : ℕ) : BitVec 32 :=
  I (lane (slab i c).toNat)

/-- What chunk `c` reads of the source is what the result holds where it writes. -/
theorem read_src_eq (i : grid0.Coords) (c : ℕ) (hc : c < 56) (X : S14336x56x64.Idx → Elt F .f32) (I : S32.Idx → BitVec 32)
    (hI : ∀ j, (I j).toNat < 32) (h : Chk i c (idxOf I i c)) :
    (srcRef i xV c (idxOf I i c) h).view.read (Elt F) X = (dstRef i oV c hc).view.read (Elt F) (shuffled X I) := by
  funext y
  show X ((Rect.unit (s := S14336x56x64) (srcOff i c (idxOf I i c)) S8x56x64.size h).emb y)
    = X (srcIdx I ((Rect.unit (s := S14336x56x64) (dstOff i c) S8x56x64.size (dstOff_inb i c hc)).emb y))
  congr 1
  have hy : (y 0).val < 8 := (y 0).isLt
  have hw := tnum_lt i
  refine Shape.idx3_ext ?_ ?_ ?_
  · show srcOff i c (idxOf I i c) 0 + 1 * (y 0).val = srcRow I (dstOff i c 0 + 1 * (y 0).val)
    rw [srcOff_zero i c hc (idxOf I i c) (hI (lane (slab i c).toNat)), dstOff_zero i c hc]
    have hs := slab_toNat i c hc
    have e1 : (8 * (56 * tnum i + c) + 1 * (y 0).val) / 56 = (slab i c).toNat := by omega
    have e2 : (8 * (56 * tnum i + c) + 1 * (y 0).val) % 56 = 8 * (c % 7) + (y 0).val := by omega
    unfold srcRow
    simp only [e1, e2]
    have hI' := hI (lane (slab i c).toNat)
    rw [Nat.mod_eq_of_lt hI', ← hs]
    unfold idxOf
    omega
  · rfl
  · rfl

/-- Once what chunk `c`'s rows of the result are has been written there, they hold it. -/
theorem write_dst_eq (i : grid0.Coords) (c : ℕ) (hc : c < 56) (f G : S14336x56x64.Idx → Elt F .f32) :
    ∀ j ∈ (dstRef i oV c hc).view.set,
      (dstRef i oV c hc).view.write (Elt F) f ((dstRef i oV c hc).view.read (Elt F) G) Finset.univ j = G j := by
  intro j hj
  obtain ⟨y, -, rfl⟩ := Finset.mem_map.mp hj
  exact View.eq_of_read_eq (v := (dstRef i oV c hc).view) (congrFun (View.read_write_univ _ _) y)

/-- The index buffer once the list has landed in it: its first 32 words are the list's. -/
theorem landed (f : S48.Idx → BitVec 32) (I : S32.Idx → BitVec 32) (j : S32.Idx) :
    (sV.slice (Rect.unit (s := S48) ![0] S32.size inb_S48_S32_0) (fun _ => rfl)).view.write (Elt F) f I Finset.univ
      ((Rect.unit (s := S48) ![0] S32.size inb_S48_S32_0).emb j) = I j :=
  congrFun (View.read_write_univ (Val := Elt F)
    (v := (sV.slice (Rect.unit (s := S48) ![0] S32.size inb_S48_S32_0) (fun _ => rfl)).view) f I) j

/-- The index chunk `c` picks out of the sixteen words it loads is the list's at its slab. -/
theorem pick_eq (i : grid0.Coords) (c : ℕ) (f : S48.Idx → BitVec 32) (I : S32.Idx → BitVec 32)
    (hf : ∀ j, f ((Rect.unit (s := S48) ![0] S32.size inb_S48_S32_0).emb j) = I j) :
    pick (F := F) ((sV.access (Rect.unit (s := S48) (lstOff i c) S16.size (lstOff_inb i c))).read (Elt F) f) = idxOf I i c := by
  have hp : ∀ w : Vec F S16 .i32, pick w = w (fun | 0 => ⟨0, by decide⟩) := fun w => by
    unfold pick
    rw [shapeCast_self]
    exact congrArg w (funext fun | 0 => rfl)
  rw [hp]
  unfold idxOf
  rw [← hf]
  show f ((Rect.unit (s := S48) (lstOff i c) S16.size (lstOff_inb i c)).emb _) = _
  congr 1
  funext a
  obtain rfl : a = 0 := Subsingleton.elim _ _
  refine Fin.ext ?_
  show lstOff i c 0 + 1 * 0 = 0 + 1 * ((slab i c).toNat % 32)
  rw [lstOff_zero]
  omega

end Chunk

end Cert.Kernel.Tile
-- ==== Proof.Setup.lean ====
/- The launch as the SparseCore library sees it: the program's configuration, its resource algebra and the places of its
   arrays. -/
module

public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Kernel.Tile

open Cert.Kernel.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- What the launch asks of the configuration: its four semaphores are apart and none is a kernel's own. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, and the transfers' counters. -/
abbrev UH : Type := URounds (GSem nD τ sig) ℕ
abbrev UU : Type := UH × Counters
abbrev EH : Emb UH (MT nD τ sig (HIx 1) (Elt F) ℕ UU ℕ) := embL

/-- The arrays' places on device `d`. -/
abbrev aLoc (d : Dev nD) : Loc nD τ sig := (SparseCore.T d).loc main_arg0
abbrev lLoc (d : Dev nD) : Loc nD τ sig := (SparseCore.T d).loc main_arg1
abbrev xLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v4

/-- The vector subcore that runs grid point `i`. -/
abbrev cV (i : grid0.Coords) : Fin τ.nSC := (i 0).castLE hcore0
abbrev jV (i : grid0.Coords) : Fin τ.nSub := (i 1).castLE hsub0
abbrev TH (d : Dev nD) (i : grid0.Coords) : Thread nD τ := V d (cV i) (jV i)

end Cert.Kernel.Tile
-- ==== Proof.Steps.lean ====
/- The tile's steps: reading a chunk's index, starting and awaiting its gather, starting and awaiting its scatter. Each is
   stated once, for every chunk and either slot. -/
module

public import proofs.«01_k».proof.Proof.Setup

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)
variable (X : S14336x56x64.Idx → Elt F .f32) (I : S32.Idx → BitVec 32)
variable (O : CellTallies nD τ sig (HIx 1)) (W : Waits sig (HIx 1))

/-! ## What a tile holds -/

/-- What chunk `c`'s rows hold in the end. -/
abbrev chunk (c : ℕ) (hc : c < 56) : S8x56x64.Idx → Elt F .f32 := (dstRef i oV c hc).view.read (Elt F) (shuffled X I)

/-- Rows of the result at given contents. -/
abbrev outRows (a b : ℕ) (f : S14336x56x64.Idx → Elt F .f32) : sProp 𝕄 := (oV).view.loc (TH d i) ↦[rows a b]{fullShare} f

/-- A share of the source. -/
abbrev srcShare (q : PosShare TreeShare) : sProp 𝕄 := (xV).view.loc (TH d i) ↦{q} X

/-- The index buffer, at contents `f`. -/
abbrev lst (f : S48.Idx → BitVec 32) : sProp 𝕄 := (sV).view.loc (TH d i) ↦{fullShare} f

/-- A cell of the tile's, at zero. -/
abbrev idle (s : DmaSems sig S_) : sProp 𝕄 := semVal (TH d i, SemLoc.dma s.sem) 0

/-- The slot's buffer at some contents. -/
def Empty (A : Slot) : sProp 𝕄 := iprop(∃ f, A.buf.view.loc (TH d i) ↦[A.buf.view.set]{fullShare} f)

/-- The slot's buffer holding chunk `c`. -/
def Full (A : Slot) (c : ℕ) (hc : c < 56) : sProp 𝕄 :=
  iprop(∃ f, ⌜A.buf.view.read (Elt F) f = chunk i X I c hc⌝ ∗ A.buf.view.loc (TH d i) ↦[A.buf.view.set]{fullShare} f)

/-- Chunk `c` on its way into the slot. -/
def Arriving (A : Slot) (q : PosShare TreeShare) (c : ℕ) (hc : c < 56) : sProp 𝕄 :=
  iprop(∃ S : Finset S14336x56x64.Idx,
    Transfers.Flight countersEmb (TH d i) (.dma A.g.sem) (default : HIx 1) A.buf.view.dmaCredit
      iprop(Full d i X I A c hc ∗ (xV).view.loc (TH d i) ↦[S]{q} X)
    ∗ (xV).view.loc (TH d i) ↦[Finset.univ \ S]{q} X)

/-- Chunk `c` on its way out of the slot. -/
def Leaving (A : Slot) (c : ℕ) (hc : c < 56) : sProp 𝕄 :=
  Transfers.Flight countersEmb (TH d i) (.dma A.o.sem) (default : HIx 1) (dstRef i oV c hc).view.dmaCredit
    iprop(outRows d i (8 * (56 * tnum i + c)) (8 * (56 * tnum i + (c + 1))) (shuffled X I) ∗ Empty (F := F) d i A)

/-- What the tile owes, having waited only on its own cells. -/
def Owes : sProp 𝕄 := iprop(∃ W', ⌜∀ p ∈ W', p ∈ W ∨ p.2 = none⌝ ∗ owes (TH d i) O W')

/-- Waiting on a cell of its own leaves the tile owing what it owed. -/
theorem owes_insert (W' : Waits sig (HIx 1)) (h : ∀ p ∈ W', p ∈ W ∨ p.2 = none) (s : SemLoc sig) :
    (owes (TH d i) O (insert (s, (default : HIx 1)) W') : sProp 𝕄)
      ⊢ iprop(∃ W', ⌜∀ p ∈ W', p ∈ W ∨ p.2 = none⌝ ∗ owes (TH d i) O W') := by
  iintro H
  iexists _
  isplitr
  swap; · iexact H
  ipureintro
  intro p hp
  rcases Finset.mem_insert.mp hp with hp | hp
  · exact .inr (hp ▸ rfl)
  · exact h p hp

/-! ## The steps -/

section Steps

variable {α : Type} {Q : α → sProp (MT nD τ sig (HIx 1) (Elt F) ℕ UU ℕ)}

/-- Reading chunk `c`'s index: it is the list's at the chunk's slab, and it passes the check. -/
theorem wp_readIdx (c : ℕ) (hc : c < 56) (hI : ∀ j, (I j).toNat < 32) (f : S48.Idx → BitVec 32)
    (hf : ∀ j, f ((Rect.unit (s := S48) ![0] S32.size inb_S48_S32_0).emb j) = I j)
    (k : (Σ' v : BitVec 32, Chk i c v) → TProg F i α) :
    lst d i f ⊢ iprop((lst d i f -∗ wp frame (wpE (defs₀ (F := F)) 𝒱₀ (TH d i) none) Set.univ
          (k ⟨idxOf I i c, chk_of_lt i c hc _ (hI _)⟩) Q)
        -∗ wp frame (wpE (defs₀ (F := F)) 𝒱₀ (TH d i) none) Set.univ (readIdx i sV c >>= k) Q) := by
  have key : ∀ (v w : BitVec 32) (h : Chk i c v) (e : w = v),
      (wp frame (wpE (defs₀ (F := F)) 𝒱₀ (TH d i) none) Set.univ (k ⟨v, h⟩) Q : sProp 𝕄)
      ⊢ wp frame (wpE (defs₀ (F := F)) 𝒱₀ (TH d i) none) Set.univ
          (.op (.assume (Chk i c w) (Chk.dec i c w)) fun h => k ⟨w, h.down⟩) Q := by
    rintro v w h rfl
    exact wp_assume (defs := defs₀ (F := F)) (d := Chk.dec i c w) (k := fun h => k ⟨w, h.down⟩) 𝒱₀ (TH d i) none Set.univ h
  iintro Hl Hk
  iapply (wp_load_rect (m := sV) (r := Rect.unit (s := S48) (lstOff i c) S16.size (lstOff_inb i c)) (defs := defs₀ (F := F))
    (hl := View.loadsAt_vmem h_S16)
    (k := fun w => .op (.assume (Chk i c (pick w)) (Chk.dec i c (pick w))) fun h => k ⟨pick w, h.down⟩)
    𝒱₀ (TH d i) none Set.univ (S := Finset.univ) (Finset.subset_univ _)) $$ Hl
  iintro Hl
  iapply (key (idxOf I i c) _ (chk_of_lt i c hc _ (hI _)) (pick_eq i c f I hf))
  iapply Hk $$ Hl

/-- Starting chunk `c`'s gather into an empty slot. -/
theorem wp_gather (A : Slot) (q : PosShare TreeShare) (c : ℕ) (hc : c < 56) (hI : ∀ j, (I j).toNat < 32)
    (f : S48.Idx → BitVec 32) (hf : ∀ j, f ((Rect.unit (s := S48) ![0] S32.size inb_S48_S32_0).emb j) = I j)
    (k : PUnit → TProg F i α) :
    iprop(lst d i f ∗ srcShare d i X q ∗ Empty (F := F) d i A ∗ idle (F := F) d i A.g)
      ⊢ iprop((iprop(lst d i f ∗ Arriving d i X I A q c hc)
            -∗ wp frame (wpE (defs₀ (F := F)) 𝒱₀ (TH d i) none) Set.univ (k ⟨⟩) Q)
        -∗ wp frame (wpE (defs₀ (F := F)) 𝒱₀ (TH d i) none) Set.univ (gather i xV sV c A >>= k) Q) := by
  unfold gather Empty Arriving Full
  rw [bind_assoc]
  have hr := read_src_eq (F := F) i c hc X I hI (chk_of_lt i c hc _ (hI _))
  iintro ⟨Hl, Hx, ⟨%g, Hb⟩, Hv⟩ Hk
  iapply (wp_readIdx d i I c hc hI f hf) $$ Hl
  iintro Hl
  ihave Hx := (pointsTo_split_subset (q := q) (f := X) (S := Finset.univ)
    (Finset.subset_univ (srcRef i xV c (idxOf I i c) (chk_of_lt i c hc _ (hI _))).view.set)).1 $$ Hx
  icases Hx with ⟨Hx, Hxr⟩
  iapply (Transfers.wp_dmaLocal (defs := defs₀ (F := F)) (src := srcRef i xV c (idxOf I i c) (chk_of_lt i c hc _ (hI _)))
    (dst := A.buf) (via := .same) (sm := .dma A.g.sem) countersEmb 𝒱₀ (TH d i) none (default : HIx 1) A.buf.view.dmaCredit
    (A.buf.view.amount_dma _) (View.dmaCredit_pos _ (by decide)) (Finset.Subset.refl _)) $$ [Hx Hb Hv]
  · isplitl [Hx]; · iexact Hx
    isplitl [Hb]; · iexact Hb
    iexact Hv
  iintro Hfl
  iapply Hk
  isplitl [Hl]; · iexact Hl
  iexists (srcRef i xV c (idxOf I i c) (chk_of_lt i c hc _ (hI _))).view.set
  isplitl [Hfl]
  · iapply (Transfers.Flight_mono countersEmb (TH d i) ?_) $$ Hfl
    iintro ⟨Hb, Hx⟩
    isplitl [Hb]
    · iexists _
      isplitr
      swap; · iexact Hb
      ipureintro
      exact (View.read_write_univ _ _).trans hr
    · iexact Hx
  · iexact Hxr

/-- Awaiting chunk `c`'s gather: the slot holds the chunk, the share of the source is back. -/
theorem wp_gatherWait (A : Slot) (q : PosShare TreeShare) (c : ℕ) (hc : c < 56) (hI : ∀ j, (I j).toNat < 32)
    (f : S48.Idx → BitVec 32) (hf : ∀ j, f ((Rect.unit (s := S48) ![0] S32.size inb_S48_S32_0).emb j) = I j)
    (k : PUnit → TProg F i α) :
    iprop(lst d i f ∗ Arriving d i X I A q c hc ∗ Transfers.MayWaits (TH d i) (default : HIx 1) O ∗ Owes (F := F) d i O W)
      ⊢ iprop((iprop(lst d i f ∗ Full d i X I A c hc ∗ srcShare d i X q ∗ idle (F := F) d i A.g ∗ Owes (F := F) d i O W)
            -∗ wp frame (wpE (defs₀ (F := F)) 𝒱₀ (TH d i) none) Set.univ (k ⟨⟩) Q)
        -∗ wp frame (wpE (defs₀ (F := F)) 𝒱₀ (TH d i) none) Set.univ (gatherWait i xV sV c A >>= k) Q) := by
  unfold gatherWait Arriving
  rw [bind_assoc]
  iintro ⟨Hl, ⟨%S, Hfl, Hxr⟩, Hmw, HO⟩ Hk
  iapply (wp_readIdx d i I c hc hI f hf) $$ Hl
  iintro Hl
  unfold Owes
  icases HO with ⟨%W', %hW, HO⟩
  iapply (Transfers.wp_waitLocalO (defs := defs₀ (F := F)) (sem := A.g.sem)
    (srcw := srcRef i xV c (idxOf I i c) (chk_of_lt i c hc _ (hI _))) (dstw := A.buf)
    countersEmb 𝒱₀ (TH d i) none (default : HIx 1) (rfl : A.buf.view.dmaCredit = _)) $$ [Hfl HO Hmw]
  · isplitl [Hfl]; · iexact Hfl
    isplitl [HO]; · iexact HO
    iapply (Transfers.MayWaits.elim (SemLoc.dma A.g.sem)) $$ Hmw
  iintro ⟨⟨Hf, Hx⟩, Hv, HO⟩
  ihave Hx := (pointsTo_split_subset (ℓ := (xV).view.loc (TH d i)) (q := q) (f := X) (I := S) (S := Finset.univ) (Finset.subset_univ S)).2 $$ [Hx Hxr]
  · isplitl [Hx] <;> iassumption
  iapply Hk
  isplitl [Hl]; · iexact Hl
  isplitl [Hf]; · iexact Hf
  isplitl [Hx]; · iexact Hx
  isplitl [Hv]; · iexact Hv
  iapply (owes_insert (F := F) d i O W W' hW) $$ HO

/-- Starting chunk `c`'s scatter out of the slot that holds it. -/
theorem wp_scatter (A : Slot) (c : ℕ) (hc : c < 56) (f₀ : S14336x56x64.Idx → Elt F .f32) (k : PUnit → TProg F i α) :
    iprop(Full d i X I A c hc ∗ outRows d i (8 * (56 * tnum i + c)) (8 * (56 * tnum i + (c + 1))) f₀ ∗ idle (F := F) d i A.o)
      ⊢ iprop((Leaving d i X I A c hc -∗ wp frame (wpE (defs₀ (F := F)) 𝒱₀ (TH d i) none) Set.univ (k ⟨⟩) Q)
        -∗ wp frame (wpE (defs₀ (F := F)) 𝒱₀ (TH d i) none) Set.univ (scatter i oV c hc A >>= k) Q) := by
  unfold scatter Full Leaving Empty
  have e (g : S14336x56x64.Idx → Elt F .f32) : (((dstRef i oV c hc).view.loc (TH d i) ↦[(dstRef i oV c hc).view.set]{fullShare} g : sProp 𝕄))
      = outRows d i (8 * (56 * tnum i + c)) (8 * (56 * tnum i + (c + 1))) g := by rw [set_dstRef]
  iintro ⟨⟨%f, %hf, Hb⟩, Ho, Hv⟩ Hk
  iapply (Transfers.wp_dmaLocal (defs := defs₀ (F := F)) (src := A.buf) (dst := dstRef i oV c hc) (via := .same)
    (sm := .dma A.o.sem) countersEmb 𝒱₀ (TH d i) none (default : HIx 1) (dstRef i oV c hc).view.dmaCredit
    ((dstRef i oV c hc).view.amount_dma _) (View.dmaCredit_pos _ (by decide)) (Finset.Subset.refl _)) $$ [Hb Ho Hv]
  · isplitl [Hb]; · iexact Hb
    isplitl [Ho]; · iapply (Entails.of_eq (e f₀).symm) $$ Ho
    iexact Hv
  iintro Hfl
  iapply Hk
  iapply (Transfers.Flight_mono countersEmb (TH d i) ?_) $$ Hfl
  iintro ⟨Ho, Hb⟩
  isplitl [Ho]
  · iapply (Entails.of_eq (e (shuffled X I)))
    iapply (Entails.of_eq (pointsTo_congr (write_dst_eq i c hc f₀ (shuffled X I))))
    rw [show (ReadAs.same : ReadAs (Elt F) S8x56x64 .f32 S8x56x64 .f32).apply (A.buf.view.read (Elt F) f) = chunk i X I c hc from hf]
    iexact Ho
  · iexists _; iexact Hb

/-- Awaiting chunk `c`'s scatter: its rows of the result hold what they are to hold, the slot is empty. -/
theorem wp_scatterWait (A : Slot) (c : ℕ) (hc : c < 56) (k : PUnit → TProg F i α) :
    iprop(Leaving d i X I A c hc ∗ Transfers.MayWaits (TH d i) (default : HIx 1) O ∗ Owes (F := F) d i O W)
      ⊢ iprop((iprop(outRows d i (8 * (56 * tnum i + c)) (8 * (56 * tnum i + (c + 1))) (shuffled X I) ∗ Empty (F := F) d i A
              ∗ idle (F := F) d i A.o ∗ Owes (F := F) d i O W)
            -∗ wp frame (wpE (defs₀ (F := F)) 𝒱₀ (TH d i) none) Set.univ (k ⟨⟩) Q)
        -∗ wp frame (wpE (defs₀ (F := F)) 𝒱₀ (TH d i) none) Set.univ (scatterWait i oV c hc A >>= k) Q) := by
  unfold scatterWait Leaving Owes
  iintro ⟨Hfl, Hmw, ⟨%W', %hW, HO⟩⟩ Hk
  iapply (Transfers.wp_waitLocalO (defs := defs₀ (F := F)) (sem := A.o.sem) (srcw := A.buf) (dstw := dstRef i oV c hc)
    countersEmb 𝒱₀ (TH d i) none (default : HIx 1) (rfl : (dstRef i oV c hc).view.dmaCredit = _)) $$ [Hfl HO Hmw]
  · isplitl [Hfl]; · iexact Hfl
    isplitl [HO]; · iexact HO
    iapply (Transfers.MayWaits.elim (SemLoc.dma A.o.sem)) $$ Hmw
  iintro ⟨⟨Ho, Hb⟩, Hv, HO⟩
  iapply Hk
  isplitl [Ho]; · iexact Ho
  isplitl [Hb]; · iexact Hb
  isplitl [Hv]; · iexact Hv
  iapply (owes_insert (F := F) d i O W W' hW) $$ HO

end Steps

end Cert.Kernel.Tile
-- ==== Proof.Tile.lean ====
/- The tile's task: its 56 chunks, two in flight at a time, leave its rows of the result as the index list says. -/
module

public import proofs.«01_k».proof.Proof.Steps

@[expose] public section

noncomputable section

namespace Cert.Kernel.Tile

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)
variable (X : S14336x56x64.Idx → Elt F .f32) (I : S32.Idx → BitVec 32)
variable (O : CellTallies nD τ sig (HIx 1)) (W : Waits sig (HIx 1))

/-- Two neighbouring blocks of rows at the same contents are one block. -/
theorem outRows_join (a b c : ℕ) (hab : a ≤ b) (hbc : b ≤ c) (f : S14336x56x64.Idx → Elt F .f32) :
    iprop(outRows d i a b f ∗ outRows d i b c f) ⊢ (outRows d i a c f : sProp 𝕄) := by
  have h := (pointsTo_union (Ix := HIx 1) (Val := Elt F) (Name := ℕ) (U := UU) (Lvl := ℕ) (ℓ := (oV).view.loc (TH d i)) (q := fullShare) (f := f) (rows_disjoint (a := a) (d := c) (Nat.le_refl b))).2
  rw [rows_union hab hbc] at h
  exact h

/-- A block of rows is two neighbouring ones. -/
theorem outRows_split (a b c : ℕ) (hab : a ≤ b) (hbc : b ≤ c) (f : S14336x56x64.Idx → Elt F .f32) :
    (outRows d i a c f : sProp 𝕄) ⊢ iprop(outRows d i a b f ∗ outRows d i b c f) := by
  have h := (pointsTo_union (Ix := HIx 1) (Val := Elt F) (Name := ℕ) (U := UU) (Lvl := ℕ) (ℓ := (oV).view.loc (TH d i)) (q := fullShare) (f := f) (rows_disjoint (a := a) (d := c) (Nat.le_refl b))).1
  rw [rows_union hab hbc] at h
  exact h

/-- A slot at rest: its buffer, both its cells at zero, and its share of the source. -/
def Ready (A : Slot) (q : PosShare TreeShare) : sProp 𝕄 :=
  iprop(Empty (F := F) d i A ∗ idle (F := F) d i A.g ∗ idle (F := F) d i A.o ∗ srcShare d i X q)

/-- Before the loop's step: chunk `c + 1` is arriving in `A`, chunk `c` leaving `B`, the chunks before are done. -/
def Mid (A B : Slot) (qA qB : PosShare TreeShare) (c : ℕ) (hc : c + 1 < 56) (f : S48.Idx → BitVec 32)
    (f₀ : S14336x56x64.Idx → Elt F .f32) : sProp 𝕄 :=
  iprop(lst (F := F) d i f ∗ Arriving d i X I A qA (c + 1) hc ∗ idle (F := F) d i A.o
    ∗ Leaving d i X I B c (by omega) ∗ srcShare d i X qB ∗ idle (F := F) d i B.g
    ∗ outRows d i (8 * (56 * tnum i)) (8 * (56 * tnum i + c)) (shuffled X I)
    ∗ outRows d i (8 * (56 * tnum i + (c + 1))) (8 * (56 * tnum i + 56)) f₀
    ∗ Transfers.MayWaits (TH d i) (default : HIx 1) O ∗ Owes (F := F) d i O W)

/-- After the last chunk: both slots at rest, the tile's rows done. -/
def Last (A B : Slot) (qA qB : PosShare TreeShare) (f : S48.Idx → BitVec 32) : sProp 𝕄 :=
  iprop(lst (F := F) d i f ∗ Ready d i X A qA ∗ Ready d i X B qB
    ∗ outRows d i (8 * (56 * tnum i)) (8 * (56 * tnum i + 56)) (shuffled X I) ∗ Owes (F := F) d i O W)

/-- What is left over does not depend on which slot is named first. -/
theorem Last_swap (A B : Slot) (qA qB : PosShare TreeShare) (f : S48.Idx → BitVec 32) :
    Last d i X I O W A B qA qB f ⊢ (Last d i X I O W B A qB qA f : sProp 𝕄) := by
  unfold Last
  iintro ⟨Hl, HA, HB, H⟩
  isplitl [Hl]; · iexact Hl
  isplitl [HB]; · iexact HB
  isplitl [HA] <;> iassumption

section Steps

variable {α : Type} {Q : α → sProp (MT nD τ sig (HIx 1) (Elt F) ℕ UU ℕ)}

/-- The loop from any of its states. -/
theorem wp_loop (hI : ∀ j, (I j).toNat < 32) (f : S48.Idx → BitVec 32)
    (hf : ∀ j, f ((Rect.unit (s := S48) ![0] S32.size inb_S48_S32_0).emb j) = I j) (f₀ : S14336x56x64.Idx → Elt F .f32)
    (k : PUnit → TProg F i α) : ∀ (n c : ℕ) (hc : c + n < 55) (_ : c + n = 54) (A B : Slot) (qA qB : PosShare TreeShare),
    Mid d i X I O W A B qA qB c (by omega) f f₀
      ⊢ iprop((Last d i X I O W A B qA qB f -∗ wp frame (wpE (defs₀ (F := F)) 𝒱₀ (TH d i) none) Set.univ (k ⟨⟩) Q)
        -∗ wp frame (wpE (defs₀ (F := F)) 𝒱₀ (TH d i) none) Set.univ (loop i xV oV sV n c hc A B >>= k) Q)
  | 0, c, hc, hc', A, B, qA, qB => by
    obtain rfl : c = 54 := by omega
    unfold loop Mid
    simp only [bind_assoc]
    iintro ⟨Hl, Ha, HvAo, Hlv, HxB, HvBg, Hdone, Hrest, #Hmw, HO⟩ Hk
    iapply (wp_gatherWait d i X I O W A qA (54 + 1) _ hI f hf) $$ [Hl Ha HO]
    · isplitl [Hl]; · iexact Hl
      isplitl [Ha]; · iexact Ha
      isplitr; · iexact Hmw
      iexact HO
    iintro ⟨Hl, Hfull, HxA, HvAg, HO⟩
    iapply (wp_scatter d i X I A (54 + 1) _ f₀) $$ [Hfull Hrest HvAo]
    · isplitl [Hfull]; · iexact Hfull
      isplitl [Hrest]; · iexact Hrest
      iexact HvAo
    iintro HlvA
    iapply (wp_scatterWait d i X I O W B 54 _) $$ [Hlv HO]
    · isplitl [Hlv]; · iexact Hlv
      isplitr; · iexact Hmw
      iexact HO
    iintro ⟨Ho, HbB, HvBo, HO⟩
    iapply (wp_scatterWait d i X I O W A (54 + 1) _) $$ [HlvA HO]
    · isplitl [HlvA]; · iexact HlvA
      isplitr; · iexact Hmw
      iexact HO
    iintro ⟨Ho', HbA, HvAo, HO⟩
    ihave Hdone := (outRows_join (F := F) d i (8 * (56 * tnum i)) (8 * (56 * tnum i + 54)) (8 * (56 * tnum i + (54 + 1))) (by omega) (by omega) _) $$ [Hdone Ho]
    · isplitl [Hdone] <;> iassumption
    ihave Hdone := (outRows_join (F := F) d i (8 * (56 * tnum i)) (8 * (56 * tnum i + (54 + 1))) (8 * (56 * tnum i + (54 + 1 + 1))) (by omega) (by omega) _) $$ [Hdone Ho']
    · isplitl [Hdone] <;> iassumption
    iapply Hk
    unfold Last Ready
    isplitl [Hl]; · iexact Hl
    isplitl [HbA HvAg HvAo HxA]
    · isplitl [HbA]; · iexact HbA
      isplitl [HvAg]; · iexact HvAg
      isplitl [HvAo] <;> iassumption
    isplitl [HbB HvBg HvBo HxB]
    · isplitl [HbB]; · iexact HbB
      isplitl [HvBg]; · iexact HvBg
      isplitl [HvBo] <;> iassumption
    isplitl [Hdone] <;> iassumption
  | n + 1, c, hc, hc', A, B, qA, qB => by
    unfold loop Mid
    simp only [bind_assoc]
    iintro ⟨Hl, Ha, HvAo, Hlv, HxB, HvBg, Hdone, Hrest, #Hmw, HO⟩ Hk
    iapply (wp_gatherWait d i X I O W A qA (c + 1) _ hI f hf) $$ [Hl Ha HO]
    · isplitl [Hl]; · iexact Hl
      isplitl [Ha]; · iexact Ha
      isplitr; · iexact Hmw
      iexact HO
    iintro ⟨Hl, Hfull, HxA, HvAg, HO⟩
    ihave Hrest := (outRows_split (F := F) d i (8 * (56 * tnum i + (c + 1))) (8 * (56 * tnum i + (c + 1 + 1))) (8 * (56 * tnum i + 56)) (by omega) (by omega) f₀) $$ Hrest
    icases Hrest with ⟨Hnow, Hrest⟩
    iapply (wp_scatter d i X I A (c + 1) _ f₀) $$ [Hfull Hnow HvAo]
    · isplitl [Hfull]; · iexact Hfull
      isplitl [Hnow]; · iexact Hnow
      iexact HvAo
    iintro HlvA
    iapply (wp_scatterWait d i X I O W B c _) $$ [Hlv HO]
    · isplitl [Hlv]; · iexact Hlv
      isplitr; · iexact Hmw
      iexact HO
    iintro ⟨Ho, HbB, HvBo, HO⟩
    ihave Hdone := (outRows_join (F := F) d i (8 * (56 * tnum i)) (8 * (56 * tnum i + c)) (8 * (56 * tnum i + (c + 1))) (by omega) (by omega) _) $$ [Hdone Ho]
    · isplitl [Hdone] <;> iassumption
    iapply (wp_gather d i X I B qB (c + 2) _ hI f hf) $$ [Hl HxB HbB HvBg]
    · isplitl [Hl]; · iexact Hl
      isplitl [HxB]; · iexact HxB
      isplitl [HbB] <;> iassumption
    iintro ⟨Hl, HaB⟩
    iapply (wp_loop hI f hf f₀ k n (c + 1) _ (by omega) B A qB qA) $$ [Hl HaB HvBo HlvA HxA HvAg Hdone Hrest HO]
    · unfold Mid
      isplitl [Hl]; · iexact Hl
      isplitl [HaB]; · iexact HaB
      isplitl [HvBo]; · iexact HvBo
      isplitl [HlvA]; · iexact HlvA
      isplitl [HxA]; · iexact HxA
      isplitl [HvAg]; · iexact HvAg
      isplitl [Hdone]; · iexact Hdone
      isplitl [Hrest]; · iexact Hrest
      isplitr; · iexact Hmw
      iexact HO
    iintro H
    iapply Hk
    iapply (Last_swap (F := F) d i X I O W B A qB qA f) $$ H

/-- The whole task, from its two slots at rest. -/
theorem wp_tile (hI : ∀ j, (I j).toNat < 32) (f₁ : S48.Idx → BitVec 32) (f₀ : S14336x56x64.Idx → Elt F .f32)
    (l : DmaSems sig S_) (ql : PosShare TreeShare) (A B : Slot) (qA qB : PosShare TreeShare) (k : PUnit → TProg F i α) :
    iprop(((lV).view.loc (TH d i) ↦{ql} I) ∗ lst (F := F) d i f₁ ∗ idle (F := F) d i l ∗ Ready d i X A qA ∗ Ready d i X B qB
        ∗ outRows d i (8 * (56 * tnum i)) (8 * (56 * tnum i + 56)) f₀
        ∗ Transfers.MayWaits (TH d i) (default : HIx 1) O ∗ Owes (F := F) d i O W)
      ⊢ iprop((iprop(((lV).view.loc (TH d i) ↦{ql} I) ∗ idle (F := F) d i l ∗ ∃ f, Last d i X I O W A B qA qB f)
            -∗ wp frame (wpE (defs₀ (F := F)) 𝒱₀ (TH d i) none) Set.univ (k ⟨⟩) Q)
        -∗ wp frame (wpE (defs₀ (F := F)) 𝒱₀ (TH d i) none) Set.univ
            (tile i xV oV sV lV (Memref.isWhole_whole _) l A B >>= k) Q) := by
  unfold tile
  simp only [bind_assoc]
  iintro ⟨HI, Hl, Hv, HA, HB, Hrows, #Hmw, HO⟩ Hk
  have hl : (lV).view.set = (Finset.univ : Finset S32.Idx) := View.set_whole _
  ihave HI := (Entails.of_eq (show ((lV).view.loc (TH d i) ↦{ql} I : sProp 𝕄) = (lV).view.loc (TH d i) ↦[(lV).view.set]{ql} I by rw [hl])) $$ HI
  iapply (Transfers.wp_dmaLocal (defs := defs₀ (F := F)) (src := lV)
    (dst := sV.slice (Rect.unit (s := S48) ![0] S32.size inb_S48_S32_0) (fun _ => rfl)) (via := .same) (sm := .dma l.sem)
    countersEmb 𝒱₀ (TH d i) none (default : HIx 1)
    (sV.slice (Rect.unit (s := S48) ![0] S32.size inb_S48_S32_0) (fun _ => rfl)).view.dmaCredit
    (View.amount_dma _ _) (View.dmaCredit_pos _ (by decide)) (Finset.subset_univ _)) $$ [HI Hl Hv]
  · isplitl [HI]; · iexact HI
    isplitl [Hl] <;> iassumption
  iintro Hfl
  unfold Owes
  icases HO with ⟨%W', %hW, HO⟩
  iapply (Transfers.wp_waitLocalO (defs := defs₀ (F := F)) (sem := l.sem) (srcw := lV)
    (dstw := sV.slice (Rect.unit (s := S48) ![0] S32.size inb_S48_S32_0) (fun _ => rfl))
    countersEmb 𝒱₀ (TH d i) none (default : HIx 1) rfl) $$ [Hfl HO]
  · isplitl [Hfl]; · iexact Hfl
    isplitl [HO]; · iexact HO
    iapply (Transfers.MayWaits.elim (SemLoc.dma l.sem)) $$ Hmw
  iintro ⟨⟨Hl, HI⟩, Hv, HO⟩
  ihave HI := (Entails.of_eq (show ((lV).view.loc (TH d i) ↦[(lV).view.set]{ql} I : sProp 𝕄) = (lV).view.loc (TH d i) ↦{ql} I by rw [hl])) $$ HI
  ihave HO := (owes_insert (F := F) d i O W W' hW _) $$ HO
  have hf : ∀ j, (sV.slice (Rect.unit (s := S48) ![0] S32.size inb_S48_S32_0) (fun _ => rfl)).view.write (Elt F) f₁
      ((ReadAs.same : ReadAs (Elt F) S32 .i32 S32 .i32).apply ((lV).view.read (Elt F) I)) Finset.univ
      ((Rect.unit (s := S48) ![0] S32.size inb_S48_S32_0).emb j) = I j := landed (F := F) f₁ I
  generalize (sV.slice (Rect.unit (s := S48) ![0] S32.size inb_S48_S32_0) (fun _ => rfl)).view.write (Elt F) f₁
      ((ReadAs.same : ReadAs (Elt F) S32 .i32 S32 .i32).apply ((lV).view.read (Elt F) I)) Finset.univ = f at hf
  unfold Ready
  icases HA with ⟨HbA, HvAg, HvAo, HxA⟩
  icases HB with ⟨HbB, HvBg, HvBo, HxB⟩
  iapply (wp_gather d i X I A qA 0 (by omega) hI f hf) $$ [Hl HxA HbA HvAg]
  · isplitl [Hl]; · iexact Hl
    isplitl [HxA]; · iexact HxA
    isplitl [HbA] <;> iassumption
  iintro ⟨Hl, HaA⟩
  iapply (wp_gather d i X I B qB 1 (by omega) hI f hf) $$ [Hl HxB HbB HvBg]
  · isplitl [Hl]; · iexact Hl
    isplitl [HxB]; · iexact HxB
    isplitl [HbB] <;> iassumption
  iintro ⟨Hl, HaB⟩
  iapply (wp_gatherWait d i X I O W A qA 0 _ hI f hf) $$ [Hl HaA HO]
  · isplitl [Hl]; · iexact Hl
    isplitl [HaA]; · iexact HaA
    isplitr; · iexact Hmw
    unfold Owes; iexact HO
  iintro ⟨Hl, Hfull, HxA, HvAg, HO⟩
  ihave Hrows := (outRows_split (F := F) d i (8 * (56 * tnum i)) (8 * (56 * tnum i + (0 + 1))) (8 * (56 * tnum i + 56))
    (by omega) (by omega) f₀) $$ Hrows
  icases Hrows with ⟨Hnow, Hrest⟩
  iapply (wp_scatter d i X I A 0 _ f₀) $$ [Hfull Hnow HvAo]
  · isplitl [Hfull]; · iexact Hfull
    isplitl [Hnow]; · iexact Hnow
    iexact HvAo
  iintro HlvA
  iapply (wp_loop d i X I O W hI f hf f₀ k 54 0 _ rfl B A qB qA) $$ [Hl HaB HvBo HlvA HxA HvAg Hrest HO]
  · unfold Mid
    isplitl [Hl]; · iexact Hl
    isplitl [HaB]; · iexact HaB
    isplitl [HvBo]; · iexact HvBo
    isplitl [HlvA]; · iexact HlvA
    isplitl [HxA]; · iexact HxA
    isplitl [HvAg]; · iexact HvAg
    isplitr [Hrest HO]
    · iapply (Entails.of_eq (show (BI.emp : sProp 𝕄) = outRows d i (8 * (56 * tnum i)) (8 * (56 * tnum i + 0)) (shuffled X I) by
        rw [Nat.add_zero, outRows, rows_empty, pointsTo_empty]; rfl))
      iempintro
    isplitl [Hrest]; · iexact Hrest
    isplitr; · iexact Hmw
    iexact HO
  iintro H
  iapply Hk
  isplitl [HI]; · iexact HI
  isplitl [Hv]; · iexact Hv
  iexists f
  iapply (Last_swap (F := F) d i X I O W B A qB qA f) $$ H

end Steps

end Cert.Kernel.Tile
-- ==== Proof.Task.lean ====
/- What the launch hands a tile and what the tile hands back, and the printed body's proof that it does. -/
module

public import proofs.«01_k».proof.Proof.Tile

@[expose] public section

noncomputable section

namespace Cert.Kernel.Tile

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The source as the launch memory gives it: the argument with its axes turned and its slabs' rows in a line. -/
def source (d : Dev nD) : S14336x56x64.Idx → Elt F .f32 :=
  shapeCast S14336x56x64 (transpose S8x32x56x56x64 [0, 2, 3, 4, 1] (m (aLoc d) : S8x64x32x56x56.Idx → Elt F .f32)
    transposes_S8x64x32x56x56_S8x32x56x56x64_0_2_3_4_1) shapeCasts_S8x32x56x56x64_S14336x56x64

/-- The index list as the launch memory gives it. -/
abbrev list (d : Dev nD) : S32.Idx → BitVec 32 := m (lLoc d)

/-- Tile `w`'s share of what every tile reads. -/
abbrev leafOf (w : Fin 32) : PosShare TreeShare := ShareLeaves.leaf 5 fullShare w

/-- What tile `w` is handed and hands back: its shares of the list and of the source, and its rows of the result. -/
def tileRes (d : Dev nD) (f : S14336x56x64.Idx → Elt F .f32) (w : Fin 32) : sProp 𝕄 :=
  iprop((lLoc d ↦{leafOf w} m (lLoc d)) ∗ (xLoc d ↦{leafOf w} (source m d : Buf (Elt F) (xLoc d)))
    ∗ oLoc d ↦[tileRows w.val]{fullShare} (f : Buf (Elt F) (oLoc d)))

instance tileRes_storable (d : Dev nD) (f : S14336x56x64.Idx → Elt F .f32) (w : Fin 32) :
    BI.Storable (upEmb : UEmb _ 𝕄) (tileRes m d f w) := by
  unfold tileRes; infer_instance

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The tile of a grid point. -/
abbrev tileOf (i : grid0.Coords) : Fin 32 := ⟨tnum i, tnum_lt i⟩

/-- What the proof asks of the launch memory: every word of the list names one of the 32 slabs. -/
def PreOK : Prop := ∀ (d : Dev nD) (j : S32.Idx), (list m d j).toNat < 32

/-- What the result array holds in the end. -/
abbrev final (d : Dev nD) : S14336x56x64.Idx → Elt F .f32 := shuffled (source m d) (list m d)

section Body

variable (d : Dev nD) (L : grid0.Coords)

/-- The tile's two slots. -/
abbrev slotA : Slot := ⟨Memref.whole cc0_scratch1, Memref.isWhole_whole _, cc0_scratch3, cc0_scratch5⟩
abbrev slotB : Slot := ⟨Memref.whole cc0_scratch2, Memref.isWhole_whole _, cc0_scratch4, cc0_scratch6⟩

/-- A cell of the tile's. -/
abbrev cell (s : DmaSems sig S_) : GSem nD τ sig := (TH d L, SemLoc.dma s.sem)

theorem cell_mem (s : DmaSems sig S_) (hs : (SemLoc.dma s.sem : SemLoc sig).isScoped .scVector = true) :
    cell d L s ∈ ownCells (TH d L) := mem_ownCells.mpr ⟨rfl, hs⟩

theorem cell_ne {s t : DmaSems sig S_} (h : s.sem ≠ t.sem) : cell d L s ≠ cell d L t :=
  fun e => h (SemLoc.dma.inj (Prod.mk.inj e).2)

/-- The tile's five cells are among its subcore's own: they are them, and the rest. -/
theorem ownSems0_V : (ownSems0 (TH d L) : sProp 𝕄)
    = iprop(semVal (cell d L cc0_scratch3) 0 ∗ semVal (cell d L cc0_scratch4) 0 ∗ semVal (cell d L cc0_scratch5) 0
        ∗ semVal (cell d L cc0_scratch6) 0 ∗ semVal (cell d L cc0_scoped0) 0
        ∗ bigSep ((((((ownCells (TH d L)).erase (cell d L cc0_scratch3)).erase (cell d L cc0_scratch4)).erase (cell d L cc0_scratch5)).erase
            (cell d L cc0_scratch6)).erase (cell d L cc0_scoped0)) fun g => semVal g 0) := by
  have hm : ∀ {A : Finset (GSem nD τ sig)} {s t : DmaSems sig S_}, cell d L s ∈ A → t.sem ≠ s.sem → cell d L s ∈ A.erase (cell d L t) :=
    fun h hn => Finset.mem_erase.mpr ⟨(cell_ne d L hn).symm, h⟩
  have c4 := cell_mem d L cc0_scratch4 (by decide)
  have c5 := cell_mem d L cc0_scratch5 (by decide)
  have c6 := cell_mem d L cc0_scratch6 (by decide)
  have c0 := cell_mem d L cc0_scoped0 (by decide)
  unfold SparseCore.Cfg.ownSems0
  rw [SparseCore.bigSep_erase' (cell_mem d L cc0_scratch3 (by decide)),
    SparseCore.bigSep_erase' (hm (t := cc0_scratch3) c4 (by decide)),
    SparseCore.bigSep_erase' (hm (t := cc0_scratch4) (hm (t := cc0_scratch3) c5 (by decide)) (by decide)),
    SparseCore.bigSep_erase' (hm (t := cc0_scratch5) (hm (t := cc0_scratch4) (hm (t := cc0_scratch3) c6 (by decide)) (by decide)) (by decide)),
    SparseCore.bigSep_erase' (hm (t := cc0_scratch6) (hm (t := cc0_scratch5) (hm (t := cc0_scratch4) (hm (t := cc0_scratch3) c0 (by decide)) (by decide)) (by decide)) (by decide))]

/-- The tile's three buffers are among its subcore's own: they are them, at some contents, and the rest. -/
theorem ownBufs_V : (ownBufs (TH d L) : sProp 𝕄)
    = iprop((∃ f, (TH d L).loc cc0_scratch0 ↦{fullShare} f) ∗ (∃ f, (TH d L).loc cc0_scratch1 ↦{fullShare} f)
        ∗ (∃ f, (TH d L).loc cc0_scratch2 ↦{fullShare} f)
        ∗ bigSep ((((ownRefs (τ := τ) (.scVector (cV L) (jV L))).erase ((Proc.scVector (cV L) (jV L)).devRef cc0_scratch0)).erase
            ((Proc.scVector (cV L) (jV L)).devRef cc0_scratch1)).erase ((Proc.scVector (cV L) (jV L)).devRef cc0_scratch2))
            fun b => iprop(∃ f, ((d, b) : Loc nD τ sig) ↦{fullShare} f)) := by
  have hr : ∀ b : Ref sig .scVector, ((Proc.scVector (cV L) (jV L)).devRef b).owner = .proc (.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have hn : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hr cc0_scratch0 rfl)).trans ?_
  rw [SparseCore.bigSep_erase' (Finset.mem_erase.mpr ⟨hn cc0_scratch1 cc0_scratch0 (by decide), hr cc0_scratch1 rfl⟩),
    SparseCore.bigSep_erase' (Finset.mem_erase.mpr ⟨hn cc0_scratch2 cc0_scratch1 (by decide),
      Finset.mem_erase.mpr ⟨hn cc0_scratch2 cc0_scratch0 (by decide), hr cc0_scratch2 rfl⟩⟩)]

/-- The printed body at a grid point. -/
abbrev printed : Prog (TpuEff nD τ sig (Elt F) Λ₀ (.scVector (cV L) (jV L))) PUnit :=
  cc0__sc_shuffle (F := F) L (Memref.whole main_v1_scv) (Memref.isWhole_whole _) (Memref.whole main_arg1_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6 cc0_scoped0

theorem printed_eq : printed (F := F) L = tile L xV oV sV lV (Memref.isWhole_whole _) cc0_scoped0 slotA slotB >>= pure :=
  (body_eq _ _ _ _ _ _ _ _ _ _ _ _ _ _ _ _ _ _).trans (bind_pure _).symm

/-- The task on the vector subcore of grid point `L`: it is handed its shares and its rows, and hands them back with its
    rows of the result as they are to be. -/
theorem tile_body (hpre : PreOK m) (O : CellTallies nD τ sig (HIx 1)) (W : Waits sig (HIx 1)) (hO : ∀ g, O g none = 0) :
    iprop(levAts (K (F := F)).L (K (F := F)).lev ∗ emp ∗ tileRes m d (m (oLoc d)) (tileOf L)
        ∗ scopedBufs (TH d L) ∗ scopedSems0 (TH d L) ∗ owes (TH d L) O W)
      ⊢ wp frame (wpE (defs₀ (F := F)) 𝒱₀ (TH d L) none) Set.univ (printed (F := F) L)
          fun _ => iprop(tileRes m d (final m d) (tileOf L)
            ∗ scopedBufs (TH d L) ∗ scopedSems0 (TH d L)
            ∗ ∃ W', ⌜∀ p ∈ W', p ∈ W ∨ p.2 = none⌝ ∗ owes (TH d L) O W') := by
  rw [printed_eq, (K (F := F)).scopedBufs_V launchFacts d (cV L) (jV L), SparseCore.Cfg.scopedSems0_V (Val := Elt F) d (cV L) (jV L),
    ownSems0_V, ownBufs_V]
  unfold tileRes
  iintro ⟨#Hlv, -, ⟨HI, Hx, Ho⟩, ⟨⟨%fs, Hs⟩, ⟨%fa, Ha⟩, ⟨%fb, Hb⟩, Hbufs⟩, ⟨H3, H4, H5, H6, H0, Hsems⟩, HO⟩
  ihave Hmw := (show levAts (K (F := F)).L (K (F := F)).lev ⊢ Transfers.MayWaits (TH d L) (default : HIx 1) O from
    (K (F := F)).mayWaits_none (thr := TH d L) hO) $$ Hlv
  ihave Hx := (pointsTo_share (PosShare.mem_left_op_right (leafOf (tileOf L)))).1 $$ Hx
  icases Hx with ⟨HxA, HxB⟩
  have hA : (slotA).buf.view.set = (Finset.univ : Finset S8x56x64.Idx) := View.set_whole _
  have hB : (slotB).buf.view.set = (Finset.univ : Finset S8x56x64.Idx) := View.set_whole _
  iapply (wp_tile d L (source m d) (list m d) O W (hpre d) fs (m (oLoc d)) cc0_scoped0 (leafOf (tileOf L)) slotA slotB
    (leafOf (tileOf L)).left (leafOf (tileOf L)).right pure) $$ [HI Hs H0 H3 H5 Ha HxA H4 H6 Hb HxB Ho HO]
  · isplitl [HI]; · iexact HI
    isplitl [Hs]; · iexact Hs
    isplitl [H0]; · iexact H0
    unfold Ready Empty
    rw [hA, hB]
    isplitl [H3 H5 Ha HxA]
    · isplitl [Ha]; · iexists fa; iexact Ha
      isplitl [H3]; · iexact H3
      isplitl [H5]; · iexact H5
      iexact HxA
    isplitl [H4 H6 Hb HxB]
    · isplitl [Hb]; · iexists fb; iexact Hb
      isplitl [H4]; · iexact H4
      isplitl [H6]; · iexact H6
      iexact HxB
    isplitl [Ho]; · iexact Ho
    isplitr; · iexact Hmw
    unfold Owes
    iexists W
    isplitr
    · ipureintro; exact fun p hp => .inl hp
    · iexact HO
  iintro ⟨HI, H0, %f, Hlast⟩
  unfold Last Ready Empty
  rw [hA, hB]
  icases Hlast with ⟨Hs, ⟨⟨%ga, Ha⟩, H3, H5, HxA⟩, ⟨⟨%gb, Hb⟩, H4, H6, HxB⟩, Ho, HO⟩
  ihave Hx := (pointsTo_share (ℓ := xLoc d) (I := Finset.univ) (f := source m d) (PosShare.mem_left_op_right (leafOf (tileOf L)))).2 $$ [HxA HxB]
  · isplitl [HxA]; · iexact HxA
    iexact HxB
  rw [wp_pure]
  imodintro
  isplitl [HI Hx Ho]
  · isplitl [HI]; · iexact HI
    isplitl [Hx]; · iexact Hx
    iexact Ho
  isplitl [Hs Ha Hb Hbufs]
  · isplitl [Hs]; · iexists _; iexact Hs
    isplitl [Ha]; · iexists _; iexact Ha
    isplitl [Hb]; · iexists _; iexact Hb
    iexact Hbufs
  isplitl [H3 H4 H5 H6 H0 Hsems]
  · isplitl [H3]; · iexact H3
    isplitl [H4]; · iexact H4
    isplitl [H5]; · iexact H5
    isplitl [H6]; · iexact H6
    isplitl [H0]; · iexact H0
    iexact Hsems
  unfold Owes
  iexact HO

end Body

end Cert.Kernel.Tile
-- ==== Proof.Launch.lean ====
/- The launch: what the call takes and brings back, each tile's obligation, the host's four operations around the call,
   and the run of the whole program. -/
module

public import proofs.«01_k».proof.Proof.Task

@[expose] public section

noncomputable section

namespace Cert.Kernel.Tile

open Cert.Kernel Cert.Kernel.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The tile of core `c`'s subcore `i`. -/
abbrev tileAt (c : Fin ((K (F := F)).nCore 0)) (i : Fin ((K (F := F)).nSub 0)) : Fin 32 :=
  tileOf (coordsV ⟨((K (F := F)).core 0 c).val, c.isLt⟩ ⟨((K (F := F)).sub 0 i).val, i.isLt⟩)

/-- A core takes what its subcores' tiles take and brings back what they bring. -/
def P : (K (F := F)).Pay (nD := nD) (Val := Elt F) (Name := ℕ) (U := UU) where
  st := fun q d c => match q with | 0 => bigSep Finset.univ fun i : Fin ((K (F := F)).nSub 0) => tileRes m d (m (oLoc d)) (tileAt c i)
  dn := fun q d c => match q with | 0 => bigSep Finset.univ fun i : Fin ((K (F := F)).nSub 0) => tileRes m d (final m d) (tileAt c i)
  go := fun q d c i => match q with | 0 => tileRes m d (m (oLoc d)) (tileAt c i)
  td := fun q d c i => match q with | 0 => tileRes m d (final m d) (tileAt c i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => tileRes m d (m (oLoc d)) (tileAt c i)))
  dn q d c := match q with
    | 0 => (inferInstance : BI.Storable (upEmb : UEmb _ 𝕄)
      (bigSep Finset.univ fun i : Fin ((K (F := F)).nSub 0) => tileRes m d (final m d) (tileAt c i)))
  go q d c i := match q with
    | 0 => (inferInstance : BI.Storable (upEmb : UEmb _ 𝕄) (tileRes m d (m (oLoc d)) (tileAt c i)))
  td q d c i := match q with
    | 0 => (inferInstance : BI.Storable (upEmb : UEmb _ 𝕄) (tileRes m d (final m d) (tileAt c i)))

/-! ## The obligations -/

/-- What the launch runs on a vector subcore: the printed body at the subcore's grid point. -/
theorem defs₀_vector (c : Fin τ.nSC) (s : Fin τ.nSub) :
    defs₀ (F := F) (.scVector c s) 0 ()
      = SparseCore.onTile hcore0 hsub0 (fun c s => cc0__sc_shuffle (F := F) (coordsV c s)
          (Memref.whole main_v1_scv) (Memref.isWhole_whole _) (Memref.whole main_arg1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scratch5 cc0_scratch6 cc0_scoped0) ⟨⟩ c s := by
  unfold defs₀
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0__sc_shuffle in
set_option maxRecDepth 16384 in
/-- Every vector subcore's task meets its obligation. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine (tile_body m d (coordsV ⟨_, hci.1⟩ ⟨_, hci.2⟩) hpre O W hO).trans ?_
  refine (wp_mono frame _ Set.univ (Q' := fun _ => iprop((P m).td 0 d c i
    ∗ scopedBufs (V d ((K (F := F)).core 0 c) ((K (F := F)).sub 0 i)) ∗ scopedSems0 (V d ((K (F := F)).core 0 c) ((K (F := F)).sub 0 i))
    ∗ ∃ W', ⌜∀ p ∈ W', p ∈ W ∨ p.2 = none ∨ p.2 = some 0⌝ ∗ owes (V d ((K (F := F)).core 0 c) ((K (F := F)).sub 0 i)) O W'))
    fun _ => obl_post).trans ?_
  exact .rfl

/-- A core's sequencer hands its tiles what it took, and takes what they bring. -/
theorem vecSplit : (K (F := F)).VecSplit' (P m) 0 := by
  intro d c
  show (bigSep Finset.univ fun i : Fin ((K (F := F)).nSub 0) => tileRes m d (m (oLoc d)) (tileAt c i)) ⊢ |={Set.univ}=> iprop(
      (bigSep Finset.univ fun i : Fin ((K (F := F)).nSub 0) => tileRes m d (m (oLoc d)) (tileAt c i))
      ∗ ((bigSep Finset.univ fun i : Fin ((K (F := F)).nSub 0) => tileRes m d (final m d) (tileAt c i))
          -∗ bigSep Finset.univ fun i : Fin ((K (F := F)).nSub 0) => tileRes m d (final m d) (tileAt c i)))
  iintro H; imodintro
  isplitl [H]; · iexact H
  iintro H; iexact H

/-! ## The tiles together -/

/-- The tiles in the order of their numbers. -/
def tilesEquiv : Fin 2 × Fin 16 ≃ Fin 32 := (Equiv.prodComm _ _).trans finProdFinEquiv

theorem tilesEquiv_eq (c : Fin 2) (i : Fin 16) : tilesEquiv (c, i) = tileAt (F := F) c i := by
  apply Fin.ext
  show c.val + 2 * i.val = 2 * i.val + c.val
  omega

/-- Over the cores and their subcores is over the tiles. -/
theorem tiles_all (Φ : Fin 32 → sProp 𝕄) :
    (bigSep Finset.univ fun c : Fin ((K (F := F)).nCore 0) => bigSep Finset.univ fun i : Fin ((K (F := F)).nSub 0) => Φ (tileAt c i))
      = bigSep Finset.univ Φ := by
  rw [bigSep_univ_equiv tilesEquiv Φ, bigSep_univ_prod]
  exact bigSep_congr fun c _ => bigSep_congr fun i _ => congrArg Φ (tilesEquiv_eq (F := F) c i).symm

/-- The list, the source and the result, whole, are the tiles' shares of them. -/
theorem tiles_res (d : Dev nD) (f : S14336x56x64.Idx → Elt F .f32) :
    (bigSep Finset.univ fun w => tileRes m d f w)
      = (iprop((lLoc d ↦{fullShare} m (lLoc d)) ∗ (xLoc d ↦{fullShare} (source m d : Buf (Elt F) (xLoc d)))
          ∗ oLoc d ↦{fullShare} (f : Buf (Elt F) (oLoc d))) : sProp 𝕄) := by
  have hl := ShareLeaves.pointsTo_leaves (Ix := HIx 1) (Val := Elt F) (Name := ℕ) (U := UU) (Lvl := ℕ) (ℓ := lLoc d) Finset.univ (m (lLoc d)) 5 fullShare
  have hx := ShareLeaves.pointsTo_leaves (Ix := HIx 1) (Val := Elt F) (Name := ℕ) (U := UU) (Lvl := ℕ) (ℓ := xLoc d) Finset.univ (source m d) 5 fullShare
  have ho := pointsTo_biUnion (Ix := HIx 1) (Val := Elt F) (Name := ℕ) (U := UU) (Lvl := ℕ) (ℓ := oLoc d) (q := fullShare) (f := f)
    (Finset.univ : Finset (Fin 32)) (fun w => tileRows w.val) tileRows_disjoint
  rw [tileRows_cover] at ho
  rw [hl, hx, ho]
  unfold tileRes
  rw [bigSep_sep', bigSep_sep']
  rfl

theorem st0_eq (d : Dev nD) : (bigSep Finset.univ fun c : Fin ((K (F := F)).nCore 0) => (P m).st 0 d c)
    = (iprop((lLoc d ↦{fullShare} m (lLoc d)) ∗ (xLoc d ↦{fullShare} (source m d : Buf (Elt F) (xLoc d)))
        ∗ oLoc d ↦{fullShare} m (oLoc d)) : sProp 𝕄) :=
  (tiles_all (F := F) fun w => tileRes m d (m (oLoc d)) w).trans (tiles_res m d _)
theorem dn0_eq (d : Dev nD) : (bigSep Finset.univ fun c : Fin ((K (F := F)).nCore 0) => (P m).dn 0 d c)
    = (iprop((lLoc d ↦{fullShare} m (lLoc d)) ∗ (xLoc d ↦{fullShare} (source m d : Buf (Elt F) (xLoc d)))
        ∗ oLoc d ↦{fullShare} (final m d : Buf (Elt F) (oLoc d))) : sProp 𝕄) :=
  (tiles_all (F := F) fun w => tileRes m d (final m d) w).trans (tiles_res m d _)

/-! ## The launch's element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), hemp]
  iempintro

/-! ## The host's operations -/

abbrev a' : DevRef τ sig := Proc.devRef .tc (main_arg0 : Ref sig .tc)
abbrev l' : DevRef τ sig := Proc.devRef .tc (main_arg1 : Ref sig .tc)
abbrev t' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev u' : DevRef τ sig := Proc.devRef .tc (main_v3 : Ref sig .tc)
abbrev r' : DevRef τ sig := Proc.devRef .tc (main_v4 : Ref sig .tc)

abbrev opTurn : HloOp τ sig (Elt F) := StableHlo.unary main_arg0 main_v0
  ((transpose S8x32x56x56x64 [0, 2, 3, 4, 1] · transposes_S8x64x32x56x56_S8x32x56x56x64_0_2_3_4_1) :
    (⟨S8x64x32x56x56, .f32⟩ : BufTy).Contents (Elt F) → (⟨S8x32x56x56x64, .f32⟩ : BufTy).Contents (Elt F))
abbrev opLine : HloOp τ sig (Elt F) := StableHlo.reshape main_v0 main_v1 (rfl : (.f32 : EltTy) = .f32) shapeCasts_S8x32x56x56x64_S14336x56x64
abbrev opSlabs : HloOp τ sig (Elt F) := StableHlo.reshape main_v2 main_v3 (rfl : (.f32 : EltTy) = .f32) shapeCasts_S14336x56x64_S8x32x56x56x64
abbrev opBack : HloOp τ sig (Elt F) := StableHlo.unary main_v3 main_v4
  ((transpose S8x64x32x56x56 [0, 4, 1, 2, 3] · transposes_S8x32x56x56x64_S8x64x32x56x56_0_4_1_2_3) :
    (⟨S8x32x56x56x64, .f32⟩ : BufTy).Contents (Elt F) → (⟨S8x64x32x56x56, .f32⟩ : BufTy).Contents (Elt F))

/-- The seven arrays of the host. -/
abbrev S7 : Finset (DevRef τ sig) := {a', l', t', x', o', u', r'}

theorem hTurn : (opTurn (F := F)).bufs ⊆ S7 := show ({a', t'} : Finset (DevRef τ sig)) ⊆ S7 by decide
theorem hLine : (opLine (F := F)).bufs ⊆ S7 := show ({t', x'} : Finset (DevRef τ sig)) ⊆ S7 by decide
theorem hSlabs : (opSlabs (F := F)).bufs ⊆ S7 := show ({o', u'} : Finset (DevRef τ sig)) ⊆ S7 by decide
theorem hBack : (opBack (F := F)).bufs ⊆ S7 := show ({u', r'} : Finset (DevRef τ sig)) ⊆ S7 by decide

theorem held_S7 (d : Dev nD) (W : Valuation τ sig (Elt F)) :
    (held (T d) S7 W : sProp 𝕄)
      = iprop((aLoc d ↦{fullShare} W a') ∗ (lLoc d ↦{fullShare} W l') ∗ ((SparseCore.T d).loc main_v0 ↦{fullShare} W t')
          ∗ (xLoc d ↦{fullShare} W x') ∗ (oLoc d ↦{fullShare} W o') ∗ ((SparseCore.T d).loc main_v3 ↦{fullShare} W u')
          ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at launch, before the call, after the call, and at the end. -/
def V0 (d : Dev nD) : Valuation τ sig (Elt F) := fun b => m (d, b)
def V1 (d : Dev nD) : Valuation τ sig (Elt F) := (opLine (F := F)).result ((opTurn (F := F)).result (V0 m d))
def V2 (d : Dev nD) : Valuation τ sig (Elt F) := Function.update (V1 m d) o' (final m d : Buf (Elt F) (oLoc d))
def V3 (d : Dev nD) : Valuation τ sig (Elt F) := (opBack (F := F)).result ((opSlabs (F := F)).result (V2 m d))

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- Before the call only the turned array and the source have changed. -/
theorem V1_of_ne (d : Dev nD) {b : DevRef τ sig} (hx : b ∉ ({x'} : Finset (DevRef τ sig))) (ht : b ∉ ({t'} : Finset (DevRef τ sig))) :
    V1 m d b = m (d, b) := by
  unfold V1
  rw [(opLine (F := F)).result_of_not_mem _ hx, (opTurn (F := F)).result_of_not_mem _ ht]
  rfl
theorem V1_x (d : Dev nD) : V1 m d x' = (source m d : Buf (Elt F) (xLoc d)) := by
  unfold V1
  rw [StableHlo.reshape_result, StableHlo.unary_result]
  rfl
theorem V2_of_ne (d : Dev nD) {b : DevRef τ sig} (h : b ≠ o') : V2 m d b = V1 m d b := Function.update_of_ne h _ _
theorem V2_o (d : Dev nD) : V2 m d o' = (final m d : Buf (Elt F) (oLoc d)) := Function.update_self _ _ _

/-- The program's result: the shuffled rows, set back into slabs and their axes turned back. -/
def result (d : Dev nD) : S8x64x32x56x56.Idx → Elt F .f32 :=
  transpose S8x64x32x56x56 [0, 4, 1, 2, 3] (shapeCast S8x32x56x56x64 (final m d) shapeCasts_S14336x56x64_S8x32x56x56x64)
    transposes_S8x32x56x56x64_S8x64x32x56x56_0_4_1_2_3

theorem V3_of_ne (d : Dev nD) {b : DevRef τ sig} (hr : b ∉ ({r'} : Finset (DevRef τ sig))) (hu : b ∉ ({u'} : Finset (DevRef τ sig))) :
    V3 m d b = V2 m d b := by
  unfold V3
  rw [(opBack (F := F)).result_of_not_mem _ hr, (opSlabs (F := F)).result_of_not_mem _ hu]
theorem V3_r (d : Dev nD) : V3 m d r' = (result m d : Buf (Elt F) (rLoc d)) := by
  unfold V3
  rw [StableHlo.unary_result, StableHlo.reshape_result, V2_o]
  rfl

/-- The seven arrays before the call. -/
theorem held_V1 (d : Dev nD) :
    (held (T d) S7 ((opLine (F := F)).result ((opTurn (F := F)).result (V0 m d))) : sProp 𝕄)
      = iprop((aLoc d ↦{fullShare} m (aLoc d)) ∗ (lLoc d ↦{fullShare} m (lLoc d)) ∗ ((SparseCore.T d).loc main_v0 ↦{fullShare} V1 m d t')
          ∗ (xLoc d ↦{fullShare} (source m d : Buf (Elt F) (xLoc d))) ∗ (oLoc d ↦{fullShare} m (oLoc d)) ∗ ((SparseCore.T d).loc main_v3 ↦{fullShare} V1 m d u')
          ∗ rLoc d ↦{fullShare} V1 m d r') := by
  show held (SparseCore.T d) S7 (V1 m d) = _
  rw [held_S7, V1_x, V1_of_ne m d (b := a') (by decide) (by decide), V1_of_ne m d (b := l') (by decide) (by decide),
    V1_of_ne m d (b := o') (by decide) (by decide)]

/-- The seven arrays after the call. -/
theorem held_V2 (d : Dev nD) :
    (held (T d) S7 (V2 m d) : sProp 𝕄)
      = iprop((aLoc d ↦{fullShare} m (aLoc d)) ∗ (lLoc d ↦{fullShare} m (lLoc d)) ∗ ((SparseCore.T d).loc main_v0 ↦{fullShare} V1 m d t')
          ∗ (xLoc d ↦{fullShare} (source m d : Buf (Elt F) (xLoc d))) ∗ (oLoc d ↦{fullShare} (final m d : Buf (Elt F) (oLoc d)))
          ∗ ((SparseCore.T d).loc main_v3 ↦{fullShare} V1 m d u') ∗ rLoc d ↦{fullShare} V1 m d r') := by
  rw [held_S7, V2_o, V2_of_ne m d (b := a') (by decide), V2_of_ne m d (b := l') (by decide), V2_of_ne m d (b := t') (by decide),
    V2_of_ne m d (b := x') (by decide), V2_of_ne m d (b := u') (by decide), V2_of_ne m d (b := r') (by decide),
    V1_x, V1_of_ne m d (b := a') (by decide) (by decide), V1_of_ne m d (b := l') (by decide) (by decide)]

/-- The seven arrays at the end. -/
theorem held_V3 (d : Dev nD) :
    (held (T d) S7 ((opBack (F := F)).result ((opSlabs (F := F)).result (V2 m d))) : sProp 𝕄)
      = iprop((aLoc d ↦{fullShare} m (aLoc d)) ∗ (lLoc d ↦{fullShare} m (lLoc d)) ∗ ((SparseCore.T d).loc main_v0 ↦{fullShare} V3 m d t')
          ∗ (xLoc d ↦{fullShare} V3 m d x') ∗ (oLoc d ↦{fullShare} V3 m d o')
          ∗ ((SparseCore.T d).loc main_v3 ↦{fullShare} V3 m d u') ∗ rLoc d ↦{fullShare} (result m d : Buf (Elt F) (rLoc d))) := by
  show held (SparseCore.T d) S7 (V3 m d) = _
  rw [held_S7, V3_r, V3_of_ne m d (b := a') (by decide) (by decide), V3_of_ne m d (b := l') (by decide) (by decide),
    V2_of_ne m d (b := a') (by decide), V2_of_ne m d (b := l') (by decide),
    V1_of_ne m d (b := a') (by decide) (by decide), V1_of_ne m d (b := l') (by decide) (by decide)]

/-- What the host leaves: the arguments as they were, and the result. -/
abbrev FIN (d : Dev nD) : sProp 𝕄 :=
  iprop((aLoc d ↦{fullShare} m (aLoc d)) ∗ (lLoc d ↦{fullShare} m (lLoc d)) ∗ rLoc d ↦{fullShare} (result m d : Buf (Elt F) (rLoc d)))

/-- The host's program on device `d`: the axes turned, the rows in a line, the call, the slabs set back, the axes turned back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTurn) (S := S7) hTurn (V := V0 m d)) $$ [Hb Hheld]
  · isplitl [Hb] <;> iassumption
  iintro ⟨Hb, Hheld⟩
  rw [wp_ret]; imodintro
  iapply (wp_hlo_within 𝒱 (SparseCore.T d) none Set.univ (op := opLine) (S := S7) hLine (V := (opTurn (F := F)).result (V0 m d))) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hl, Ht, Hx, Ho, Hu, Hr⟩
  iapply ((K (F := F)).wp_run (D (F := F)) 𝒱 (EH := EH) (P := P m) κ d 0) $$ [Hst Hl Hx Ho Hb Ha Ht Hu Hr Hts]
  isplitr; · iexact Hctx
  isplitl [Hst]; · iexact Hst
  isplitl [Hl Hx Ho]
  · rw [st0_eq]
    isplitl [Hl]; · iexact Hl
    isplitl [Hx]; · iexact Hx
    iexact Ho
  iintro ⟨Hst, Hdn⟩
  ihave Hdn' := (Entails.of_eq (dn0_eq m d)) $$ Hdn
  icases Hdn' with ⟨Hl, Hx, Ho⟩
  iapply (wp_hlo_within 𝒱 (SparseCore.T d) none Set.univ (op := opSlabs) (S := S7) hSlabs (V := V2 m d)) $$ [Hb Ha Hl Ht Hx Ho Hu Hr]
  · isplitl [Hb]; · iexact Hb
    rw [held_V2]
    isplitl [Ha]; · iexact Ha
    isplitl [Hl]; · iexact Hl
    isplitl [Ht]; · iexact Ht
    isplitl [Hx]; · iexact Hx
    isplitl [Ho]; · iexact Ho
    isplitl [Hu]; · iexact Hu
    iexact Hr
  iintro ⟨Hb, Hheld⟩
  rw [wp_ret]; imodintro
  iapply (wp_hlo_within 𝒱 (SparseCore.T d) none Set.univ (op := opBack) (S := S7) hBack (V := (opSlabs (F := F)).result (V2 m d))) $$ [Hb Hheld]
  · isplitl [Hb] <;> iassumption
  iintro ⟨Hb, Hheld⟩
  rw [wp_ret]; imodintro
  ihave Hh := (Entails.of_eq (held_V3 (F := F) m d)) $$ Hheld
  icases Hh with ⟨Ha, Hl, -, -, -, -, Hr⟩
  imodintro
  isplitl [Hst]; · iexact Hst
  isplitr [Hb Hts]
  · isplitl [Ha]; · iexact Ha
    isplitl [Hl]; · iexact Hl
    iexact Hr
  isplitl [Hb] <;> iassumption

/-- What the claims read of device `d`'s final memory. -/
def fq (d : Dev nD) (s' : Phys nD τ sig (Elt F)) : Prop :=
  s'.mem.mem (rLoc d) = result m d ∧ s'.mem.mem (aLoc d) = m (aLoc d) ∧ s'.mem.mem (lLoc d) = m (lLoc d)

set_option maxRecDepth 16384 in
theorem hfin (d : Dev nD) (s' : Phys nD τ sig (Elt F)) : iprop(FIN m d ∗ SI s') ⊢ (⌜fq m d s'⌝ : sProp 𝕄) := by
  iintro ⟨⟨Ha, Hl, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%hl, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => hr i (Finset.mem_univ i), funext fun i => ha i (Finset.mem_univ i), funext fun i => hl i (Finset.mem_univ i)⟩

/-! ## The run -/

/-- The program's end: on every device the result is the shuffled argument and the arguments are as they were, and every
    semaphore is at zero. -/
def QC : PUnit × MemSt nD τ sig (Elt F) → Prop := fun r =>
  (∀ c : Dev nD, r.2.mem (rLoc c) = result m c ∧ r.2.mem (aLoc c) = m (aLoc c) ∧ r.2.mem (lLoc c) = m (lLoc c)) ∧ r.2.sem = fun _ => 0

/-- Where every word of the list names a slab, every run of the program reaches that end. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Kernel.Tile
-- ==== Proof.Taken.lean ====
/- What the reference computes: the argument's frames in the order in which the index list names them. -/
module

public import proofs.«01_k».proof.Proof.Gen.ReferenceIdeal.Run
public import Idealize.ShloMosaic.Lib.ReduceAll
public import Idealize.ShloMosaic.Lib.ValueIdxCore
public import Idealize.ShloMosaic.Lib.Pipeline.Value

@[expose] public section

noncomputable section

namespace Cert.ReferenceIdeal.Taken

open Cert.ReferenceIdeal Cert.ReferenceIdeal.Gen Idealize.ShloMosaic Idealize.SL.Sem

variable {F : FTy → Type} [FloatOps F]

/-- The element of the argument that element `j` of the result is: the same in every axis but time, and there the frame
    that the list names at `j`'s. -/
def frameIdx (I : S32.Idx → BitVec 32) (j : S8x64x32x56x56.Idx) : S8x64x32x56x56.Idx
  | 0 => j 0
  | 1 => j 1
  | 2 => ⟨(I fun | 0 => j 2).toNat % 32, Nat.mod_lt _ (by decide)⟩
  | 3 => j 3
  | 4 => j 4

/-- The list with its negative words counted from the end. -/
def wrapped (I : IVec S32 32) : IVec S32 32 :=
  select (cmpi .slt I (broadcastInDim S32 ![] bcast_S_S32 (constantI S_ 32 0#32)))
    (addi I (broadcastInDim S32 ![] bcast_S_S32 (constantI S_ 32 32#32))) I

/-- The list as a column. -/
def column (I : IVec S32 32) : IVec S32x1 32 := broadcastInDim S32x1 ![0] bcast_S32_S32x1_0 I

/-- Which words of a column name a frame. -/
def inside (C : IVec S32x1 32) : IVec S32x1 1 :=
  andi (cmpi .sge C (broadcastInDim S32x1 ![] bcast_S_S32x1 (constantI S_ 32 0#32)))
    (cmpi .sle C (broadcastInDim S32x1 ![0, 1] bcast_S1x1_S32x1_0_1 (broadcastInDim S1x1 ![1] bcast_S1_S1x1_1 (constantI S1 32 31#32))))

/-- The reference's result, as its operations compose it. -/
def taken (x : FVec F S8x64x32x56x56 .f32) (I : IVec S32 32) : FVec F S8x64x32x56x56 .f32 :=
  select (broadcastInDim S8x64x32x56x56 ![2] bcast_S32_S8x64x32x56x56_2
      (Host.reduce IntOp.andi (inside (column (wrapped I))) (constantI S_ 1 1#1) reducesTo_S32x1_S32_d1 h_S_))
    (Host.gather gather_S8x64x32x56x56_S32x1_S8x64x32x56x56_0134_2_n_n_2_1_86415656 x (column (wrapped I)))
    (broadcastInDim S8x64x32x56x56 ![] bcast_S_S8x64x32x56x56 (constant S_ .f32 0x7FC00000#32))

/-- The run, with its result by that name. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = taken (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

/-- A word below 32 is not negative, and lies between 0 and 31 as a signed one. -/
theorem word_facts (v : BitVec 32) (h : v.toNat < 32) :
    IntOp.cmpi .slt v 0#32 = 0#1 ∧ IntOp.andi (IntOp.cmpi .sge v 0#32) (IntOp.cmpi .sle v 31#32) = 1#1 ∧ v.toInt.toNat = v.toNat := by
  have andi_ofBool (p q : Bool) : IntOp.andi (BitVec.ofBool p) (BitVec.ofBool q) = BitVec.ofBool (p && q) := by
    cases p <;> cases q <;> decide
  have one (p : Bool) : (BitVec.ofBool p = 1#1) ↔ p = true := by cases p <;> decide
  have zero (p : Bool) : (BitVec.ofBool p = 0#1) ↔ p = false := by cases p <;> decide
  simp only [IntOp.cmpi, andi_ofBool, one, zero, Bool.and_eq_true, BitVec.sle_eq_decide, BitVec.slt_eq_decide, decide_eq_true_eq,
    decide_eq_false_iff_not, BitVec.toInt_eq_toNat_cond, BitVec.toNat_ofNat, Nat.reducePow, Nat.reduceMod]
  omega

variable (x : FVec F S8x64x32x56x56 .f32) (I : IVec S32 32) (hI : ∀ j, (I j).toNat < 32)
include hI

theorem wrapped_eq : wrapped I = I := by
  funext j
  show Scalar.select (IntOp.cmpi .slt (I j) 0#32) _ (I j) = I j
  rw [(word_facts (I j) (hI j)).1]
  rfl

omit hI in
theorem column_apply (i : S32x1.Idx) : column I i = I fun | 0 => i 0 :=
  broadcastInDim_apply _ _ _ _ _ fun | 0 => rfl

theorem inside_one (i : S32x1.Idx) : inside (column I) i = 1#1 := by
  show IntOp.andi (IntOp.cmpi .sge (column I i) 0#32) (IntOp.cmpi .sle (column I i) 31#32) = 1#1
  rw [column_apply]
  exact (word_facts _ (hI _)).2.1

/-- The gather along the time axis, read at an index. -/
theorem gather_apply (j : S8x64x32x56x56.Idx) :
    Host.gather gather_S8x64x32x56x56_S32x1_S8x64x32x56x56_0134_2_n_n_2_1_86415656 x (column I) j = x (frameIdx I j) := by
  unfold Host.gather
  congr 1
  funext a
  refine Fin.ext ?_
  show GatherDims.start gather_S8x64x32x56x56_S32x1_S8x64x32x56x56_0134_2_n_n_2_1_86415656 j (column I) a
    + GatherDims.batchCoord gather_S8x64x32x56x56_S32x1_S8x64x32x56x56_0134_2_n_n_2_1_86415656 j a
    + GatherDims.offCoord gather_S8x64x32x56x56_S32x1_S8x64x32x56x56_0134_2_n_n_2_1_86415656 j a = _
  rw [GatherDims.batchCoord_eq_zero _ _ _ List.not_mem_nil]
  have hout : ∀ a : Fin 5, a ≠ 2 → GatherDims.start gather_S8x64x32x56x56_S32x1_S8x64x32x56x56_0134_2_n_n_2_1_86415656 j (column I) a = 0 :=
    fun a h => dif_neg fun hm => h (List.mem_singleton.mp hm)
  match a with
  | 0 => rw [hout 0 (by decide)]; exact (Nat.zero_add _).trans rfl
  | 1 => rw [hout 1 (by decide)]; exact (Nat.zero_add _).trans rfl
  | 3 => rw [hout 3 (by decide)]; exact (Nat.zero_add _).trans rfl
  | 4 => rw [hout 4 (by decide)]; exact (Nat.zero_add _).trans rfl
  | 2 =>
    rw [GatherDims.offCoord_eq_zero _ _ _ (fun h => ((GatherDims.mem_sKept _ _).mp h).1 (List.mem_singleton.mpr rfl))]
    unfold GatherDims.start
    rw [dif_pos (show (2 : Fin 5) ∈ GatherDims.startIndexMap gather_S8x64x32x56x56_S32x1_S8x64x32x56x56_0134_2_n_n_2_1_86415656 from List.mem_singleton.mpr rfl),
      column_apply]
    have e : ∀ i i' : S32.Idx, i = i' → min (I i).toInt.toNat (32 - 1) + 0 + 0 = (I i').toNat % 32 := by
      rintro i _ rfl
      have := hI i
      rw [(word_facts (I i) this).2.2]; omega
    exact e _ _ (by funext b; match b with | 0 => rfl)

/-- Where every word of the list names a frame, the reference's result is those frames. -/
theorem taken_apply (j : S8x64x32x56x56.Idx) : taken x I j = x (frameIdx I j) := by
  unfold taken
  rw [wrapped_eq I hI]
  show Scalar.select (Host.reduce IntOp.andi (inside (column I)) (constantI S_ 1 1#1) reducesTo_S32x1_S32_d1 h_S_ _) _ _ = _
  rw [Host.reduce_andi_one _ _ _ _ _ rfl (inside_one I hI)]
  exact gather_apply x I hI j

end Cert.ReferenceIdeal.Taken
-- ==== Proof.Outcome.lean ====
/- The kernel's result, element by element: the same frames of the argument as the reference's. -/
module

public import proofs.«01_k».proof.Proof.Launch
public import proofs.«01_k».proof.Proof.Taken
public import proofs.«01_k».proof.Proof.Gen.Pre_in_range

@[expose] public section

noncomputable section

namespace Cert.Kernel.Tile

open Cert.Kernel Cert.Kernel.Gen
open Idealize.ShloMosaic Idealize.SL.Sem
open Cert.ReferenceIdeal.Taken (frameIdx)

/-! ## The two layouts -/

section Layout

variable {α : Type}

/-- Row `(b·32 + t)·56 + h` of the rows' layout is line `h` of frame `t` of batch `b`. -/
def lineIdx (j : S8x64x32x56x56.Idx) : S14336x56x64.Idx
  | 0 => ⟨((j 0).val * 32 + (j 2).val) * 56 + (j 3).val, by
      have h0 : (j 0).val < 8 := (j 0).isLt
      have h2 : (j 2).val < 32 := (j 2).isLt
      have h3 : (j 3).val < 56 := (j 3).isLt
      show _ < 14336; omega⟩
  | 1 => j 4
  | 2 => j 1

/-- The same element with its channel last. -/
def lastIdx (j : S8x64x32x56x56.Idx) : S8x32x56x56x64.Idx
  | 0 => j 0
  | 1 => j 2
  | 2 => j 3
  | 3 => j 4
  | 4 => j 1

theorem position (j : S8x64x32x56x56.Idx) : (S14336x56x64.rowMajor (lineIdx j)).val = (S8x32x56x56x64.rowMajor (lastIdx j)).val := by
  rw [Shape.rowMajor_val_three, Shape.rowMajor_val_five]
  show ((((j 0).val * 32 + (j 2).val) * 56 + (j 3).val) * 56 + (j 4).val) * 64 + (j 1).val
    = ((((j 0).val * 32 + (j 2).val) * 56 + (j 3).val) * 56 + (j 4).val) * 64 + (j 1).val
  rfl

/-- Into rows. -/
theorem rows_apply (x : S8x64x32x56x56.Idx → α) (j : S8x64x32x56x56.Idx) :
    shapeCast S14336x56x64 (transpose S8x32x56x56x64 [0, 2, 3, 4, 1] x transposes_S8x64x32x56x56_S8x32x56x56x64_0_2_3_4_1)
      shapeCasts_S8x32x56x56x64_S14336x56x64 (lineIdx j) = x j :=
  (shapeCast_apply _ _ (lineIdx j) (lastIdx j) (position j).symm).trans <|
    transpose_apply _ x _ (lastIdx j) j fun | 0 => rfl | 1 => rfl | 2 => rfl | 3 => rfl | 4 => rfl

/-- And back. -/
theorem frames_apply (y : S14336x56x64.Idx → α) (j : S8x64x32x56x56.Idx) :
    transpose S8x64x32x56x56 [0, 4, 1, 2, 3] (shapeCast S8x32x56x56x64 y shapeCasts_S14336x56x64_S8x32x56x56x64)
      transposes_S8x32x56x56x64_S8x64x32x56x56_0_4_1_2_3 j = y (lineIdx j) :=
  (transpose_apply _ _ _ j (lastIdx j) fun | 0 => rfl | 1 => rfl | 2 => rfl | 3 => rfl | 4 => rfl).trans <|
    shapeCast_apply y _ (lastIdx j) (lineIdx j) (position j)

/-- The row that the list names for a line of the result is that line of the frame it names. -/
theorem srcIdx_line (I : S32.Idx → BitVec 32) (j : S8x64x32x56x56.Idx) : srcIdx I (lineIdx j) = lineIdx (frameIdx I j) := by
  have h2 : (j 2).val < 32 := (j 2).isLt
  have h3 : (j 3).val < 56 := (j 3).isLt
  funext a
  match a with
  | 1 => rfl
  | 2 => rfl
  | 0 =>
    refine Fin.ext ?_
    show ((((j 0).val * 32 + (j 2).val) * 56 + (j 3).val) / 56 / 32 * 32 + (I (lane ((((j 0).val * 32 + (j 2).val) * 56 + (j 3).val) / 56))).toNat % 32) * 56
        + (((j 0).val * 32 + (j 2).val) * 56 + (j 3).val) % 56
      = ((j 0).val * 32 + (I fun | 0 => j 2).toNat % 32) * 56 + (j 3).val
    have e : (((j 0).val * 32 + (j 2).val) * 56 + (j 3).val) / 56 = (j 0).val * 32 + (j 2).val := by omega
    have l : lane ((j 0).val * 32 + (j 2).val) = (fun | 0 => j 2 : S32.Idx) := by
      funext b
      match b with
      | 0 => exact Fin.ext (by show ((j 0).val * 32 + (j 2).val) % 32 = (j 2).val; omega)
    rw [e, l]
    omega

end Layout

variable {F : FTy → Type} [FloatOps F]
variable (m : (ℓ : Loc nD τ sig) → Buf (Elt F) ℓ)

/-- Every element of the result is the argument's element of the frame that the list names. -/
theorem result_apply (d : Dev nD) (j : S8x64x32x56x56.Idx) :
    result m d j = (m (aLoc d) : S8x64x32x56x56.Idx → Elt F .f32) (frameIdx (list m d) j) := by
  refine (frames_apply (final m d) j).trans ?_
  show source m d (srcIdx (list m d) (lineIdx j)) = _
  rw [srcIdx_line]
  exact rows_apply _ _

/-! ## The precondition -/

/-- The precondition's two comparisons of a word, read as a bound. -/
theorem bound_of_word (v : BitVec 32) (h : IntOp.andi (IntOp.cmpi .sge v 0#32) (IntOp.cmpi .slt v 32#32) = 1#1) : v.toNat < 32 := by
  have both (p q : Bool) : IntOp.andi (BitVec.ofBool p) (BitVec.ofBool q) = 1#1 ↔ p = true ∧ q = true := by
    cases p <;> cases q <;> decide
  simp only [IntOp.cmpi, both, BitVec.sle_eq_decide, BitVec.slt_eq_decide, decide_eq_true_eq, BitVec.toInt_eq_toNat_cond,
    BitVec.toNat_ofNat, Nat.reducePow, Nat.reduceMod] at h
  omega

instance : Subsingleton Cert.Pre_in_range.S_.Idx := ⟨fun _ _ => funext fun a => a.elim0⟩

/-- Where the precondition holds, every word of the list names a frame. -/
theorem bound_of_pre (x : FVec F S8x64x32x56x56 .f32) (I : S32.Idx → BitVec 32)
    (h : Cert.Pre_in_range.fn (F := F) x I = fun _ => 1#1) (j : S32.Idx) : (I j).toNat < 32 :=
  bound_of_word _ (Host.reduce_andi_all _ _ _ _ _ (congrFun h fun a => a.elim0) j)

end Cert.Kernel.Tile
-- ==== Proof.lean ====
/- The proof of the certificate's claim. The kernel's run (Proof/Launch.lean), read at the machine's numbers and at exact
   ones, gives both its frames; the reference's run gives its own; and the two results are the same frames of the
   argument (Proof/Outcome.lean, Proof/Taken.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Outcome
public import proofs.«01_k».proof.Proof.Gen.Pre_in_range
public import Idealize.ShloMosaic.Adequacy
public import Idealize.ShloMosaic.Init
public import Idealize.ShloMosaic.Lib.Quiescent

@[expose] public section

noncomputable section

namespace Cert.Proof

open Idealize.ShloMosaic Idealize.SL.Sem

/-! ## The kernel's run -/

/-- At the machine's numbers. -/
theorem kernel_run (m : (ℓ : Loc Cert.Kernel.nD Cert.Kernel.τ Cert.Kernel.sig) → Buf (Elt Bits) ℓ) (g : Dev Cert.Kernel.nD → PrngReg)
    (h : Cert.Pre_Kernel m) :
    θ_run (Cert.Kernel.defs (F := Bits)) (Cert.Kernel.threads (F := Bits)) ⟨m, fun _ => 0, g⟩ (Cert.Kernel.Tile.QC m) :=
  Cert.Kernel.Tile.run_main m g fun d => Cert.Kernel.Tile.bound_of_pre _ _ (h d)

/-- The list of every device, under the precondition at exact numbers. -/
theorem ideal_bound (m : (ℓ : Loc Cert.KernelIdeal.nD Cert.KernelIdeal.τ Cert.KernelIdeal.sig) → Buf (Elt Ideal) ℓ)
    (h : Cert.Pre_KernelIdeal m) : Cert.Kernel.Tile.PreOK (F := Ideal) m :=
  fun d => Cert.Kernel.Tile.bound_of_pre _ _ (h d)

set_option maxRecDepth 100000 in
/-- No operation was rewritten, so the program at exact numbers is the same one: its threads and its kernel's body. -/
theorem same_program : @Cert.KernelIdeal.threads Ideal _ = @Cert.Kernel.threads Ideal _ ∧ @Cert.KernelIdeal.defs Ideal _ = @Cert.Kernel.defs Ideal _ :=
  ⟨rfl, rfl⟩

/-- At exact numbers. -/
theorem ideal_run (m : (ℓ : Loc Cert.KernelIdeal.nD Cert.KernelIdeal.τ Cert.KernelIdeal.sig) → Buf (Elt Ideal) ℓ)
    (g : Dev Cert.KernelIdeal.nD → PrngReg) (h : Cert.Pre_KernelIdeal m) :
    θ_run (Cert.KernelIdeal.defs (F := Ideal)) (Cert.KernelIdeal.threads (F := Ideal)) ⟨m, fun _ => 0, g⟩ (Cert.Kernel.Tile.QC (F := Ideal) m) := by
  rw [same_program.1, same_program.2]
  exact Cert.Kernel.Tile.run_main (F := Ideal) m g (ideal_bound m h)

/-! ## The claims -/

theorem reference_frame : Cert.quiescent_ReferenceIdeal := fun m g _ =>
  (θ_run _ _ _).mono (fun r h => ⟨fun c => (h c).2, sem_eq_zero_of_no_sems (by decide) r.2⟩) (Cert.ReferenceIdeal.Taken.run m g)

theorem same : Cert.algebraic_KernelIdeal_ReferenceIdeal := fun m g m' g' hpre hagree => by
  refine ⟨Cert.Kernel.Tile.result (F := Ideal) m, (θ_run _ _ _).mono (fun r h => h.1) (ideal_run m g hpre), (θ_run _ _ _).mono (fun r h c => ⟨?_, (h c).2⟩) (Cert.ReferenceIdeal.Taken.run m' g')⟩
  refine (h c).1.trans ?_
  rw [(hagree c).1, (hagree c).2]
  exact funext fun j => (Cert.ReferenceIdeal.Taken.taken_apply _ _ (ideal_bound m hpre c) j).trans (Cert.Kernel.Tile.result_apply (F := Ideal) m c j).symm

theorem claim : Cert.Claim :=
  ⟨Cert.Kernel.Gen.facts, Cert.KernelIdeal.Gen.facts, Cert.ReferenceIdeal.Gen.facts, Cert.Pre_in_range.Gen.facts,
    fun m g h => (θ_run _ _ _).mono (fun r hr => ⟨fun c => (hr.1 c).2, hr.2⟩) (kernel_run m g h),
    fun m g h => (θ_run _ _ _).mono (fun r hr => ⟨fun c => (hr.1 c).2, hr.2⟩) (ideal_run m g h),
    reference_frame, fun m g _ => reference_frame m g trivial, trivial, same⟩

end Cert.Proof

end
